-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_logits [hPre_finite_logits : Cert.Pre_finite_logits.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_logits [hPre_finite_logits : Cert.Pre_finite_logits.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_logits.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_tokens [hPre_finite_tokens : Cert.Pre_finite_tokens.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_tokens.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_tokens [hPre_finite_tokens : Cert.Pre_finite_tokens.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_tokens.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_logits [hKernel3Ideal : Cert.Kernel3Ideal.Facts] [hPre_finite_logits : Cert.Pre_finite_logits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_logits m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_logits [hReference3Ideal : Cert.Reference3Ideal.Facts] [hPre_finite_logits : Cert.Pre_finite_logits.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_logits m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_tokens [hKernel4Ideal : Cert.Kernel4Ideal.Facts] [hPre_finite_tokens : Cert.Pre_finite_tokens.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_tokens m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_tokens [hReference4Ideal : Cert.Reference4Ideal.Facts] [hPre_finite_tokens : Cert.Pre_finite_tokens.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_tokens m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite_logits [hKernel3Ideal : Cert.Kernel3Ideal.Facts] [hReference3Ideal : Cert.Reference3Ideal.Facts] [hPre_finite_logits : Cert.Pre_finite_logits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_logits m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v59) = v1 c
          ∧ r.2.mem ((c.tc : Thread Cert.Reference3Ideal.nD Cert.Reference3Ideal.τ).loc Cert.Reference3Ideal.main_v61) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v65) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_tokens [hKernel4Ideal : Cert.Kernel4Ideal.Facts] [hReference4Ideal : Cert.Reference4Ideal.Facts] [hPre_finite_tokens : Cert.Pre_finite_tokens.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_tokens m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v44_0)) (v1 : (c : Dev Cert.Kernel4Ideal.nD) → Buf (Elt Ideal) ((c.tc : Thread Cert.Kernel4Ideal.nD Cert.Kernel4Ideal.τ).loc Cert.Kernel4Ideal.main_v44_1)) (v2 : (c : Dev Cert.Kernel4Ideal.nD) → Buf (Elt Ideal) ((c.tc : Thread Cert.Kernel4Ideal.nD Cert.Kernel4Ideal.τ).loc Cert.Kernel4Ideal.main_v44_2)) (v3 : (c : Dev Cert.Kernel4Ideal.nD) → Buf (Elt Ideal) ((c.tc : Thread Cert.Kernel4Ideal.nD Cert.Kernel4Ideal.τ).loc Cert.Kernel4Ideal.main_v44_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44_0) = v0 c
          ∧ r.2.mem ((c.tc : Thread Cert.Kernel4Ideal.nD Cert.Kernel4Ideal.τ).loc Cert.Kernel4Ideal.main_v44_1) = v1 c
          ∧ r.2.mem ((c.tc : Thread Cert.Kernel4Ideal.nD Cert.Kernel4Ideal.τ).loc Cert.Kernel4Ideal.main_v44_2) = v2 c
          ∧ r.2.mem ((c.tc : Thread Cert.Kernel4Ideal.nD Cert.Kernel4Ideal.τ).loc Cert.Kernel4Ideal.main_v44_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v91) = v2 c
          ∧ r.2.mem ((c.tc : Thread Cert.Reference4Ideal.nD Cert.Reference4Ideal.τ).loc Cert.Reference4Ideal.main_v93) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_and_keys : Cert.Pre_finite_queries_and_keys.Facts) (hPre_finite_logits : Cert.Pre_finite_logits.Facts) (hPre_finite_tokens : Cert.Pre_finite_tokens.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_logits (hKernel3Ideal := hKernel3Ideal) (hPre_finite_logits := hPre_finite_logits)
    ∧ quiescent_Reference3Ideal (hReference3Ideal := hReference3Ideal)
    ∧ quiescent_Reference3Ideal_pre_finite_logits (hReference3Ideal := hReference3Ideal) (hPre_finite_logits := hPre_finite_logits)
    ∧ quiescent_Kernel4 (hKernel4 := hKernel4)
    ∧ quiescent_Kernel4Ideal (hKernel4Ideal := hKernel4Ideal)
    ∧ quiescent_Kernel4Ideal_pre_finite_tokens (hKernel4Ideal := hKernel4Ideal) (hPre_finite_tokens := hPre_finite_tokens)
    ∧ quiescent_Reference4Ideal (hReference4Ideal := hReference4Ideal)
    ∧ quiescent_Reference4Ideal_pre_finite_tokens (hReference4Ideal := hReference4Ideal) (hPre_finite_tokens := hPre_finite_tokens)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_logits (hKernel3Ideal := hKernel3Ideal) (hReference3Ideal := hReference3Ideal) (hPre_finite_logits := hPre_finite_logits)
    ∧ preserves_Kernel4_Kernel4Ideal
    ∧ algebraic_Kernel4Ideal_Reference4Ideal_pre_finite_tokens (hKernel4Ideal := hKernel4Ideal) (hReference4Ideal := hReference4Ideal) (hPre_finite_tokens := hPre_finite_tokens)
-- ==== Pre_finite_logits.lean ====
abbrev S65536x1024 : Shape := ⟨2, ![65536, 1024]⟩
abbrev S1024x4096 : Shape := ⟨2, ![1024, 4096]⟩
abbrev S2x1024 : Shape := ⟨2, ![2, 1024]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S65536x1024 .f32) (main_arg1 : FVec F S1024x4096 .f32) (main_arg2 : FVec F S2x1024 .f32) : IVec S2x1024 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  main_v2
-- ==== Pre_finite_queries_and_keys.lean ====
abbrev S8x8x8192x256 : Shape := ⟨4, ![8, 8, 8192, 256]⟩
abbrev S8x8x8192x128 : Shape := ⟨4, ![8, 8, 8192, 128]⟩
abbrev S8x8192x128 : Shape := ⟨3, ![8, 8192, 128]⟩
abbrev S_ : Shape := ⟨0, ![]⟩
abbrev S1x8x8192x128 : Shape := ⟨4, ![1, 8, 8192, 128]⟩

class Facts : Prop where
  slices_S8x8x8192x256_S8x8x8192x128_0_0_0_0 : S8x8x8192x256.Slices ![0, 0, 0, 0] S8x8x8192x128
  bcast_S_S8x8x8192x128 : S_.BroadcastsInDim S8x8x8192x128 (![] : Fin 0 → Fin S8x8x8192x128.rank)
  slices_S8x8x8192x256_S8x8x8192x128_0_0_0_128 : S8x8x8192x256.Slices ![0, 0, 0, 128] S8x8x8192x128
  bcast_S_S8x8192x128 : S_.BroadcastsInDim S8x8192x128 (![] : Fin 0 → Fin S8x8192x128.rank)
  bcast_S8x8192x128_S1x8x8192x128_1_2_3 : S8x8192x128.BroadcastsInDim S1x8x8192x128 (![1, 2, 3] : Fin 3 → Fin S1x8x8192x128.rank)
  bcast_S1x8x8192x128_S8x8x8192x128_0_1_2_3 : S1x8x8192x128.BroadcastsInDim S8x8x8192x128 (![0, 1, 2, 3] : Fin 4 → Fin S8x8x8192x128.rank)

variable [Facts]

def fn {F : FTy → Type} [FloatOps F] (main_arg0 : FVec F S8x8x8192x256 .bf16) (main_arg1 : FVec F S8x8x8192x128 .bf16) (main_arg2 : FVec F S8x8192x128 .bf16) (main_arg3 : FVec F S8x8x8192x128 .bf16) : IVec S8x8x8192x128 1 :=
  let main_v0 : FVec F S8x8x8192x128 .bf16 := (extractStridedSlice S8x8x8192x128 ![0, 0, 0, 0] · slices_S8x8x8192x256_S8x8x8192x128_0_0_0_0) main_arg0
  let main_v1 : FVec F S8x8x8192x128 .bf16 := Host.absf main_v0
  let main_cst : FVec F S_ .bf16 := constant S_ .bf16 0x7F80#16
  let main_v2 : FVec F S8x8x8192x128 .bf16 := broadcastInDim S8x8x8192x128 ![] bcast_S_S8x8x8192x128 main_cst
  let main_v3 : IVec S8x8x8192x128 1 := cmpf .olt main_v1 main_v2
  let main_v4 : FVec F S8x8x8192x128 .bf16 := (extractStridedSlice S8x8x8192x128 ![0, 0, 0, 128] · slices_S8x8x8192x256_S8x8x8192x128_0_0_0_128) main_arg0
  let main_v5 : FVec F S8x8x8192x128 .bf16 := Host.absf main_v4
  let main_cst_0 : FVec F S_ .bf16 := constant S_ .bf16 0x7F80#16
  let main_v6 : FVec F S8x8x8192x128 .bf16 := broadcastInDim S8x8x8192x128 ![] bcast_S_S8x8x8192x128 main_cst_0
  let main_v7 : IVec S8x8x8192x128 1 := cmpf .olt main_v5 main_v6
  let main_v8 : IVec S8x8x8192x128 1 := andi main_v3 main_v7
  let main_v9 : FVec F S8x8x8192x128 .bf16 := Host.absf main_arg1
  let main_cst_1 : FVec F S_ .bf16 := constant S_ .bf16 0x7F80#16
  let main_v10 : FVec F S8x8x8192x128 .bf16 := broadcastInDim S8x8x8192x128 ![] bcast_S_S8x8x8192x128 main_cst_1
  let main_v11 : IVec S8x8x8192x128 1 := cmpf .olt main_v9 main_v10
  let main_v12 : IVec S8x8x8192x128 1 := andi main_v8 main_v11
  let main_v13 : FVec F S8x8192x128 .bf16 := Host.absf main_arg2
  let main_cst_2 : FVec F S_ .bf16 := constant S_ .bf16 0x7F80#16
  let main_v14 : FVec F S8x8192x128 .bf16 := broadcastInDim S8x8192x128 ![] bcast_S_S8x8192x128 main_cst_2
  let main_v15 : IVec S8x8192x128 1 := cmpf .olt main_v13 main_v14
  let main_v16 : IVec S1x8x8192x128 1 := broadcastInDim S1x8x8192x128 ![1, 2, 3] bcast_S8x8192x128_S1x8x8192x128_1_2_3 main_v15
  let main_v17 : IVec S8x8x8192x128 1 := broadcastInDim S8x8x8192x128 ![0, 1, 2, 3] bcast_S1x8x8192x128_S8x8x8192x128_0_1_2_3 main_v16
  let main_v18 : IVec S8x8x8192x128 1 := andi main_v12 main_v17
  main_v18
-- ==== Pre_finite_tokens.lean ====
abbrev S65536x1024 : Shape := ⟨2, ![65536, 1024]⟩
abbrev S1x65536 : Shape := ⟨2, ![1, 65536]⟩
abbrev S1024x576 : Shape := ⟨2, ![1024, 576]⟩
abbrev S256 : Shape := ⟨1, ![256]⟩
abbrev S256x1536 : Shape := ⟨2, ![256, 1536]⟩
abbrev S256x2048 : Shape := ⟨2, ![256, 2048]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x576 : S_.BroadcastsInDim S1024x576 (![] : Fin 0 → Fin S1024x576.rank)
  reducesTo_S1024x576_S_d0_1 : S1024x576.ReducesTo [0, 1] S_
  bcast_S_S256 : S_.BroadcastsInDim S256 (![] : Fin 0 → Fin S256.rank)
  reducesTo_S256_S_d0 : S256.ReducesTo [0] S_
  bcast_S_S256x1536 : S_.BroadcastsInDim S256x1536 (![] : Fin 0 → Fin S256x1536.rank)
  reducesTo_S256x1536_S_d0_1 : S256x1536.ReducesTo [0, 1] S_

variable [Facts]

def fn_part1 {F : FTy → Type} [FloatOps F] (main_v13 : IVec S_ 1) (main_v16 : IVec S256x1536 1) : IVec S_ 1 :=
  let main_c_5 : IVec S_ 1 := constantI S_ 1 1#1
  let main_v17 : IVec S_ 1 := (fun x v => Host.reduce IntOp.andi x v reducesTo_S256x1536_S_d0_1 h_S_) main_v16 main_c_5
  let main_v18 : IVec S_ 1 := andi main_v13 main_v17
  main_v18

def fn {F : FTy → Type} [FloatOps F] (main_arg0 : FVec F S65536x1024 .f32) (main_arg1 : FVec F S1x65536 .f32) (main_arg2 : FVec F S1024x576 .f32) (main_arg3 : FVec F S256 .f32) (main_arg4 : FVec F S256 .f32) (main_arg5 : FVec F S256x1536 .f32) (main_arg6 : FVec F S256x2048 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x576 .f32 := Host.absf main_arg2
  let main_cst_0 : FVec F S_ .f32 := constant S_ .f32 0x7F800000#32
  let main_v5 : FVec F S1024x576 .f32 := broadcastInDim S1024x576 ![] bcast_S_S1024x576 main_cst_0
  let main_v6 : IVec S1024x576 1 := cmpf .olt main_v4 main_v5
  let main_c_1 : IVec S_ 1 := constantI S_ 1 1#1
  let main_v7 : IVec S_ 1 := (fun x v => Host.reduce IntOp.andi x v reducesTo_S1024x576_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1536 .f32 := Host.absf main_arg5
  let main_cst_4 : FVec F S_ .f32 := constant S_ .f32 0x7F800000#32
  let main_v15 : FVec F S256x1536 .f32 := broadcastInDim S256x1536 ![] bcast_S_S256x1536 main_cst_4
  let main_v16 : IVec S256x1536 1 := cmpf .olt main_v14 main_v15
  fn_part1 (F := F) main_v13 main_v16
-- ==== Kernel.lean ====
abbrev S8x8x8192x256 : Shape := ⟨4, ![8, 8, 8192, 256]⟩
abbrev S8x8x8192x128 : Shape := ⟨4, ![8, 8, 8192, 128]⟩
abbrev S8x8192x128 : Shape := ⟨3, ![8, 8192, 128]⟩
abbrev S1x1x4096x256 : Shape := ⟨4, ![1, 1, 4096, 256]⟩
abbrev S1x1x8192x128 : Shape := ⟨4, ![1, 1, 8192, 128]⟩
abbrev S1x8192x128 : Shape := ⟨3, ![1, 8192, 128]⟩
abbrev S1x1x4096x128 : Shape := ⟨4, ![1, 1, 4096, 128]⟩
abbrev S4096x128 : Shape := ⟨2, ![4096, 128]⟩
abbrev S4096x256 : Shape := ⟨2, ![4096, 256]⟩
abbrev S1x1x256x128 : Shape := ⟨4, ![1, 1, 256, 128]⟩
abbrev S256x128 : Shape := ⟨2, ![256, 128]⟩
abbrev S1x256x128 : Shape := ⟨3, ![1, 256, 128]⟩
abbrev S256x256 : Shape := ⟨2, ![256, 256]⟩
abbrev S4096 : Shape := ⟨1, ![4096]⟩
abbrev S4096x1 : Shape := ⟨2, ![4096, 1]⟩
abbrev S3840x256 : Shape := ⟨2, ![3840, 256]⟩
abbrev S1x1x3840x256 : Shape := ⟨4, ![1, 1, 3840, 256]⟩
abbrev S3584x256 : Shape := ⟨2, ![3584, 256]⟩
abbrev S3840x128 : Shape := ⟨2, ![3840, 128]⟩
abbrev S3840 : Shape := ⟨1, ![3840]⟩
abbrev S3840x1 : Shape := ⟨2, ![3840, 1]⟩
abbrev S1x1x3584x256 : Shape := ⟨4, ![1, 1, 3584, 256]⟩
abbrev S3328x256 : Shape := ⟨2, ![3328, 256]⟩
abbrev S3584x128 : Shape := ⟨2, ![3584, 128]⟩
abbrev S3584 : Shape := ⟨1, ![3584]⟩
abbrev S3584x1 : Shape := ⟨2, ![3584, 1]⟩
abbrev S1x1x3328x256 : Shape := ⟨4, ![1, 1, 3328, 256]⟩
abbrev S3072x256 : Shape := ⟨2, ![3072, 256]⟩
abbrev S3328x128 : Shape := ⟨2, ![3328, 128]⟩
abbrev S3328 : Shape := ⟨1, ![3328]⟩
abbrev S3328x1 : Shape := ⟨2, ![3328, 1]⟩
abbrev S1x1x3072x256 : Shape := ⟨4, ![1, 1, 3072, 256]⟩
abbrev S2816x256 : Shape := ⟨2, ![2816, 256]⟩
abbrev S3072x128 : Shape := ⟨2, ![3072, 128]⟩
abbrev S3072 : Shape := ⟨1, ![3072]⟩
abbrev S3072x1 : Shape := ⟨2, ![3072, 1]⟩
abbrev S1x1x2816x256 : Shape := ⟨4, ![1, 1, 2816, 256]⟩
abbrev S2560x256 : Shape := ⟨2, ![2560, 256]⟩
abbrev S2816x128 : Shape := ⟨2, ![2816, 128]⟩
abbrev S2816 : Shape := ⟨1, ![2816]⟩
abbrev S2816x1 : Shape := ⟨2, ![2816, 1]⟩
abbrev S1x1x2560x256 : Shape := ⟨4, ![1, 1, 2560, 256]⟩
abbrev S2304x256 : Shape := ⟨2, ![2304, 256]⟩
abbrev S2560x128 : Shape := ⟨2, ![2560, 128]⟩
abbrev S2560 : Shape := ⟨1, ![2560]⟩
abbrev S2560x1 : Shape := ⟨2, ![2560, 1]⟩
abbrev S1x1x2304x256 : Shape := ⟨4, ![1, 1, 2304, 256]⟩
abbrev S2048x256 : Shape := ⟨2, ![2048, 256]⟩
abbrev S2304x128 : Shape := ⟨2, ![2304, 128]⟩
abbrev S2304 : Shape := ⟨1, ![2304]⟩
abbrev S2304x1 : Shape := ⟨2, ![2304, 1]⟩
abbrev S1x1x2048x256 : Shape := ⟨4, ![1, 1, 2048, 256]⟩
abbrev S1792x256 : Shape := ⟨2, ![1792, 256]⟩
abbrev S2048x128 : Shape := ⟨2, ![2048, 128]⟩
abbrev S2048 : Shape := ⟨1, ![2048]⟩
abbrev S2048x1 : Shape := ⟨2, ![2048, 1]⟩
abbrev S1x1x1792x256 : Shape := ⟨4, ![1, 1, 1792, 256]⟩
abbrev S1536x256 : Shape := ⟨2, ![1536, 256]⟩
abbrev S1792x128 : Shape := ⟨2, ![1792, 128]⟩
abbrev S1792 : Shape := ⟨1, ![1792]⟩
abbrev S1792x1 : Shape := ⟨2, ![1792, 1]⟩
abbrev S1x1x1536x256 : Shape := ⟨4, ![1, 1, 1536, 256]⟩
abbrev S1280x256 : Shape := ⟨2, ![1280, 256]⟩
abbrev S1536x128 : Shape := ⟨2, ![1536, 128]⟩
abbrev S1536 : Shape := ⟨1, ![1536]⟩
abbrev S1536x1 : Shape := ⟨2, ![1536, 1]⟩
abbrev S1x1x1280x256 : Shape := ⟨4, ![1, 1, 1280, 256]⟩
abbrev S1024x256 : Shape := ⟨2, ![1024, 256]⟩
abbrev S1280x128 : Shape := ⟨2, ![1280, 128]⟩
abbrev S1280 : Shape := ⟨1, ![1280]⟩
abbrev S1280x1 : Shape := ⟨2, ![1280, 1]⟩
abbrev S1x1x1024x256 : Shape := ⟨4, ![1, 1, 1024, 256]⟩
abbrev S768x256 : Shape := ⟨2, ![768, 256]⟩
abbrev S1024x128 : Shape := ⟨2, ![1024, 128]⟩
abbrev S1024 : Shape := ⟨1, ![1024]⟩
abbrev S1024x1 : Shape := ⟨2, ![1024, 1]⟩
abbrev S1x1x768x256 : Shape := ⟨4, ![1, 1, 768, 256]⟩
abbrev S512x256 : Shape := ⟨2, ![512, 256]⟩
abbrev S768x128 : Shape := ⟨2, ![768, 128]⟩
abbrev S768 : Shape := ⟨1, ![768]⟩
abbrev S768x1 : Shape := ⟨2, ![768, 1]⟩
abbrev S1x1x512x256 : Shape := ⟨4, ![1, 1, 512, 256]⟩
abbrev S512x128 : Shape := ⟨2, ![512, 128]⟩
abbrev S512 : Shape := ⟨1, ![512]⟩
abbrev S512x1 : Shape := ⟨2, ![512, 1]⟩
abbrev S1x1x256x256 : Shape := ⟨4, ![1, 1, 256, 256]⟩
abbrev S256 : Shape := ⟨1, ![256]⟩
abbrev S256x1 : Shape := ⟨2, ![256, 1]⟩

abbrev nBuf : Space → Nat
  | .hbm => 5
  | .vmem => 12
  | .smem => 0
  | _ => 0

abbrev bufTy : (tb : Table) → Fin (tcTables nBuf tb) → BufTy
  | .hbm, ⟨0, _⟩ => ⟨S8x8x8192x256, .bf16⟩
  | .hbm, ⟨1, _⟩ => ⟨S8x8x8192x128, .bf16⟩
  | .hbm, ⟨2, _⟩ => ⟨S8x8192x128, .bf16⟩
  | .hbm, ⟨3, _⟩ => ⟨S8x8x8192x128, .bf16⟩
  | .hbm, ⟨4, _⟩ => ⟨S8x8x8192x128, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x8192x128, .bf16⟩
  | .local _ .vmem, ⟨3, _⟩ => ⟨S1x1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S4096x128, .f32⟩
  | .local _ .vmem, ⟨11, _⟩ => ⟨S4096x256, .f32⟩
  | _, _ => ⟨S8x8x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 2], ![false, false, false]⟩

@[reducible] def k0_t1_loop (i : grid0.Coords) : Scf.Loop 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult1 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c0_i32_400 : BitVec 32 := 0#32
  let v772 : BitVec 32 := Scalar.addi v771 c0_i32_400
  v772
def k0_off1 (i : grid0.Coords) (k0_t1 : Fin (k0_t1_loop i).trips) (c0_i32_400 : BitVec 32) : Fin 4 → Nat :=
  let c0_401 : Index := 0#32
  let c0_402 : Index := 0#32
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let v772 : BitVec 32 := Scalar.addi v771 c0_i32_400
  let v773 : BitVec 32 := v772
  let v774 : Index := Scalar.indexCast v773
  let c0_403 : Index := 0#32
  ![0, 0, v774.toNat, 0]
def k0_off2 (i : grid0.Coords) (k0_t1 : Fin (k0_t1_loop i).trips) (c0_i32_400 : BitVec 32) : Fin 3 → Nat :=
  let c0_404 : Index := 0#32
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let v772 : BitVec 32 := Scalar.addi v771 c0_i32_400
  let v773 : BitVec 32 := v772
  let v777 : Index := Scalar.indexCast v773
  let c0_405 : Index := 0#32
  ![0, v777.toNat, 0]
def k0_mult2 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c256_i32_425 : BitVec 32 := 256#32
  let v811 : BitVec 32 := Scalar.addi v771 c256_i32_425
  v811
def k0_mult3 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c512_i32_450 : BitVec 32 := 512#32
  let v850 : BitVec 32 := Scalar.addi v771 c512_i32_450
  v850
def k0_mult4 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c768_i32_475 : BitVec 32 := 768#32
  let v889 : BitVec 32 := Scalar.addi v771 c768_i32_475
  v889
def k0_mult5 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c1024_i32_500 : BitVec 32 := 1024#32
  let v928 : BitVec 32 := Scalar.addi v771 c1024_i32_500
  v928
def k0_mult6 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c1280_i32_525 : BitVec 32 := 1280#32
  let v967 : BitVec 32 := Scalar.addi v771 c1280_i32_525
  v967
def k0_mult7 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c1536_i32_550 : BitVec 32 := 1536#32
  let v1006 : BitVec 32 := Scalar.addi v771 c1536_i32_550
  v1006
def k0_mult8 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c1792_i32_575 : BitVec 32 := 1792#32
  let v1045 : BitVec 32 := Scalar.addi v771 c1792_i32_575
  v1045
def k0_mult9 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c2048_i32_600 : BitVec 32 := 2048#32
  let v1084 : BitVec 32 := Scalar.addi v771 c2048_i32_600
  v1084
def k0_mult10 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c2304_i32_625 : BitVec 32 := 2304#32
  let v1123 : BitVec 32 := Scalar.addi v771 c2304_i32_625
  v1123
def k0_mult11 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c2560_i32_650 : BitVec 32 := 2560#32
  let v1162 : BitVec 32 := Scalar.addi v771 c2560_i32_650
  v1162
def k0_mult12 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c2816_i32_675 : BitVec 32 := 2816#32
  let v1201 : BitVec 32 := Scalar.addi v771 c2816_i32_675
  v1201
def k0_mult13 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c3072_i32_700 : BitVec 32 := 3072#32
  let v1240 : BitVec 32 := Scalar.addi v771 c3072_i32_700
  v1240
def k0_mult14 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c3328_i32_725 : BitVec 32 := 3328#32
  let v1279 : BitVec 32 := Scalar.addi v771 c3328_i32_725
  v1279
def k0_mult15 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c3584_i32_750 : BitVec 32 := 3584#32
  let v1318 : BitVec 32 := Scalar.addi v771 c3584_i32_750
  v1318
def k0_mult16 (i : grid0.Coords) (k0_t1 : Fin (k0_t1_loop i).trips) : BitVec 32 :=
  let c0_i32_4 : BitVec 32 := 0#32
  let c1_i32_5 : BitVec 32 := 1#32
  let arg10 : BitVec 32 := Scf.iv c0_i32_4 c1_i32_5 k0_t1
  let c4096_i32_399 : BitVec 32 := 4096#32
  let v771 : BitVec 32 := Scalar.muli arg10 c4096_i32_399
  let c3840_i32_775 : BitVec 32 := 3840#32
  let v1357 : BitVec 32 := Scalar.addi v771 c3840_i32_775
  v1357
@[reducible] def k0_t2_loop (i : grid0.Coords) : Scf.Loop 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult17 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c0_i32_400 : BitVec 32 := 0#32
  let v772 : BitVec 32 := Scalar.addi v771 c0_i32_400
  v772
def k0_off3 (i : grid0.Coords) (k0_t2 : Fin (k0_t2_loop i).trips) (c0_i32_400 : BitVec 32) : Fin 4 → Nat :=
  let c0_401 : Index := 0#32
  let c0_402 : Index := 0#32
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let v772 : BitVec 32 := Scalar.addi v771 c0_i32_400
  let v773 : BitVec 32 := v772
  let v774 : Index := Scalar.indexCast v773
  let c0_403 : Index := 0#32
  ![0, 0, v774.toNat, 0]
def k0_off4 (i : grid0.Coords) (k0_t2 : Fin (k0_t2_loop i).trips) (c0_i32_400 : BitVec 32) : Fin 3 → Nat :=
  let c0_404 : Index := 0#32
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let v772 : BitVec 32 := Scalar.addi v771 c0_i32_400
  let v773 : BitVec 32 := v772
  let v777 : Index := Scalar.indexCast v773
  let c0_405 : Index := 0#32
  ![0, v777.toNat, 0]
def k0_mult18 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c256_i32_425 : BitVec 32 := 256#32
  let v811 : BitVec 32 := Scalar.addi v771 c256_i32_425
  v811
def k0_mult19 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c512_i32_450 : BitVec 32 := 512#32
  let v850 : BitVec 32 := Scalar.addi v771 c512_i32_450
  v850
def k0_mult20 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c768_i32_475 : BitVec 32 := 768#32
  let v889 : BitVec 32 := Scalar.addi v771 c768_i32_475
  v889
def k0_mult21 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c1024_i32_500 : BitVec 32 := 1024#32
  let v928 : BitVec 32 := Scalar.addi v771 c1024_i32_500
  v928
def k0_mult22 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c1280_i32_525 : BitVec 32 := 1280#32
  let v967 : BitVec 32 := Scalar.addi v771 c1280_i32_525
  v967
def k0_mult23 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c1536_i32_550 : BitVec 32 := 1536#32
  let v1006 : BitVec 32 := Scalar.addi v771 c1536_i32_550
  v1006
def k0_mult24 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c1792_i32_575 : BitVec 32 := 1792#32
  let v1045 : BitVec 32 := Scalar.addi v771 c1792_i32_575
  v1045
def k0_mult25 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c2048_i32_600 : BitVec 32 := 2048#32
  let v1084 : BitVec 32 := Scalar.addi v771 c2048_i32_600
  v1084
def k0_mult26 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c2304_i32_625 : BitVec 32 := 2304#32
  let v1123 : BitVec 32 := Scalar.addi v771 c2304_i32_625
  v1123
def k0_mult27 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c2560_i32_650 : BitVec 32 := 2560#32
  let v1162 : BitVec 32 := Scalar.addi v771 c2560_i32_650
  v1162
def k0_mult28 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c2816_i32_675 : BitVec 32 := 2816#32
  let v1201 : BitVec 32 := Scalar.addi v771 c2816_i32_675
  v1201
def k0_mult29 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c3072_i32_700 : BitVec 32 := 3072#32
  let v1240 : BitVec 32 := Scalar.addi v771 c3072_i32_700
  v1240
def k0_mult30 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c3328_i32_725 : BitVec 32 := 3328#32
  let v1279 : BitVec 32 := Scalar.addi v771 c3328_i32_725
  v1279
def k0_mult31 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c3584_i32_750 : BitVec 32 := 3584#32
  let v1318 : BitVec 32 := Scalar.addi v771 c3584_i32_750
  v1318
def k0_mult32 (i : grid0.Coords) (k0_t2 : Fin (k0_t2_loop i).trips) : BitVec 32 :=
  let c0_i32_4 : BitVec 32 := 0#32
  let arg2 : BitVec 32 := BitVec.ofNat 32 (i 2).val
  let v8 : BitVec 32 := Scalar.subi arg2 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg10 : BitVec 32 := Scf.iv v12 c1_i32_6 k0_t2
  let c4096_i32_399 : BitVec 32 := 4096#32
  let v771 : BitVec 32 := Scalar.muli arg10 c4096_i32_399
  let c3840_i32_775 : BitVec 32 := 3840#32
  let v1357 : BitVec 32 := Scalar.addi v771 c3840_i32_775
  v1357
def k0_mult33 (i : grid0.Coords) : BitVec 32 :=
  let arg2 : BitVec 32 := BitVec.ofNat 32 (i 2).val
  let c4096_i32 : BitVec 32 := 4096#32
  let v13 : BitVec 32 := Scalar.muli arg2 c4096_i32
  let c0_i32_7 : BitVec 32 := 0#32
  let v14 : BitVec 32 := Scalar.addi v13 c0_i32_7
  v14
def k0_off5 (i : grid0.Coords) (c0_i32_7 : BitVec 32) : Fin 4 → Nat :=
  let c0_8 : Index := 0#32
  let c0_9 : Index := 0#32
  let arg2 : BitVec 32 := BitVec.ofNat 32 (i 2).val
  let c4096_i32 : BitVec 32 := 4096#32
  let v13 : BitVec 32 := Scalar.muli arg2 c4096_i32
  let v14 : BitVec 32 := Scalar.addi v13 c0_i32_7
  let v15 : BitVec 32 := v14
  let v16 : Index := Scalar.indexCast v15
  let c0_10 : Index := 0#32
  ![0, 0, v16.toNat, 0]
def k0_off6 (i : grid0.Coords) (c0_i32_7 : BitVec 32) : Fin 3 → Nat :=
  let c0_11 : Index := 0#32
  let arg2 : BitVec 32 := BitVec.ofNat 32 (i 2).val
  let c4096_i32 : BitVec 32 := 4096#32
  let v13 : BitVec 32 := Scalar.muli arg2 c4096_i32
  let v14 : BitVec 32 := Scalar.addi v13 c0_i32_7
  let v15 : BitVec 32 := v14
  let v19 : Index := Scalar.indexCast v15
  let c0_12 : Index := 0#32
  ![0, v19.toNat, 0]
def k0_mult34 (i : grid0.Coords) : BitVec 32 :=
  let arg2 : BitVec 32 := BitVec.ofNat 32 (i 2).val
  let c4096_i32 : BitVec 32 := 4096#32
  let v13 : BitVec 32 := Scalar.muli arg2 c4096_i32
  let c256_i32 : BitVec 32 := 256#32
  let v61 : BitVec 32 := Scalar.addi v13 c256_i32
  v61
def k0_mult35 (i : grid0.Coords) : BitVec 32 :=
  let arg2 : BitVec 32 := BitVec.ofNat 32 (i 2).val
  let c4096_i32 : BitVec 32 := 4096#32
  let v13 : BitVec 32 := Scalar.muli arg2 c4096_i32
  let c512_i32 : BitVec 32 := 512#32
  let v108 : BitVec 32 := Scalar.addi v13 c512_i32
  v108
def k0_mult36 (i : grid0.Coords) : BitVec 32 :=
  let arg2 : BitVec 32 := BitVec.ofNat 32 (i 2).val
  let c4096_i32 : BitVec 32 := 4096#32
  let v13 : BitVec 32 := Scalar.muli arg2 c4096_i32
  let c768_i32 : BitVec 32 := 768#32
  let v155 : BitVec 32 := Scalar.addi v13 c768_i32
  v155
def k0_mult37 (i : grid0.Coords) : BitVec 32 :=
  let arg2 : BitVec 32 := BitVec.ofNat 32 (i 2).val
  let c4096_i32 : BitVec 32 := 4096#32
  let v13 : BitVec 32 := Scalar.muli arg2 c4096_i32
  let c1024_i32 : BitVec 32 := 1024#32
  let v202 : BitVec 32 := Scalar.addi v13 c1024_i32
  v202
def k0_mult38 (i : grid0.Coords) : BitVec 32 :=
  let arg2 : BitVec 32 := BitVec.ofNat 32 (i 2).val
  let c4096_i32 : BitVec 32 := 4096#32
  let v13 : BitVec 32 := Scalar.muli arg2 c4096_i32
  let c1280_i32 : BitVec 32 := 1280#32
  let v249 : BitVec 32 := Scalar.addi v13 c1280_i32
  v249
def k0_mult39 (i : grid0.Coords) : BitVec 32 :=
  let arg2 : BitVec 32 := BitVec.ofNat 32 (i 2).val
  let c4096_i32 : BitVec 32 := 4096#32
  let v13 : BitVec 32 := Scalar.muli arg2 c4096_i32
  let c1536_i32 : BitVec 32 := 1536#32
  let v296 : BitVec 32 := Scalar.addi v13 c1536_i32
  v296
def k0_mult40 (i : grid0.Coords) : BitVec 32 :=
  let arg2 : BitVec 32 := BitVec.ofNat 32 (i 2).val
  let c4096_i32 : BitVec 32 := 4096#32
  let v13 : BitVec 32 := Scalar.muli arg2 c4096_i32
  let c1792_i32 : BitVec 32 := 1792#32
  let v343 : BitVec 32 := Scalar.addi v13 c1792_i32
  v343
def k0_mult41 (i : grid0.Coords) : BitVec 32 :=
  let arg2 : BitVec 32 := BitVec.ofNat 32 (i 2).val
  let c4096_i32 : BitVec 32 := 4096#32
  let v13 : BitVec 32 := Scalar.muli arg2 c4096_i32
  let c2048_i32 : BitVec 32 := 2048#32
  let v390 : BitVec 32 := Scalar.addi v13 c2048_i32
  v390
def k0_mult42 (i : grid0.Coords) : BitVec 32 :=
  let arg2 : BitVec 32 := BitVec.ofNat 32 (i 2).val
  let c4096_i32 : BitVec 32 := 4096#32
  let v13 : BitVec 32 := Scalar.muli arg2 c4096_i32
  let c2304_i32 : BitVec 32 := 2304#32
  let v437 : BitVec 32 := Scalar.addi v13 c2304_i32
  v437
def k0_mult43 (i : grid0.Coords) : BitVec 32 :=
  let arg2 : BitVec 32 := BitVec.ofNat 32 (i 2).val
  let c4096_i32 : BitVec 32 := 4096#32
  let v13 : BitVec 32 := Scalar.muli arg2 c4096_i32
  let c2560_i32 : BitVec 32 := 2560#32
  let v484 : BitVec 32 := Scalar.addi v13 c2560_i32
  v484
def k0_mult44 (i : grid0.Coords) : BitVec 32 :=
  let arg2 : BitVec 32 := BitVec.ofNat 32 (i 2).val
  let c4096_i32 : BitVec 32 := 4096#32
  let v13 : BitVec 32 := Scalar.muli arg2 c4096_i32
  let c2816_i32 : BitVec 32 := 2816#32
  let v531 : BitVec 32 := Scalar.addi v13 c2816_i32
  v531
def k0_mult45 (i : grid0.Coords) : BitVec 32 :=
  let arg2 : BitVec 32 := BitVec.ofNat 32 (i 2).val
  let c4096_i32 : BitVec 32 := 4096#32
  let v13 : BitVec 32 := Scalar.muli arg2 c4096_i32
  let c3072_i32 : BitVec 32 := 3072#32
  let v578 : BitVec 32 := Scalar.addi v13 c3072_i32
  v578
def k0_mult46 (i : grid0.Coords) : BitVec 32 :=
  let arg2 : BitVec 32 := BitVec.ofNat 32 (i 2).val
  let c4096_i32 : BitVec 32 := 4096#32
  let v13 : BitVec 32 := Scalar.muli arg2 c4096_i32
  let c3328_i32 : BitVec 32 := 3328#32
  let v625 : BitVec 32 := Scalar.addi v13 c3328_i32
  v625
def k0_mult47 (i : grid0.Coords) : BitVec 32 :=
  let arg2 : BitVec 32 := BitVec.ofNat 32 (i 2).val
  let c4096_i32 : BitVec 32 := 4096#32
  let v13 : BitVec 32 := Scalar.muli arg2 c4096_i32
  let c3584_i32 : BitVec 32 := 3584#32
  let v672 : BitVec 32 := Scalar.addi v13 c3584_i32
  v672
def k0_mult48 (i : grid0.Coords) : BitVec 32 :=
  let arg2 : BitVec 32 := BitVec.ofNat 32 (i 2).val
  let c4096_i32 : BitVec 32 := 4096#32
  let v13 : BitVec 32 := Scalar.muli arg2 c4096_i32
  let c3840_i32 : BitVec 32 := 3840#32
  let v719 : BitVec 32 := Scalar.addi v13 c3840_i32
  v719
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8x8192x256 : Shape := ⟨4, ![8, 8, 8192, 256]⟩
abbrev S8x8x8192x128 : Shape := ⟨4, ![8, 8, 8192, 128]⟩
abbrev S8x8192x128 : Shape := ⟨3, ![8, 8192, 128]⟩
abbrev S8x8x8192x8192 : Shape := ⟨4, ![8, 8, 8192, 8192]⟩
abbrev S8x8192x8x8192 : Shape := ⟨4, ![8, 8192, 8, 8192]⟩
abbrev S_ : Shape := ⟨0, ![]⟩
abbrev S8192 : Shape := ⟨1, ![8192]⟩
abbrev S1x1x1x8192 : Shape := ⟨4, ![1, 1, 1, 8192]⟩
abbrev S1x1x8192x1 : Shape := ⟨4, ![1, 1, 8192, 1]⟩
abbrev S1x1x8192x8192 : Shape := ⟨4, ![1, 1, 8192, 8192]⟩
abbrev S8x8x8192 : Shape := ⟨3, ![8, 8, 8192]⟩
abbrev S8x8x8192x1 : Shape := ⟨4, ![8, 8, 8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x8x8192x256, .bf16⟩
  | .hbm, ⟨1, _⟩ => ⟨S8x8x8192x128, .bf16⟩
  | .hbm, ⟨2, _⟩ => ⟨S8x8192x128, .bf16⟩
  | .hbm, ⟨3, _⟩ => ⟨S8x8x8192x128, .bf16⟩
  | .hbm, ⟨4, _⟩ => ⟨S8x8x8192x256, .f32⟩
  | .hbm, ⟨5, _⟩ => ⟨S8x8x8192x128, .f32⟩
  | .hbm, ⟨6, _⟩ => ⟨S8x8192x128, .f32⟩
  | .hbm, ⟨7, _⟩ => ⟨S8x8x8192x128, .f32⟩
  | .hbm, ⟨8, _⟩ => ⟨S8x8x8192x128, .f32⟩
  | .hbm, ⟨9, _⟩ => ⟨S8x8x8192x8192, .f32⟩
  | .hbm, ⟨10, _⟩ => ⟨S8x8x8192x128, .f32⟩
  | .hbm, ⟨11, _⟩ => ⟨S8x8192x8x8192, .f32⟩
  | .hbm, ⟨12, _⟩ => ⟨S8x8x8192x8192, .f32⟩
  | .hbm, ⟨13, _⟩ => ⟨S8x8x8192x8192, .f32⟩
  | .hbm, ⟨14, _⟩ => ⟨S_, .f32⟩
  | .hbm, ⟨15, _⟩ => ⟨S_, .f32⟩
  | .hbm, ⟨16, _⟩ => ⟨S8x8x8192x8192, .f32⟩
  | .hbm, ⟨17, _⟩ => ⟨S8x8x8192x8192, .f32⟩
  | .hbm, ⟨18, _⟩ => ⟨S8192, .i32⟩
  | .hbm, ⟨19, _⟩ => ⟨S1x1x1x8192, .i32⟩
  | .hbm, ⟨20, _⟩ => ⟨S1x1x8192x1, .i32⟩
  | .hbm, ⟨21, _⟩ => ⟨S1x1x8192x8192, .i32⟩
  | .hbm, ⟨22, _⟩ => ⟨S1x1x8192x8192, .i32⟩
  | .hbm, ⟨23, _⟩ => ⟨S1x1x8192x8192, .i1⟩
  | .hbm, ⟨24, _⟩ => ⟨S_, .f32⟩
  | .hbm, ⟨25, _⟩ => ⟨S_, .f32⟩
  | .hbm, ⟨26, _⟩ => ⟨S8x8x8192x8192, .i1⟩
  | .hbm, ⟨27, _⟩ => ⟨S8x8x8192x8192, .f32⟩
  | .hbm, ⟨28, _⟩ => ⟨S8x8x8192x8192, .f32⟩
  | .hbm, ⟨29, _⟩ => ⟨S_, .f32⟩
  | .hbm, ⟨30, _⟩ => ⟨S8x8x8192, .f32⟩
  | .hbm, ⟨31, _⟩ => ⟨S_, .f32⟩
  | .hbm, ⟨32, _⟩ => ⟨S8x8x8192, .f32⟩
  | .hbm, ⟨33, _⟩ => ⟨S8x8x8192, .f32⟩
  | .hbm, ⟨34, _⟩ => ⟨S8x8x8192x1, .f32⟩
  | .hbm, ⟨35, _⟩ => ⟨S8x8x8192x8192, .f32⟩
  | .hbm, ⟨36, _⟩ => ⟨S8x8x8192x8192, .f32⟩
  | .hbm, ⟨37, _⟩ => ⟨S8x8x8192x8192, .f32⟩
  | .hbm, ⟨38, _⟩ => ⟨S_, .f32⟩
  | .hbm, ⟨39, _⟩ => ⟨S8x8x8192, .f32⟩
  | .hbm, ⟨40, _⟩ => ⟨S8x8x8192x1, .f32⟩
  | .hbm, ⟨41, _⟩ => ⟨S8x8x8192x8192, .f32⟩
  | .hbm, ⟨42, _⟩ => ⟨S8x8x8192x8192, .f32⟩
  | .hbm, ⟨43, _⟩ => ⟨S8x8x8192x128, .f32⟩
  | .hbm, ⟨44, _⟩ => ⟨S8x8x8192x128, .bf16⟩
  | _, _ => ⟨S8x8x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S8x65536x128 : Shape := ⟨3, ![8, 65536, 128]⟩
abbrev S65536x1024 : Shape := ⟨2, ![65536, 1024]⟩
abbrev S2x65536x256 : Shape := ⟨3, ![2, 65536, 256]⟩
abbrev S1024x1024 : Shape := ⟨2, ![1024, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S8x512x128 : Shape := ⟨3, ![8, 512, 128]⟩
abbrev S512x1024 : Shape := ⟨2, ![512, 1024]⟩
abbrev S1x512x256 : Shape := ⟨3, ![1, 512, 256]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024x1024 : Shape := ⟨3, ![1, 1024, 1024]⟩
abbrev S1x256x1024 : Shape := ⟨3, ![1, 256, 1024]⟩
abbrev S1x512x128 : Shape := ⟨3, ![1, 512, 128]⟩
abbrev S512x128 : Shape := ⟨2, ![512, 128]⟩
abbrev S1x1024 : Shape := ⟨2, ![1, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 18
  | .vmem => 22
  | .smem => 0
  | _ => 0

abbrev bufTy : (tb : Table) → Fin (tcTables nBuf tb) → BufTy
  | .hbm, ⟨0, _⟩ => ⟨S8x65536x128, .bf16⟩
  | .hbm, ⟨1, _⟩ => ⟨S65536x1024, .f32⟩
  | .hbm, ⟨2, _⟩ => ⟨S2x65536x256, .f32⟩
  | .hbm, ⟨3, _⟩ => ⟨S1024x1024, .f32⟩
  | .hbm, ⟨4, _⟩ => ⟨S2x1x1024, .f32⟩
  | .hbm, ⟨5, _⟩ => ⟨S2x1x1024, .f32⟩
  | .hbm, ⟨6, _⟩ => ⟨S2x1024x5632, .f32⟩
  | .hbm, ⟨7, _⟩ => ⟨S2x2816x1024, .f32⟩
  | .hbm, ⟨8, _⟩ => ⟨S2x1x1024, .f32⟩
  | .hbm, ⟨9, _⟩ => ⟨S2x1x1024, .f32⟩
  | .hbm, ⟨10, _⟩ => ⟨S2x1024x1024, .f32⟩
  | .hbm, ⟨11, _⟩ => ⟨S2x256x1024, .f32⟩
  | .hbm, ⟨12, _⟩ => ⟨S2x1024x5632, .bf16⟩
  | .hbm, ⟨13, _⟩ => ⟨S2x2816x1024, .bf16⟩
  | .hbm, ⟨14, _⟩ => ⟨S2x1024x1024, .bf16⟩
  | .hbm, ⟨15, _⟩ => ⟨S2x256x1024, .bf16⟩
  | .hbm, ⟨16, _⟩ => ⟨S1024x1024, .bf16⟩
  | .hbm, ⟨17, _⟩ => ⟨S65536x1024, .f32⟩
  | .local _ .vmem, ⟨0, _⟩ => ⟨S8x512x128, .bf16⟩
  | .local _ .vmem, ⟨1, _⟩ => ⟨S512x1024, .f32⟩
  | .local _ .vmem, ⟨2, _⟩ => ⟨S8x512x128, .bf16⟩
  | .local _ .vmem, ⟨3, _⟩ => ⟨S8x512x128, .bf16⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1x1024, .f32⟩
  | .local _ .vmem, ⟨10, _⟩ => ⟨S1x1x1024, .f32⟩
  | .local _ .vmem, ⟨11, _⟩ => ⟨S1x1024x5632, .bf16⟩
  | .local _ .vmem, ⟨12, _⟩ => ⟨S1x2816x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .bf16⟩
  | .local _ .vmem, ⟨16, _⟩ => ⟨S1x256x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .f32⟩
  | _, _ => ⟨S8x65536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![129], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  let c0_i32_2 : BitVec 32 := 0#32
  ![c1_i32_0.toNat, v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S8x65536x128 : Shape := ⟨3, ![8, 65536, 128]⟩
abbrev S65536x1024 : Shape := ⟨2, ![65536, 1024]⟩
abbrev S2x65536x256 : Shape := ⟨3, ![2, 65536, 256]⟩
abbrev S1024x1024 : Shape := ⟨2, ![1024, 1024]⟩
abbrev S2x1x1024 : Shape := ⟨3, ![2, 1, 1024]⟩
abbrev S2x1024x5632 : Shape := ⟨3, ![2, 1024, 5632]⟩
abbrev S2x2816x1024 : Shape := ⟨3, ![2, 2816, 1024]⟩
abbrev S2x1024x1024 : Shape := ⟨3, ![2, 1024, 1024]⟩
abbrev S2x256x1024 : Shape := ⟨3, ![2, 256, 1024]⟩
abbrev S65536x8x128 : Shape := ⟨3, ![65536, 8, 128]⟩
abbrev S_ : Shape := ⟨0, ![]⟩
abbrev S1x1x1024 : Shape := ⟨3, ![1, 1, 1024]⟩
abbrev S1x1024 : Shape := ⟨2, ![1, 1024]⟩
abbrev S65536 : Shape := ⟨1, ![65536]⟩
abbrev S65536x1 : Shape := ⟨2, ![65536, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S65536x5632 : Shape := ⟨2, ![65536, 5632]⟩
abbrev S65536x2816 : Shape := ⟨2, ![65536, 2816]⟩
abbrev S1x1024x1024 : Shape := ⟨3, ![1, 1024, 1024]⟩
abbrev S1x65536x256 : Shape := ⟨3, ![1, 65536, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x65536x128, .bf16⟩
  | .hbm, ⟨1, _⟩ => ⟨S65536x1024, .f32⟩
  | .hbm, ⟨2, _⟩ => ⟨S2x65536x256, .f32⟩
  | .hbm, ⟨3, _⟩ => ⟨S1024x1024, .f32⟩
  | .hbm, ⟨4, _⟩ => ⟨S2x1x1024, .f32⟩
  | .hbm, ⟨5, _⟩ => ⟨S2x1x1024, .f32⟩
  | .hbm, ⟨6, _⟩ => ⟨S2x1024x5632, .f32⟩
  | .hbm, ⟨7, _⟩ => ⟨S2x2816x1024, .f32⟩
  | .hbm, ⟨8, _⟩ => ⟨S2x1x1024, .f32⟩
  | .hbm, ⟨9, _⟩ => ⟨S2x1x1024, .f32⟩
  | .hbm, ⟨10, _⟩ => ⟨S2x1024x1024, .f32⟩
  | .hbm, ⟨11, _⟩ => ⟨S2x256x1024, .f32⟩
  | .hbm, ⟨12, _⟩ => ⟨S8x65536x128, .f32⟩
  | .hbm, ⟨13, _⟩ => ⟨S65536x8x128, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S1x1x1024, .f32⟩
  | .hbm, ⟨21, _⟩ => ⟨S1x1024, .f32⟩
  | .hbm, ⟨22, _⟩ => ⟨S1x1x1024, .f32⟩
  | .hbm, ⟨23, _⟩ => ⟨S1x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S_, .f32⟩
  | .hbm, ⟨34, _⟩ => ⟨S65536, .f32⟩
  | .hbm, ⟨35, _⟩ => ⟨S65536x1, .f32⟩
  | .hbm, ⟨36, _⟩ => ⟨S_, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S65536x1, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S1x1024x5632, .f32⟩
  | .hbm, ⟨55, _⟩ => ⟨S1024x5632, .f32⟩
  | .hbm, ⟨56, _⟩ => ⟨S1x2816x1024, .f32⟩
  | .hbm, ⟨57, _⟩ => ⟨S2816x1024, .f32⟩
  | .hbm, ⟨58, _⟩ => ⟨S65536x5632, .f32⟩
  | .hbm, ⟨59, _⟩ => ⟨S65536x2816, .f32⟩
  | .hbm, ⟨60, _⟩ => ⟨S65536x2816, .f32⟩
  | .hbm, ⟨61, _⟩ => ⟨S65536x2816, .f32⟩
  | .hbm, ⟨62, _⟩ => ⟨S65536x2816, .f32⟩
  | .hbm, ⟨63, _⟩ => ⟨S_, .f32⟩
  | .hbm, ⟨64, _⟩ => ⟨S65536x2816, .f32⟩
  | .hbm, ⟨65, _⟩ => ⟨S65536x2816, .f32⟩
  | .hbm, ⟨66, _⟩ => ⟨S_, .f32⟩
  | .hbm, ⟨67, _⟩ => ⟨S65536x2816, .f32⟩
  | .hbm, ⟨68, _⟩ => ⟨S65536x2816, .f32⟩
  | .hbm, ⟨69, _⟩ => ⟨S65536x2816, .f32⟩
  | .hbm, ⟨70, _⟩ => ⟨S65536x2816, .f32⟩
  | .hbm, ⟨71, _⟩ => ⟨S65536x1024, .f32⟩
  | .hbm, ⟨72, _⟩ => ⟨S65536x1024, .f32⟩
  | .hbm, ⟨73, _⟩ => ⟨S1x1x1024, .f32⟩
  | .hbm, ⟨74, _⟩ => ⟨S1x1024, .f32⟩
  | .hbm, ⟨75, _⟩ => ⟨S1x1x1024, .f32⟩
  | .hbm, ⟨76, _⟩ => ⟨S1x1024, .f32⟩
  | .hbm, ⟨77, _⟩ => ⟨S_, .f32⟩
  | .hbm, ⟨78, _⟩ => ⟨S65536, .f32⟩
  | .hbm, ⟨79, _⟩ => ⟨S65536x1, .f32⟩
  | .hbm, ⟨80, _⟩ => ⟨S_, .f32⟩
  | .hbm, ⟨81, _⟩ => ⟨S65536x1, .f32⟩
  | .hbm, ⟨82, _⟩ => ⟨S65536x1, .f32⟩
  | .hbm, ⟨83, _⟩ => ⟨S65536x1024, .f32⟩
  | .hbm, ⟨84, _⟩ => ⟨S65536x1024, .f32⟩
  | .hbm, ⟨85, _⟩ => ⟨S65536x1024, .f32⟩
  | .hbm, ⟨86, _⟩ => ⟨S_, .f32⟩
  | .hbm, ⟨87, _⟩ => ⟨S65536, .f32⟩
  | .hbm, ⟨88, _⟩ => ⟨S65536x1, .f32⟩
  | .hbm, ⟨89, _⟩ => ⟨S_, .f32⟩
  | .hbm, ⟨90, _⟩ => ⟨S65536x1, .f32⟩
  | .hbm, ⟨91, _⟩ => ⟨S65536x1, .f32⟩
  | .hbm, ⟨92, _⟩ => ⟨S65536x1024, .f32⟩
  | .hbm, ⟨93, _⟩ => ⟨S65536x1024, .f32⟩
  | .hbm, ⟨94, _⟩ => ⟨S_, .f32⟩
  | .hbm, ⟨95, _⟩ => ⟨S65536x1, .f32⟩
  | .hbm, ⟨96, _⟩ => ⟨S65536x1, .f32⟩
  | .hbm, ⟨97, _⟩ => ⟨S65536x1, .f32⟩
  | .hbm, ⟨98, _⟩ => ⟨S65536x1024, .f32⟩
  | .hbm, ⟨99, _⟩ => ⟨S65536x1024, .f32⟩
  | .hbm, ⟨100, _⟩ => ⟨S65536x1024, .f32⟩
  | .hbm, ⟨101, _⟩ => ⟨S65536x1024, .f32⟩
  | .hbm, ⟨102, _⟩ => ⟨S65536x1024, .f32⟩
  | .hbm, ⟨103, _⟩ => ⟨S65536x1024, .f32⟩
  | .hbm, ⟨104, _⟩ => ⟨S1x1024x1024, .f32⟩
  | .hbm, ⟨105, _⟩ => ⟨S1024x1024, .f32⟩
  | .hbm, ⟨106, _⟩ => ⟨S65536x1024, .f32⟩
  | .hbm, ⟨107, _⟩ => ⟨S65536x1024, .f32⟩
  | .hbm, ⟨108, _⟩ => ⟨S65536x1024, .f32⟩
  | .hbm, ⟨109, _⟩ => ⟨S_, .f32⟩
  | .hbm, ⟨110, _⟩ => ⟨S65536x1024, .f32⟩
  | .hbm, ⟨111, _⟩ => ⟨S65536x1024, .f32⟩
  | .hbm, ⟨112, _⟩ => ⟨S_, .f32⟩
  | .hbm, ⟨113, _⟩ => ⟨S65536x1024, .f32⟩
  | .hbm, ⟨114, _⟩ => ⟨S65536x1024, .f32⟩
  | .hbm, ⟨115, _⟩ => ⟨S1x65536x256, .f32⟩
  | .hbm, ⟨116, _⟩ => ⟨S65536x256, .f32⟩
  | .hbm, ⟨117, _⟩ => ⟨S1x256x1024, .f32⟩
  | .hbm, ⟨118, _⟩ => ⟨S256x1024, .f32⟩
  | .hbm, ⟨119, _⟩ => ⟨S65536x1024, .f32⟩
  | .hbm, ⟨120, _⟩ => ⟨S65536x1024, .f32⟩
  | .hbm, ⟨121, _⟩ => ⟨S65536x1024, .f32⟩
  | _, _ => ⟨S8x65536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_cst_12 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]
-- ==== Kernel3.lean ====
abbrev S65536x1024 : Shape := ⟨2, ![65536, 1024]⟩
abbrev S1024x4096 : Shape := ⟨2, ![1024, 4096]⟩
abbrev S2x1024 : Shape := ⟨2, ![2, 1024]⟩
abbrev S8x65536x128 : Shape := ⟨3, ![8, 65536, 128]⟩
abbrev S512x1024 : Shape := ⟨2, ![512, 1024]⟩
abbrev S8x512x128 : Shape := ⟨3, ![8, 512, 128]⟩
abbrev S1024 : Shape := ⟨1, ![1024]⟩
abbrev S1x1024 : Shape := ⟨2, ![1, 1024]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x256 : Shape := ⟨2, ![1, 256]⟩

abbrev nBuf : Space → Nat
  | .hbm => 9
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S2x1024, .f32⟩
  | .hbm, ⟨3, _⟩ => ⟨S1024x4096, .bf16⟩
  | .hbm, ⟨4, _⟩ => ⟨S8x65536x128, .f32⟩
  | .hbm, ⟨5, _⟩ => ⟨S8x65536x128, .f32⟩
  | .hbm, ⟨6, _⟩ => ⟨S8x65536x128, .f32⟩
  | .hbm, ⟨7, _⟩ => ⟨S8x65536x128, .bf16⟩
  | .hbm, ⟨8, _⟩ => ⟨S8x65536x128, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S2x1024, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .bf16⟩
  | .local _ .vmem, ⟨11, _⟩ => ⟨S8x512x128, .bf16⟩
  | .local _ .vmem, ⟨12, _⟩ => ⟨S8x512x128, .f32⟩
  | .local _ .vmem, ⟨13, _⟩ => ⟨S8x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S65536x1024 : Shape := ⟨2, ![65536, 1024]⟩
abbrev S1024x4096 : Shape := ⟨2, ![1024, 4096]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S65536x4096 : Shape := ⟨2, ![65536, 4096]⟩
abbrev S65536x8x128 : Shape := ⟨3, ![65536, 8, 128]⟩
abbrev S8x65536x128 : Shape := ⟨3, ![8, 65536, 128]⟩

abbrev nBuf : Space → Nat
  | .hbm => 107
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S2x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S1024, .f32⟩
  | .hbm, ⟨22, _⟩ => ⟨S65536x4096, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .bf16⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536x1024, .f32⟩
  | .hbm, ⟨44, _⟩ => ⟨S65536x1024, .f32⟩
  | .hbm, ⟨45, _⟩ => ⟨S65536x1024, .f32⟩
  | .hbm, ⟨46, _⟩ => ⟨S1024, .f32⟩
  | .hbm, ⟨47, _⟩ => ⟨S1024, .f32⟩
  | .hbm, ⟨48, _⟩ => ⟨S1024, .f32⟩
  | .hbm, ⟨49, _⟩ => ⟨S65536x1024, .f32⟩
  | .hbm, ⟨50, _⟩ => ⟨S_, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .i1⟩
  | .hbm, ⟨56, _⟩ => ⟨S65536x1024, .f32⟩
  | .hbm, ⟨57, _⟩ => ⟨S65536x1024, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S1x1024, .f32⟩
  | .hbm, ⟨66, _⟩ => ⟨S65536x1024, .f32⟩
  | .hbm, ⟨67, _⟩ => ⟨S65536x1024, .f32⟩
  | .hbm, ⟨68, _⟩ => ⟨S1x1024, .f32⟩
  | .hbm, ⟨69, _⟩ => ⟨S65536x1024, .f32⟩
  | .hbm, ⟨70, _⟩ => ⟨S65536x1024, .f32⟩
  | .hbm, ⟨71, _⟩ => ⟨S65536x1024, .f32⟩
  | .hbm, ⟨72, _⟩ => ⟨S65536x1024, .f32⟩
  | .hbm, ⟨73, _⟩ => ⟨S65536x1024, .i1⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S65536x1024, .f32⟩
  | .hbm, ⟨86, _⟩ => ⟨S65536x1024, .f32⟩
  | .hbm, ⟨87, _⟩ => ⟨S65536x1024, .f32⟩
  | .hbm, ⟨88, _⟩ => ⟨S_, .f32⟩
  | .hbm, ⟨89, _⟩ => ⟨S65536x1024, .f32⟩
  | .hbm, ⟨90, _⟩ => ⟨S65536x1024, .f32⟩
  | .hbm, ⟨91, _⟩ => ⟨S_, .f32⟩
  | .hbm, ⟨92, _⟩ => ⟨S65536x1024, .f32⟩
  | .hbm, ⟨93, _⟩ => ⟨S65536x1024, .f32⟩
  | .hbm, ⟨94, _⟩ => ⟨S1x1024, .f32⟩
  | .hbm, ⟨95, _⟩ => ⟨S65536x1024, .f32⟩
  | .hbm, ⟨96, _⟩ => ⟨S65536x1024, .f32⟩
  | .hbm, ⟨97, _⟩ => ⟨S65536x8x128, .f32⟩
  | .hbm, ⟨98, _⟩ => ⟨S8x65536x128, .f32⟩
  | .hbm, ⟨99, _⟩ => ⟨S65536x8x128, .f32⟩
  | .hbm, ⟨100, _⟩ => ⟨S8x65536x128, .f32⟩
  | .hbm, ⟨101, _⟩ => ⟨S65536x8x128, .f32⟩
  | .hbm, ⟨102, _⟩ => ⟨S8x65536x128, .f32⟩
  | .hbm, ⟨103, _⟩ => ⟨S65536x8x128, .bf16⟩
  | .hbm, ⟨104, _⟩ => ⟨S8x65536x128, .bf16⟩
  | .hbm, ⟨105, _⟩ => ⟨S65536x8x128, .f32⟩
  | .hbm, ⟨106, _⟩ => ⟨S8x65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call2_v0 : Ref sig .tc := ⟨.hbm, 49, rfl⟩
abbrev main_call2_call0_cst : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_call0_v2 : Ref sig .tc := ⟨.hbm, 53, rfl⟩
abbrev main_call2_call0_v3 : Ref sig .tc := ⟨.hbm, 54, rfl⟩
abbrev main_call2_call0_v4 : Ref sig .tc := ⟨.hbm, 55, rfl⟩
abbrev main_call2_call0_v5 : Ref sig .tc := ⟨.hbm, 56, rfl⟩
abbrev main_call2_call0_v6 : Ref sig .tc := ⟨.hbm, 57, rfl⟩
abbrev main_call2_call0_v7 : Ref sig .tc := ⟨.hbm, 58, rfl⟩
abbrev main_call2_call0_v8 : Ref sig .tc := ⟨.hbm, 59, rfl⟩
abbrev main_call2_call0_v9 : Ref sig .tc := ⟨.hbm, 60, rfl⟩
abbrev main_call2_call0_v10 : Ref sig .tc := ⟨.hbm, 61, rfl⟩
abbrev main_call2_call0_v11 : Ref sig .tc := ⟨.hbm, 62, rfl⟩
abbrev main_call2_v1 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_3 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_4 : Ref sig .tc := ⟨.hbm, 88, rfl⟩
abbrev main_v49 : Ref sig .tc := ⟨.hbm, 89, rfl⟩
abbrev main_v50 : Ref sig .tc := ⟨.hbm, 90, rfl⟩
abbrev main_cst_5 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]
-- ==== Kernel4.lean ====
abbrev S65536x1024 : Shape := ⟨2, ![65536, 1024]⟩
abbrev S1x65536 : Shape := ⟨2, ![1, 65536]⟩
abbrev S1024x576 : Shape := ⟨2, ![1024, 576]⟩
abbrev S256 : Shape := ⟨1, ![256]⟩
abbrev S256x1536 : Shape := ⟨2, ![256, 1536]⟩
abbrev S256x2048 : Shape := ⟨2, ![256, 2048]⟩
abbrev S1024x64 : Shape := ⟨2, ![1024, 64]⟩
abbrev S1024x32 : Shape := ⟨2, ![1024, 32]⟩
abbrev S_ : Shape := ⟨0, ![]⟩
abbrev S1024x128 : Shape := ⟨2, ![1024, 128]⟩
abbrev S1024x512 : Shape := ⟨2, ![1024, 512]⟩
abbrev S1024x768 : Shape := ⟨2, ![1024, 768]⟩
abbrev S256x8x192 : Shape := ⟨3, ![256, 8, 192]⟩
abbrev S256x8x64 : Shape := ⟨3, ![256, 8, 64]⟩
abbrev S256x8x32 : Shape := ⟨3, ![256, 8, 32]⟩
abbrev S256x8x128 : Shape := ⟨3, ![256, 8, 128]⟩
abbrev S256x1024 : Shape := ⟨2, ![256, 1024]⟩
abbrev S256x3072 : Shape := ⟨2, ![256, 3072]⟩
abbrev S256x8x256 : Shape := ⟨3, ![256, 8, 256]⟩
abbrev S32 : Shape := ⟨1, ![32]⟩
abbrev S32x1 : Shape := ⟨2, ![32, 1]⟩
abbrev S1x256 : Shape := ⟨2, ![1, 256]⟩
abbrev S8x65536x256 : Shape := ⟨3, ![8, 65536, 256]⟩
abbrev S8x65536x128 : Shape := ⟨3, ![8, 65536, 128]⟩
abbrev S65536x128 : Shape := ⟨2, ![65536, 128]⟩
abbrev S512x1024 : Shape := ⟨2, ![512, 1024]⟩
abbrev S1x512 : Shape := ⟨2, ![1, 512]⟩
abbrev S8x512x256 : Shape := ⟨3, ![8, 512, 256]⟩
abbrev S8x512x128 : Shape := ⟨3, ![8, 512, 128]⟩
abbrev S512x128 : Shape := ⟨2, ![512, 128]⟩
abbrev S512x256 : Shape := ⟨2, ![512, 256]⟩
abbrev S512x768 : Shape := ⟨2, ![512, 768]⟩
abbrev S512 : Shape := ⟨1, ![512]⟩
abbrev S512x1 : Shape := ⟨2, ![512, 1]⟩
abbrev S32x512 : Shape := ⟨2, ![32, 512]⟩
abbrev S512x32 : Shape := ⟨2, ![512, 32]⟩
abbrev S512x64 : Shape := ⟨2, ![512, 64]⟩
abbrev S512x3072 : Shape := ⟨2, ![512, 3072]⟩
abbrev S512x2048 : Shape := ⟨2, ![512, 2048]⟩
abbrev S1x512x128 : Shape := ⟨3, ![1, 512, 128]⟩

abbrev nBuf : Space → Nat
  | .hbm => 61
  | .vmem => 25
  | .smem => 0
  | _ => 0

abbrev bufTy : (tb : Table) → Fin (tcTables nBuf tb) → BufTy
  | .hbm, ⟨0, _⟩ => ⟨S65536x1024, .f32⟩
  | .hbm, ⟨1, _⟩ => ⟨S1x65536, .f32⟩
  | .hbm, ⟨2, _⟩ => ⟨S1024x576, .f32⟩
  | .hbm, ⟨3, _⟩ => ⟨S256, .f32⟩
  | .hbm, ⟨4, _⟩ => ⟨S256, .f32⟩
  | .hbm, ⟨5, _⟩ => ⟨S256x1536, .f32⟩
  | .hbm, ⟨6, _⟩ => ⟨S256x2048, .f32⟩
  | .hbm, ⟨7, _⟩ => ⟨S1024x64, .f32⟩
  | .hbm, ⟨8, _⟩ => ⟨S1024x32, .f32⟩
  | .hbm, ⟨9, _⟩ => ⟨S1024x32, .f32⟩
  | .hbm, ⟨10, _⟩ => ⟨S_, .f32⟩
  | .hbm, ⟨11, _⟩ => ⟨S1024x64, .f32⟩
  | .hbm, ⟨12, _⟩ => ⟨S1024x128, .f32⟩
  | .hbm, ⟨13, _⟩ => ⟨S1024x32, .f32⟩
  | .hbm, ⟨14, _⟩ => ⟨S1024x128, .f32⟩
  | .hbm, ⟨15, _⟩ => ⟨S1024x512, .f32⟩
  | .hbm, ⟨16, _⟩ => ⟨S1024x768, .f32⟩
  | .hbm, ⟨17, _⟩ => ⟨S1024x768, .bf16⟩
  | .hbm, ⟨18, _⟩ => ⟨S256x8x192, .f32⟩
  | .hbm, ⟨19, _⟩ => ⟨S256x8x64, .f32⟩
  | .hbm, ⟨20, _⟩ => ⟨S256x8x32, .f32⟩
  | .hbm, ⟨21, _⟩ => ⟨S256x8x32, .f32⟩
  | .hbm, ⟨22, _⟩ => ⟨S_, .f32⟩
  | .hbm, ⟨23, _⟩ => ⟨S256x8x64, .f32⟩
  | .hbm, ⟨24, _⟩ => ⟨S256x8x128, .f32⟩
  | .hbm, ⟨25, _⟩ => ⟨S256x8x32, .f32⟩
  | .hbm, ⟨26, _⟩ => ⟨S256x8x128, .f32⟩
  | .hbm, ⟨27, _⟩ => ⟨S256x8x128, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x3072, .f32⟩
  | .hbm, ⟨32, _⟩ => ⟨S256x3072, .bf16⟩
  | .hbm, ⟨33, _⟩ => ⟨S256x8x256, .f32⟩
  | .hbm, ⟨34, _⟩ => ⟨S256x8x128, .f32⟩
  | .hbm, ⟨35, _⟩ => ⟨S256x1024, .f32⟩
  | .hbm, ⟨36, _⟩ => ⟨S256x8x128, .f32⟩
  | .hbm, ⟨37, _⟩ => ⟨S256x1024, .f32⟩
  | .hbm, ⟨38, _⟩ => ⟨S256x2048, .f32⟩
  | .hbm, ⟨39, _⟩ => ⟨S256x2048, .bf16⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32x1, .f32⟩
  | .hbm, ⟨55, _⟩ => ⟨S1x256, .f32⟩
  | .hbm, ⟨56, _⟩ => ⟨S1x256, .f32⟩
  | .hbm, ⟨57, _⟩ => ⟨S8x65536x256, .bf16⟩
  | .hbm, ⟨58, _⟩ => ⟨S8x65536x128, .bf16⟩
  | .hbm, ⟨59, _⟩ => ⟨S65536x128, .bf16⟩
  | .hbm, ⟨60, _⟩ => ⟨S8x65536x128, .bf16⟩
  | .local _ .vmem, ⟨0, _⟩ => ⟨S512x1024, .f32⟩
  | .local _ .vmem, ⟨1, _⟩ => ⟨S1x512, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S32x1, .f32⟩
  | .local _ .vmem, ⟨7, _⟩ => ⟨S1024x768, .bf16⟩
  | .local _ .vmem, ⟨8, _⟩ => ⟨S1x256, .f32⟩
  | .local _ .vmem, ⟨9, _⟩ => ⟨S1x256, .f32⟩
  | .local _ .vmem, ⟨10, _⟩ => ⟨S256x3072, .bf16⟩
  | .local _ .vmem, ⟨11, _⟩ => ⟨S256x2048, .bf16⟩
  | .local _ .vmem, ⟨12, _⟩ => ⟨S8x512x256, .bf16⟩
  | .local _ .vmem, ⟨13, _⟩ => ⟨S8x512x256, .bf16⟩
  | .local _ .vmem, ⟨14, _⟩ => ⟨S8x512x128, .bf16⟩
  | .local _ .vmem, ⟨15, _⟩ => ⟨S8x512x128, .bf16⟩
  | .local _ .vmem, ⟨16, _⟩ => ⟨S512x128, .bf16⟩
  | .local _ .vmem, ⟨17, _⟩ => ⟨S512x128, .bf16⟩
  | .local _ .vmem, ⟨18, _⟩ => ⟨S8x512x128, .bf16⟩
  | .local _ .vmem, ⟨19, _⟩ => ⟨S8x512x128, .bf16⟩
  | .local _ .vmem, ⟨20, _⟩ => ⟨S512x256, .bf16⟩
  | .local _ .vmem, ⟨21, _⟩ => ⟨S512x256, .bf16⟩
  | .local _ .vmem, ⟨22, _⟩ => ⟨S512x128, .bf16⟩
  | .local _ .vmem, ⟨23, _⟩ => ⟨S512x128, .f32⟩
  | .local _ .vmem, ⟨24, _⟩ => ⟨S512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_1 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev main_v44_2 : Ref sig .tc := ⟨.hbm, 59, rfl⟩
abbrev main_v44_3 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S65536x1024 : Shape := ⟨2, ![65536, 1024]⟩
abbrev S1x65536 : Shape := ⟨2, ![1, 65536]⟩
abbrev S1024x576 : Shape := ⟨2, ![1024, 576]⟩
abbrev S256 : Shape := ⟨1, ![256]⟩
abbrev S256x1536 : Shape := ⟨2, ![256, 1536]⟩
abbrev S256x2048 : Shape := ⟨2, ![256, 2048]⟩
abbrev S65536 : Shape := ⟨1, ![65536]⟩
abbrev S32 : Shape := ⟨1, ![32]⟩
abbrev S_ : Shape := ⟨0, ![]⟩
abbrev S65536x1 : Shape := ⟨2, ![65536, 1]⟩
abbrev S1x32 : Shape := ⟨2, ![1, 32]⟩
abbrev S65536x32 : Shape := ⟨2, ![65536, 32]⟩
abbrev S65536x576 : Shape := ⟨2, ![65536, 576]⟩
abbrev S65536x256 : Shape := ⟨2, ![65536, 256]⟩
abbrev S1x256 : Shape := ⟨2, ![1, 256]⟩
abbrev S65536x64 : Shape := ⟨2, ![65536, 64]⟩
abbrev S65536x1536 : Shape := ⟨2, ![65536, 1536]⟩
abbrev S65536x8x192 : Shape := ⟨3, ![65536, 8, 192]⟩
abbrev S65536x8x128 : Shape := ⟨3, ![65536, 8, 128]⟩
abbrev S65536x8x64 : Shape := ⟨3, ![65536, 8, 64]⟩
abbrev S65536x1x32 : Shape := ⟨3, ![65536, 1, 32]⟩
abbrev S65536x8x32 : Shape := ⟨3, ![65536, 8, 32]⟩
abbrev S65536x2048 : Shape := ⟨2, ![65536, 2048]⟩
abbrev S65536x8x256 : Shape := ⟨3, ![65536, 8, 256]⟩
abbrev S8x65536x256 : Shape := ⟨3, ![8, 65536, 256]⟩
abbrev S8x65536x128 : Shape := ⟨3, ![8, 65536, 128]⟩
abbrev S65536x128 : Shape := ⟨2, ![65536, 128]⟩

abbrev nBuf : Space → Nat
  | .hbm => 114
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x65536, .f32⟩
  | .hbm, ⟨2, _⟩ => ⟨S1024x576, .f32⟩
  | .hbm, ⟨3, _⟩ => ⟨S256, .f32⟩
  | .hbm, ⟨4, _⟩ => ⟨S256, .f32⟩
  | .hbm, ⟨5, _⟩ => ⟨S256x1536, .f32⟩
  | .hbm, ⟨6, _⟩ => ⟨S256x2048, .f32⟩
  | .hbm, ⟨7, _⟩ => ⟨S65536, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S65536x1, .f32⟩
  | .hbm, ⟨23, _⟩ => ⟨S1x32, .f32⟩
  | .hbm, ⟨24, _⟩ => ⟨S65536x32, .f32⟩
  | .hbm, ⟨25, _⟩ => ⟨S65536x32, .f32⟩
  | .hbm, ⟨26, _⟩ => ⟨S65536x32, .f32⟩
  | .hbm, ⟨27, _⟩ => ⟨S65536x32, .f32⟩
  | .hbm, ⟨28, _⟩ => ⟨S65536x32, .f32⟩
  | .hbm, ⟨29, _⟩ => ⟨S65536x576, .f32⟩
  | .hbm, ⟨30, _⟩ => ⟨S65536x256, .f32⟩
  | .hbm, ⟨31, _⟩ => ⟨S65536x256, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x256, .f32⟩
  | .hbm, ⟨43, _⟩ => ⟨S65536x256, .f32⟩
  | .hbm, ⟨44, _⟩ => ⟨S1x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1, .f32⟩
  | .hbm, ⟨59, _⟩ => ⟨S65536x256, .f32⟩
  | .hbm, ⟨60, _⟩ => ⟨S65536x256, .f32⟩
  | .hbm, ⟨61, _⟩ => ⟨S1x256, .f32⟩
  | .hbm, ⟨62, _⟩ => ⟨S65536x256, .f32⟩
  | .hbm, ⟨63, _⟩ => ⟨S65536x256, .f32⟩
  | .hbm, ⟨64, _⟩ => ⟨S65536x64, .f32⟩
  | .hbm, ⟨65, _⟩ => ⟨S65536x32, .f32⟩
  | .hbm, ⟨66, _⟩ => ⟨S65536x32, .f32⟩
  | .hbm, ⟨67, _⟩ => ⟨S65536x32, .f32⟩
  | .hbm, ⟨68, _⟩ => ⟨S65536x32, .f32⟩
  | .hbm, ⟨69, _⟩ => ⟨S65536x32, .f32⟩
  | .hbm, ⟨70, _⟩ => ⟨S65536x32, .f32⟩
  | .hbm, ⟨71, _⟩ => ⟨S65536x32, .f32⟩
  | .hbm, ⟨72, _⟩ => ⟨S65536x32, .f32⟩
  | .hbm, ⟨73, _⟩ => ⟨S65536x64, .f32⟩
  | .hbm, ⟨74, _⟩ => ⟨S65536x1536, .f32⟩
  | .hbm, ⟨75, _⟩ => ⟨S65536x8x192, .f32⟩
  | .hbm, ⟨76, _⟩ => ⟨S65536x8x128, .f32⟩
  | .hbm, ⟨77, _⟩ => ⟨S65536x8x64, .f32⟩
  | .hbm, ⟨78, _⟩ => ⟨S65536x1x32, .f32⟩
  | .hbm, ⟨79, _⟩ => ⟨S65536x1x32, .f32⟩
  | .hbm, ⟨80, _⟩ => ⟨S65536x8x32, .f32⟩
  | .hbm, ⟨81, _⟩ => ⟨S65536x8x32, .f32⟩
  | .hbm, ⟨82, _⟩ => ⟨S65536x8x32, .f32⟩
  | .hbm, ⟨83, _⟩ => ⟨S65536x8x32, .f32⟩
  | .hbm, ⟨84, _⟩ => ⟨S65536x8x32, .f32⟩
  | .hbm, ⟨85, _⟩ => ⟨S65536x8x32, .f32⟩
  | .hbm, ⟨86, _⟩ => ⟨S65536x8x32, .f32⟩
  | .hbm, ⟨87, _⟩ => ⟨S65536x8x32, .f32⟩
  | .hbm, ⟨88, _⟩ => ⟨S65536x8x32, .f32⟩
  | .hbm, ⟨89, _⟩ => ⟨S65536x8x32, .f32⟩
  | .hbm, ⟨90, _⟩ => ⟨S65536x8x32, .f32⟩
  | .hbm, ⟨91, _⟩ => ⟨S65536x8x32, .f32⟩
  | .hbm, ⟨92, _⟩ => ⟨S65536x8x64, .f32⟩
  | .hbm, ⟨93, _⟩ => ⟨S65536x2048, .f32⟩
  | .hbm, ⟨94, _⟩ => ⟨S65536x8x256, .f32⟩
  | .hbm, ⟨95, _⟩ => ⟨S65536x8x128, .f32⟩
  | .hbm, ⟨96, _⟩ => ⟨S65536x8x128, .f32⟩
  | .hbm, ⟨97, _⟩ => ⟨S_, .f32⟩
  | .hbm, ⟨98, _⟩ => ⟨S65536x8x64, .f32⟩
  | .hbm, ⟨99, _⟩ => ⟨S65536x8x128, .f32⟩
  | .hbm, ⟨100, _⟩ => ⟨S65536x8x256, .f32⟩
  | .hbm, ⟨101, _⟩ => ⟨S_, .f32⟩
  | .hbm, ⟨102, _⟩ => ⟨S65536x8x256, .f32⟩
  | .hbm, ⟨103, _⟩ => ⟨S65536x8x256, .f32⟩
  | .hbm, ⟨104, _⟩ => ⟨S8x65536x256, .f32⟩
  | .hbm, ⟨105, _⟩ => ⟨S8x65536x256, .bf16⟩
  | .hbm, ⟨106, _⟩ => ⟨S8x65536x128, .f32⟩
  | .hbm, ⟨107, _⟩ => ⟨S8x65536x128, .bf16⟩
  | .hbm, ⟨108, _⟩ => ⟨S_, .f32⟩
  | .hbm, ⟨109, _⟩ => ⟨S65536x64, .f32⟩
  | .hbm, ⟨110, _⟩ => ⟨S65536x128, .f32⟩
  | .hbm, ⟨111, _⟩ => ⟨S65536x128, .bf16⟩
  | .hbm, ⟨112, _⟩ => ⟨S8x65536x128, .f32⟩
  | .hbm, ⟨113, _⟩ => ⟨S8x65536x128, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_9 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_11 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Proof.Online.lean ====
/-
  THE BLOCKWISE SOFTMAX, ON EXTENDED REALS. A row has a score `s j` and a value `v j` for every key `j`. After the first
  `K` keys the running maximum is `rowMax s K` and the running sum `rowSum s v K`, the values weighted by 2^(score − maximum).
  Meeting one more block of keys keeps this so (`rowMax_step`, `rowSum_step`), for every score, infinite ones included:
  the factor 2^(old maximum − new maximum) rescales the old sum. A block whose scores are all −∞ changes nothing.
-/
module

public import Idealize.ShloMosaic.PureOps.Ideal
public import Idealize.ShloMosaic.Lib.Pipeline.Value

@[expose] public section

noncomputable section

namespace Cert.Attn

open Idealize.ShloMosaic
open scoped BigOperators

theorem exp2_nonneg (x : EReal) : 0 ≤ Ideal.exp2 x := by
  induction x with
  | bot => simp
  | top => simp
  | coe r => rw [Ideal.exp2_coe]; exact EReal.coe_nonneg.2 (Real.rpow_nonneg (by norm_num) r)

theorem exp2_sub_ne_top {a b : EReal} (h : a ≤ b) : Ideal.exp2 (a - b) ≠ ⊤ := by
  induction a with
  | bot => simp
  | top =>
    obtain rfl : b = ⊤ := top_le_iff.1 h
    simp
  | coe x =>
    induction b with
    | bot => simp at h
    | top => simp
    | coe y =>
      rw [← EReal.coe_sub, Ideal.exp2_coe]
      exact EReal.coe_ne_top _

/-- Two rescalings are one. -/
theorem exp2_chain {x a b : EReal} (hx : x ≤ a) (hab : a ≤ b) : Ideal.exp2 (a - b) * Ideal.exp2 (x - a) = Ideal.exp2 (x - b) := by
  induction b with
  | top => simp
  | bot =>
    obtain rfl : a = ⊥ := le_bot_iff.1 hab
    obtain rfl : x = ⊥ := le_bot_iff.1 hx
    simp
  | coe b =>
    induction a with
    | top => simp at hab
    | bot =>
      obtain rfl : x = ⊥ := le_bot_iff.1 hx
      simp
    | coe a =>
      induction x with
      | top => simp at hx
      | bot => simp
      | coe x =>
        rw [← EReal.coe_sub, ← EReal.coe_sub, ← EReal.coe_sub, Ideal.exp2_coe, Ideal.exp2_coe, Ideal.exp2_coe, ← EReal.coe_mul]
        refine congrArg Real.toEReal ?_
        change (2 : ℝ) ^ (a - b) * (2 : ℝ) ^ (x - a) = (2 : ℝ) ^ (x - b)
        rw [← Real.rpow_add (by norm_num)]
        congr 1
        ring

/-- A nonnegative finite factor goes into a sum. -/
theorem mul_sum_of_nonneg {ι : Type} (c : EReal) (h0 : 0 ≤ c) (ht : c ≠ ⊤) (A : Finset ι) (f : ι → EReal) :
    c * ∑ j ∈ A, f j = ∑ j ∈ A, c * f j := by
  classical
  induction A using Finset.induction_on with
  | empty => simp
  | insert a A ha ih => rw [Finset.sum_insert ha, Finset.sum_insert ha, EReal.left_distrib_of_nonneg_of_ne_top h0 ht, ih]

/-- The largest of the first `K` scores. -/
def rowMax (s : ℕ → EReal) (K : ℕ) : EReal := (Finset.range K).sup s
/-- The weighted values of the first `K` keys. -/
def rowSum (s v : ℕ → EReal) (K : ℕ) : EReal := ∑ j ∈ Finset.range K, Ideal.exp2 (s j - rowMax s K) * v j

theorem rowMax_zero (s : ℕ → EReal) : rowMax s 0 = ⊥ := by simp [rowMax]
theorem rowSum_zero (s v : ℕ → EReal) : rowSum s v 0 = 0 := by simp [rowSum]

theorem rowMax_mono (s : ℕ → EReal) {K L : ℕ} (h : K ≤ L) : rowMax s K ≤ rowMax s L :=
  Finset.sup_mono (Finset.range_mono h)

theorem le_rowMax (s : ℕ → EReal) {j K : ℕ} (h : j < K) : s j ≤ rowMax s K := Finset.le_sup (Finset.mem_range.2 h)

theorem rowMax_step (s : ℕ → EReal) (K : ℕ) {n : ℕ} (t : Fin n → EReal) (ht : ∀ j : Fin n, t j = s (K + j.val)) :
    max (rowMax s K) (Finset.univ.sup t) = rowMax s (K + n) := by
  refine le_antisymm (max_le (rowMax_mono s (by omega)) (Finset.sup_le fun j _ => ?_)) (Finset.sup_le fun j hj => ?_)
  · rw [ht]
    exact le_rowMax s (by omega)
  · rw [Finset.mem_range] at hj
    by_cases h : j < K
    · exact le_max_of_le_left (le_rowMax s h)
    · refine le_max_of_le_right ?_
      have e : t ⟨j - K, by omega⟩ = s j := by rw [ht]; congr 1; show K + (j - K) = j; omega
      rw [← e]
      exact Finset.le_sup (Finset.mem_univ _)

theorem rowSum_step (s v : ℕ → EReal) (K : ℕ) {n : ℕ} (t w : Fin n → EReal) (ht : ∀ j : Fin n, t j = s (K + j.val)) (hw : ∀ j : Fin n, w j = v (K + j.val)) :
    Ideal.exp2 (rowMax s K - rowMax s (K + n)) * rowSum s v K + ∑ j : Fin n, Ideal.exp2 (t j - rowMax s (K + n)) * w j = rowSum s v (K + n) := by
  have hm := rowMax_mono s (show K ≤ K + n by omega)
  unfold rowSum
  rw [Finset.sum_range_add, mul_sum_of_nonneg _ (exp2_nonneg _) (exp2_sub_ne_top hm)]
  refine congrArg₂ (· + ·) (Finset.sum_congr rfl fun j hj => ?_) ?_
  · rw [← mul_assoc, exp2_chain (le_rowMax s (Finset.mem_range.1 hj)) hm]
  · rw [Finset.sum_range]
    exact Finset.sum_congr rfl fun j _ => by rw [ht, hw]

/-- Keys whose score is −∞ change neither the maximum nor the sum. -/
theorem rowMax_masked (s : ℕ → EReal) {K L : ℕ} (h : K ≤ L) (hs : ∀ j, K ≤ j → j < L → s j = ⊥) : rowMax s L = rowMax s K := by
  refine le_antisymm (Finset.sup_le fun j hj => ?_) (rowMax_mono s h)
  rw [Finset.mem_range] at hj
  by_cases hK : j < K
  · exact le_rowMax s hK
  · rw [hs j (by omega) hj]
    exact bot_le

theorem rowSum_masked (s v : ℕ → EReal) {K L : ℕ} (h : K ≤ L) (hs : ∀ j, K ≤ j → j < L → s j = ⊥) : rowSum s v L = rowSum s v K := by
  obtain ⟨n, rfl⟩ := Nat.exists_eq_add_of_le h
  unfold rowSum
  rw [Finset.sum_range_add, rowMax_masked s h hs]
  refine (congrArg₂ (· + ·) rfl (Finset.sum_eq_zero fun j hj => ?_)).trans (add_zero _)
  rw [hs (K + j) (by omega) (by have := Finset.mem_range.1 hj; omega)]
  simp

end Cert.Attn
-- ==== Proof.Step.lean ====
/-
  ONE STEP OF THE BLOCKWISE ATTENTION, FOR ANY NUMBER OF ROWS. The kernel meets the keys 256 at a time. Each time it
  computes the scores of its rows against the block (`scores`), the running maximum of each row (`newMax`) and the
  running weighted sums (`newAcc`: 128 columns of the weighted values and 128 columns of the weights alone). On the
  diagonal the first 256 rows of a step are masked (`masked`). The number of rows `R` is a variable, because the
  diagonal steps have 4096, 3840, …, 256 rows. Each is read here at one index.
-/
module

public import proofs.«01_k».proof.Proof.Gen.KernelIdeal.Skeleton
public import Idealize.ShloMosaic.Lib.MatmulPlain
public import Idealize.ShloMosaic.Lib.Pipeline.Value
public import Idealize.ShloMosaic.Lib.Pointwise
public import Idealize.ShloMosaic.Lib.Pointwise.IndexVar

@[expose] public section

set_option maxRecDepth 16384

noncomputable section

namespace Cert.Attn

open Idealize.ShloMosaic Idealize.ShloMosaic.TcCoe Idealize.SL.Sem
open scoped BigOperators

/-- A matrix shape. -/
abbrev sh2 (a b : ℕ) : Shape := ⟨2, ![a, b]⟩
/-- A shape of three axes. -/
abbrev sh3 (a b c : ℕ) : Shape := ⟨3, ![a, b, c]⟩
/-- A shape of four axes. -/
abbrev sh4 (a b c d : ℕ) : Shape := ⟨4, ![a, b, c, d]⟩

/-- The shape conditions of one step over `R` rows. -/
structure StepOk (R : ℕ) : Prop where
  q : (sh4 1 1 R 256).ShapeCasts (sh2 R 256)
  k : (sh4 1 1 256 128).ShapeCasts (sh2 256 128)
  kr : (sh3 1 256 128).ShapeCasts (sh2 256 128)
  cat : Shape.Concatenates [sh2 256 128, sh2 256 128] (sh2 256 256) 1
  red : (sh2 R 256).Reduces [1] (⟨1, ![R]⟩ : Shape)
  col : (⟨1, ![R]⟩ : Shape).ShapeCasts (sh2 R 1)
  bro : (sh2 R 1).Broadcasts (sh2 R 128)
  wide : Shape.Concatenates [sh2 R 128, sh2 R 128] (sh2 R 256) 1
  self8 : (sh2 R 128).ShapeCasts (sh2 R 128)
  self9 : (sh2 R 256).ShapeCasts (sh2 R 256)

/-- The conditions of the mask over `256 + T` rows. -/
structure MaskOk (R T : ℕ) : Prop where
  top : (sh2 R 256).Slices ![0, 0] (sh2 256 256)
  rest : (sh2 R 256).Slices ![256, 0] (sh2 T 256)
  cat : Shape.Concatenates [sh2 256 256, sh2 T 256] (sh2 R 256) 0
  rows : (sh2 256 256).Iotas .tc 32 [0]
  cols : (sh2 256 256).Iotas .tc 32 [1]

variable {R T : ℕ}

/-- The block of 256 keys: the key part and the rotary part side by side. -/
def keys (h : StepOk R) (k : Vec Ideal (sh4 1 1 256 128) .bf16) (kr : Vec Ideal (sh3 1 256 128) .bf16) : FVec Ideal (sh2 256 256) .bf16 :=
  concatenate (sh2 256 256) 1 [⟨sh2 256 128, shapeCast (sh2 256 128) k h.k⟩, ⟨sh2 256 128, shapeCast (sh2 256 128) kr h.kr⟩] h.cat

/-- The scores of `R` rows against a block of 256 keys. -/
def scores (h : StepOk R) (q : Vec Ideal (sh4 1 1 R 256) .bf16) (k : Vec Ideal (sh4 1 1 256 128) .bf16) (kr : Vec Ideal (sh3 1 256 128) .bf16) :
    FVec Ideal (sh2 R 256) .f32 :=
  matmul (φ₁ := .bf16) (φ₂ := .bf16) (DotDims.transposedRhs R 256 256) none (shapeCast (sh2 R 256) q h.q) (keys h k kr) (constant (sh2 R 256) .f32 0x00000000#32)

/-- The running row maxima after the block. -/
def newMax (h : StepOk R) (s : FVec Ideal (sh2 R 256) .f32) (m : FVec Ideal (sh2 R 128) .f32) : FVec Ideal (sh2 R 128) .f32 :=
  maximumf m (broadcastTo (sh2 R 128) (shapeCast (sh2 R 1) (multiReduction .maximumf [1] (⟨1, ![R]⟩ : Shape) s 0xFF800000#32 h.red (.inl rfl) rfl) h.col) h.bro)

/-- The running sums after the block, `mx` the new maxima. -/
def newAcc (h : StepOk R) (s : FVec Ideal (sh2 R 256) .f32) (m mx : FVec Ideal (sh2 R 128) .f32) (v : Vec Ideal (sh4 1 1 256 128) .bf16)
    (a : FVec Ideal (sh2 R 256) .f32) : FVec Ideal (sh2 R 256) .f32 :=
  addf (mulf (concatenate (sh2 R 256) 1 [⟨sh2 R 128, exp2 (subf m mx)⟩, ⟨sh2 R 128, exp2 (subf m mx)⟩] h.wide) a)
    (matmul (DotDims.plain R 256 256) none
      (truncf .bf16 (exp2 (subf s (concatenate (sh2 R 256) 1 [⟨sh2 R 128, mx⟩, ⟨sh2 R 128, mx⟩] h.wide))) (by decide))
      (concatenate (sh2 256 256) 1 [⟨sh2 256 128, shapeCast (sh2 256 128) v h.k⟩,
        ⟨sh2 256 128, broadcast (sh2 256 128) (Scalar.ofBits .bf16 0x3F80#16 : Ideal .bf16)⟩] h.cat)
      (constant (sh2 R 256) .f32 0x00000000#32))

/-- Scores of rows on the diagonal: a key after the row's own position is masked. -/
def corner (hr : (sh2 R 256).Iotas .tc 32 [0]) (hc : (sh2 R 256).Iotas .tc 32 [1]) (s : FVec Ideal (sh2 R 256) .f32) (x : Ideal .f32) : FVec Ideal (sh2 R 256) .f32 :=
  select (cmpi .sle (iota .tc (sh2 R 256) 32 [1] hc) (iota .tc (sh2 R 256) 32 [0] hr)) s (broadcast (sh2 R 256) x)

/-- The scores on the diagonal, the first 256 rows masked. -/
def masked (h : MaskOk R T) (s : FVec Ideal (sh2 R 256) .f32) (x : Ideal .f32) : FVec Ideal (sh2 R 256) .f32 :=
  concatenate (sh2 R 256) 0 [⟨sh2 256 256, corner h.rows h.cols (extractStridedSlice (sh2 256 256) ![0, 0] s h.top) x⟩,
    ⟨sh2 T 256, extractStridedSlice (sh2 T 256) ![256, 0] s h.rest⟩] h.cat

/-- A block's entry: key `j`, column `d`. -/
def keyAt (k : Vec Ideal (sh4 1 1 256 128) .bf16) (kr : Vec Ideal (sh3 1 256 128) .bf16) (j d : Fin 256) : EReal :=
  if hd : d.val < 128 then k (ix4 0 0 j ⟨d.val, hd⟩) else kr (ix3 0 j ⟨d.val - 128, by omega⟩)

theorem keys_apply (h : StepOk R) (k : Vec Ideal (sh4 1 1 256 128) .bf16) (kr : Vec Ideal (sh3 1 256 128) .bf16) (j d : Fin 256) :
    keys h k kr (ix2 j d) = keyAt k kr j d := by
  unfold keys keyAt
  pointwise

/-- The block of query rows without its two leading axes. -/
theorem squeeze_apply (h : StepOk R) (q : Vec Ideal (sh4 1 1 R 256) .bf16) (r : Fin R) (d : Fin 256) :
    shapeCast (sh2 R 256) q h.q (ix2 r d) = q (ix4 0 0 r d) := by
  refine shapeCast_apply q h.q _ _ ?_
  rw [Shape.rowMajor_val_four, Shape.rowMajor_val_two]
  show ((0 * 1 + 0) * R + r.val) * 256 + d.val = r.val * 256 + d.val
  simp only [Nat.zero_mul, Nat.zero_add]

theorem scores_apply (h : StepOk R) (q : Vec Ideal (sh4 1 1 R 256) .bf16) (k : Vec Ideal (sh4 1 1 256 128) .bf16) (kr : Vec Ideal (sh3 1 256 128) .bf16)
    (r : Fin R) (j : Fin 256) : scores h q k kr (ix2 r j) = ∑ d : Fin 256, q (ix4 0 0 r d) * keyAt k kr j d := by
  unfold scores
  simp only [matmul]
  refine (Ideal.matmul_transposedRhs_apply _ _ _ _ r j).trans ?_
  change (constant (sh2 R 256) .f32 0x00000000#32 : FVec Ideal (sh2 R 256) .f32) (ix2 r j)
    + ∑ d : Fin 256, shapeCast (sh2 R 256) q h.q (ix2 r d) * keys h k kr (ix2 j d) = _
  have hz : (constant (sh2 R 256) .f32 0x00000000#32 : FVec Ideal (sh2 R 256) .f32) (ix2 r j) = 0 := by pointwise
  rw [hz, zero_add]
  refine Finset.sum_congr rfl fun d _ => ?_
  rw [keys_apply, squeeze_apply h]

theorem rowMax_apply (h : StepOk R) (s : FVec Ideal (sh2 R 256) .f32) (r : Fin R) :
    multiReduction .maximumf [1] (⟨1, ![R]⟩ : Shape) s 0xFF800000#32 h.red (.inl rfl) rfl (ix1 r) = Finset.univ.sup fun j : Fin 256 => s (ix2 r j) := by
  pointwise
  have hb : Ideal.ofBits .f32 4286578688#32 = ⊥ := by simp [Ideal.ofBits, Ideal.ieee]
  rw [hb]
  rfl

/-- A column spread over 128 lanes. -/
theorem spread_apply (h : StepOk R) (x : FVec Ideal (⟨1, ![R]⟩ : Shape) .f32) (r : Fin R) (l : Fin 128) :
    broadcastTo (sh2 R 128) (shapeCast (sh2 R 1) x h.col) h.bro (ix2 r l) = x (ix1 r) := by
  have e : ∀ r' : Fin R, shapeCast (sh2 R 1) x h.col (ix2 r' 0) = x (ix1 r') := fun r' => by
    refine shapeCast_apply x h.col _ _ ?_
    rw [Shape.rowMajor_val_two, Shape.rowMajor_val_one]
    show r'.val = r'.val * 1 + 0
    omega
  have e2 : broadcastTo (sh2 R 128) (shapeCast (sh2 R 1) x h.col) h.bro (ix2 r l) = shapeCast (sh2 R 1) x h.col (ix2 r 0) := by
    generalize shapeCast (sh2 R 1) x h.col = y
    pointwise
    by_cases h1 : R = 1
    · subst h1
      rw [Subsingleton.elim r 0]
      rfl
    · exact congrArg (fun r' => y (ix2 r' 0)) (dif_neg h1)
  rw [e2, e]

theorem newMax_apply (h : StepOk R) (s : FVec Ideal (sh2 R 256) .f32) (m : FVec Ideal (sh2 R 128) .f32) (r : Fin R) (l : Fin 128) :
    newMax h s m (ix2 r l) = max (m (ix2 r l)) (Finset.univ.sup fun j : Fin 256 => s (ix2 r j)) := by
  unfold newMax
  rw [ValueIdx.maximumf_apply, spread_apply h, rowMax_apply h]

theorem corner_apply (hR : R ≤ 4096) (hr : (sh2 R 256).Iotas .tc 32 [0]) (hc : (sh2 R 256).Iotas .tc 32 [1]) (s : FVec Ideal (sh2 R 256) .f32) (x : Ideal .f32)
    (r : Fin R) (j : Fin 256) : corner hr hc s x (ix2 r j) = if r.val < j.val then x else s (ix2 r j) := by
  unfold corner
  pointwise
  have hle : IntOp.cmpi CmpIPredicate.sle (BitVec.ofNat 32 j.val) (BitVec.ofNat 32 r.val) = BitVec.ofBool (decide (j.val ≤ r.val)) := by
    have hj := j.isLt
    have hr := r.isLt
    show BitVec.ofBool (BitVec.sle _ _) = _
    rw [BitVec.sle_eq_decide, BitVec.toInt_ofNat', BitVec.toInt_ofNat', Int.bmod_eq_of_le (by omega) (by omega), Int.bmod_eq_of_le (by omega) (by omega)]
    simp only [Nat.cast_le]
  rw [hle]
  by_cases hlt : r.val < j.val
  · rw [if_pos hlt, decide_eq_false (by omega)]; rfl
  · rw [if_neg hlt, decide_eq_true (by omega)]; rfl

theorem masked_apply (h : MaskOk R T) (s : FVec Ideal (sh2 R 256) .f32) (x : Ideal .f32) (r : Fin R) (j : Fin 256) :
    masked h s x (ix2 r j) = if r.val < 256 ∧ r.val < j.val then x else s (ix2 r j) := by
  have hs : ∀ r' : Fin 256, ∀ hr : r'.val < R, extractStridedSlice (sh2 256 256) ![0, 0] s h.top (ix2 r' j) = s (ix2 ⟨r'.val, hr⟩ j) := fun r' hr => by pointwise
  unfold masked
  generalize hcr : corner h.rows h.cols (extractStridedSlice (sh2 256 256) ![0, 0] s h.top) x = cr
  pointwise
  by_cases hr : r.val < 256
  · rw [dif_pos hr, ← hcr, corner_apply (by decide), hs _ r.isLt]
    by_cases hj : r.val < j.val
    · rw [if_pos hj, if_pos ⟨hr, hj⟩]
    · rw [if_neg hj, if_neg (fun c => hj c.2)]
  · rw [dif_neg hr]
    refine Eq.trans ?_ (if_neg (fun c : r.val < 256 ∧ r.val < j.val => hr c.1)).symm
    exact congrArg (fun r' => s (ix2 r' j)) (Fin.ext (by show 256 + (r.val - 256) = r.val; omega))

theorem wide_apply (h : StepOk R) (x : FVec Ideal (sh2 R 128) .f32) (r : Fin R) (d : Fin 256) (hx : ∀ l l', x (ix2 r l) = x (ix2 r l')) :
    concatenate (sh2 R 256) 1 [⟨sh2 R 128, x⟩, ⟨sh2 R 128, x⟩] h.wide (ix2 r d) = x (ix2 r 0) := by
  pointwise
  split
  · exact hx _ _
  · exact hx _ _

theorem values_apply (h : StepOk R) (v : Vec Ideal (sh4 1 1 256 128) .bf16) (j d : Fin 256) :
    concatenate (sh2 256 256) 1 [⟨sh2 256 128, shapeCast (sh2 256 128) v h.k⟩,
        ⟨sh2 256 128, broadcast (sh2 256 128) (Scalar.ofBits .bf16 0x3F80#16 : Ideal .bf16)⟩] h.cat (ix2 j d)
      = if hd : d.val < 128 then v (ix4 0 0 j ⟨d.val, hd⟩) else (1 : EReal) := by
  pointwise

theorem newAcc_apply (h : StepOk R) (s : FVec Ideal (sh2 R 256) .f32) (m mx : FVec Ideal (sh2 R 128) .f32) (v : Vec Ideal (sh4 1 1 256 128) .bf16)
    (a : FVec Ideal (sh2 R 256) .f32) (r : Fin R) (d : Fin 256) (hm : ∀ l l', m (ix2 r l) = m (ix2 r l')) (hmx : ∀ l l', mx (ix2 r l) = mx (ix2 r l')) :
    newAcc h s m mx v a (ix2 r d) = Ideal.exp2 (m (ix2 r 0) - mx (ix2 r 0)) * a (ix2 r d)
      + ∑ j : Fin 256, Ideal.exp2 (s (ix2 r j) - mx (ix2 r 0)) * (if hd : d.val < 128 then v (ix4 0 0 j ⟨d.val, hd⟩) else 1) := by
  unfold newAcc
  simp only [matmul, ValueIdx.addf_apply, ValueIdx.mulf_apply]
  have hmm := fun l r' => Ideal.matmul_plain_apply (M := R) (K := 256) (N := 256) (φ₁ := .bf16) (φ₂ := .bf16) none l r'
    (constant (sh2 R 256) .f32 0x00000000#32) r d
  change ∀ l r', FloatOps.matmul _ _ l r' _ (ix2 r d) = (constant (sh2 R 256) .f32 0x00000000#32 : FVec Ideal (sh2 R 256) .f32) (ix2 r d)
    + ∑ j : Fin 256, l (ix2 r j) * r' (ix2 j d) at hmm
  have hz : (constant (sh2 R 256) .f32 0x00000000#32 : FVec Ideal (sh2 R 256) .f32) (ix2 r d) = 0 := by pointwise
  rw [hmm, hz, zero_add, wide_apply h _ r d (fun l l' => ?_)]
  · refine congrArg₂ (· + ·) rfl (Finset.sum_congr rfl fun j _ => ?_)
    rw [values_apply h]
    refine congrArg (fun x => Ideal.exp2 (s (ix2 r j) - x) * _) (wide_apply h mx r j hmx)
  · show Ideal.exp2 (m (ix2 r l) - mx (ix2 r l)) = Ideal.exp2 (m (ix2 r l') - mx (ix2 r l'))
    rw [hm l l', hmx l l']

end Cert.Attn
-- ==== Proof.Trip.lean ====
/-
  ONE TRIP OF THE KERNEL'S LOOP OVER EARLIER TILES. A trip meets 4096 keys in sixteen blocks of 256; each block loads the
  running maxima and sums, and stores them anew over the whole scratch. `trace` lists those stores for any sixteen score
  blocks; the generated trip's stores are this list (`trip_eq`).
-/
module

public import proofs.«01_k».proof.Proof.Step
public import proofs.«01_k».proof.Proof.Gen.KernelIdeal.Loops

@[expose] public section

set_option maxRecDepth 65536

noncomputable section

namespace Cert.Attn

open Idealize.ShloMosaic Idealize.ShloMosaic.TcCoe Idealize.SL.Sem
open Cert.KernelIdeal Cert.KernelIdeal.Gen
open scoped BigOperators

theorem ok4096 : StepOk 4096 where
  q := shapeCasts_S1x1x4096x256_S4096x256
  k := shapeCasts_S1x1x256x128_S256x128
  kr := shapeCasts_S1x256x128_S256x128
  cat := concatenates_S256x128_S256x128_S256x256_d1
  red := reduces_S4096x256_S4096
  col := shapeCasts_S4096_S4096x1
  bro := broadcasts_S4096x1_S4096x128
  wide := concatenates_S4096x128_S4096x128_S4096x256_d1
  self8 := shapeCasts_S4096x128_S4096x128
  self9 := shapeCasts_S4096x256_S4096x256

/-- Stores into the maxima's scratch. -/
abbrev Maxes := List (View.Piece (Elt Ideal) S4096x128 .f32)
/-- Stores into the sums' scratch. -/
abbrev Accs := List (View.Piece (Elt Ideal) S4096x256 .f32)

/-- The whole scratch of maxima. -/
abbrev rect8 : Rect S4096x128 := Rect.unit (s := S4096x128) ![0, 0] S4096x128.size inb_S4096x128_S4096x128_0_0
/-- The whole scratch of sums. -/
abbrev rect9 : Rect S4096x256 := Rect.unit (s := S4096x256) ![0, 0] S4096x256.size inb_S4096x256_S4096x256_0_0

variable (arg8 : Memref sig .tc .vmem S4096x128 .f32) (arg9 : Memref sig .tc .vmem S4096x256 .f32)
variable (f8 : BufTy.Contents (Elt Ideal) arg8.view.ty) (f9 : BufTy.Contents (Elt Ideal) arg9.view.ty)

/-- What a load of the maxima reads after these stores. -/
def load8 : Maxes → FVec Ideal S4096x128 .f32
  | [] => View.readAt (Elt Ideal) arg8.view rect8.toLoadRect f8
  | p :: L => arg8.view.readCov (p :: L) rect8.toLoadRect
/-- What a load of the sums reads after these stores. -/
def load9 : Accs → FVec Ideal S4096x256 .f32
  | [] => View.readAt (Elt Ideal) arg9.view rect9.toLoadRect f9
  | p :: L => arg9.view.readCov (p :: L) rect9.toLoadRect

/-- The stores after `n` blocks, with the scores `s` and the values `v` of each block. -/
def trace (s : Fin 16 → FVec Ideal S4096x256 .f32) (v : Fin 16 → Vec Ideal S1x1x256x128 .bf16) : (n : ℕ) → n ≤ 16 → Maxes × Accs
  | 0, _ => ([], [])
  | n + 1, h =>
    (⟨rect8, shapeCast (sh2 4096 128) (newMax ok4096 (s ⟨n, h⟩) (load8 arg8 f8 (trace s v n (Nat.le_of_succ_le h)).1)) ok4096.self8⟩ :: (trace s v n (Nat.le_of_succ_le h)).1,
     ⟨rect9, shapeCast (sh2 4096 256) (newAcc ok4096 (s ⟨n, h⟩) (load8 arg8 f8 (trace s v n (Nat.le_of_succ_le h)).1)
        (newMax ok4096 (s ⟨n, h⟩) (load8 arg8 f8 (trace s v n (Nat.le_of_succ_le h)).1)) (v ⟨n, h⟩)
        (load9 arg9 f9 (trace s v n (Nat.le_of_succ_le h)).2)) ok4096.self9⟩ :: (trace s v n (Nat.le_of_succ_le h)).2)

variable (𝒱 : Variants) (c : Dev nD) (bd : Option 𝒱.V) (i : grid0.Coords)
  (arg3 : Memref sig .tc .vmem S1x1x4096x256 .bf16) (harg3 : arg3.IsWhole) (arg4 : Memref sig .tc .vmem S1x1x8192x128 .bf16) (harg4 : arg4.IsWhole)
  (arg5 : Memref sig .tc .vmem S1x8192x128 .bf16) (harg5 : arg5.IsWhole) (arg6 : Memref sig .tc .vmem S1x1x8192x128 .bf16) (harg6 : arg6.IsWhole)
  (arg7 : Memref sig .tc .vmem S1x1x4096x128 .bf16) (harg7 : arg7.IsWhole) (harg8 : arg8.IsWhole) (harg9 : arg9.IsWhole)
  (x3 : BufTy.Contents (Elt Ideal) arg3.view.ty) (x4 : BufTy.Contents (Elt Ideal) arg4.view.ty)
  (x5 : BufTy.Contents (Elt Ideal) arg5.view.ty) (x6 : BufTy.Contents (Elt Ideal) arg6.view.ty)

/-- The scores of the trip's block `r`. -/
def tripScores (k : Fin (k0_t1_loop i).trips) (r : Fin 16) : FVec Ideal S4096x256 .f32 :=
  scores ok4096 (View.readAt (Elt Ideal) arg3.view (Rect.unit (s := S1x1x4096x256) ![0, 0, 0, 0] S1x1x4096x256.size inb_S1x1x4096x256_S1x1x4096x256_0_0_0_0).toLoadRect x3)
    (View.readAt (Elt Ideal) arg4.view (Rect.unit (s := S1x1x8192x128) (k0_off1 i k (BitVec.ofNat 32 (256 * r.val))) S1x1x256x128.size (k0_off1_inb i k r)).toLoadRect x4)
    (View.readAt (Elt Ideal) arg5.view (Rect.unit (s := S1x8192x128) (k0_off2 i k (BitVec.ofNat 32 (256 * r.val))) S1x256x128.size (k0_off2_inb i k r)).toLoadRect x5)

/-- The values of the trip's block `r`. -/
def tripValues (k : Fin (k0_t1_loop i).trips) (r : Fin 16) : Vec Ideal S1x1x256x128 .bf16 :=
  View.readAt (Elt Ideal) arg6.view (Rect.unit (s := S1x1x8192x128) (k0_off1 i k (BitVec.ofNat 32 (256 * r.val))) S1x1x256x128.size (k0_off1_inb i k r)).toLoadRect x6

open trip_k0_t1.sl in
theorem trip_eq (k : Fin (k0_t1_loop i).trips) :
    tripL_k0_t1 (F := Ideal) 𝒱 c bd i arg3 harg3 arg4 harg4 arg5 harg5 arg6 harg6 arg7 harg7 arg8 harg8 arg9 harg9 x3 x4 x5 x6 k f8 f9
      = trace arg8 arg9 f8 f9 (tripScores i arg3 arg4 arg5 x3 x4 x5 k) (tripValues i arg6 x6 k) 16 le_rfl := by
  unfold tripL_k0_t1 trip_k0_t1
  dsimp only
  rfl

end Cert.Attn
-- ==== Proof.Diag.lean ====
/-
  THE DIAGONAL TILE. After the loop the kernel meets the tile's own 4096 keys in sixteen blocks of 256; block `n` touches
  only the rows from 256·n on, and masks the first 256 of them. `diagTrace` lists the stores; the kernel's own stores are
  this list (`diag_eq`).
-/
module

public import proofs.«01_k».proof.Proof.Trip
public import proofs.«01_k».proof.Proof.Gen.KernelIdeal.Frame

@[expose] public section

set_option maxRecDepth 65536

noncomputable section

namespace Cert.Attn

open Idealize.ShloMosaic Idealize.ShloMosaic.TcCoe Idealize.SL.Sem
open Cert.KernelIdeal Cert.KernelIdeal.Gen
open scoped BigOperators

/-- The rows that block `n` of the diagonal touches. -/
abbrev left (n : ℕ) : ℕ := 4096 - 256 * n

theorem okLeft (n : Fin 16) : StepOk (left n.val) where
  q := (by decide +kernel : ∀ n : Fin 16, (sh4 1 1 (left n.val) 256).ShapeCasts (sh2 (left n.val) 256)) n
  k := shapeCasts_S1x1x256x128_S256x128
  kr := shapeCasts_S1x256x128_S256x128
  cat := concatenates_S256x128_S256x128_S256x256_d1
  red := (by decide +kernel : ∀ n : Fin 16, (sh2 (left n.val) 256).Reduces [1] (⟨1, ![left n.val]⟩ : Shape)) n
  col := (by decide +kernel : ∀ n : Fin 16, (⟨1, ![left n.val]⟩ : Shape).ShapeCasts (sh2 (left n.val) 1)) n
  bro := (by decide +kernel : ∀ n : Fin 16, (sh2 (left n.val) 1).Broadcasts (sh2 (left n.val) 128)) n
  wide := (by decide +kernel : ∀ n : Fin 16, Shape.Concatenates [sh2 (left n.val) 128, sh2 (left n.val) 128] (sh2 (left n.val) 256) 1) n
  self8 := (by decide +kernel : ∀ n : Fin 16, (sh2 (left n.val) 128).ShapeCasts (sh2 (left n.val) 128)) n
  self9 := (by decide +kernel : ∀ n : Fin 16, (sh2 (left n.val) 256).ShapeCasts (sh2 (left n.val) 256)) n

theorem maskLeft (n : Fin 15) : MaskOk (left n.val) (left (n.val + 1)) where
  top := (by decide +kernel : ∀ n : Fin 15, (sh2 (left n.val) 256).Slices ![0, 0] (sh2 256 256)) n
  rest := (by decide +kernel : ∀ n : Fin 15, (sh2 (left n.val) 256).Slices ![256, 0] (sh2 (left (n.val + 1)) 256)) n
  cat := (by decide +kernel : ∀ n : Fin 15, Shape.Concatenates [sh2 256 256, sh2 (left (n.val + 1)) 256] (sh2 (left n.val) 256) 0) n
  rows := iota_S256x256_d0_w32
  cols := iota_S256x256_d1_w32

theorem lastRows : ∀ n : Fin 16, ¬ n.val < 15 → (sh2 (left n.val) 256).Iotas .tc 32 [0] := by decide +kernel
theorem lastCols : ∀ n : Fin 16, ¬ n.val < 15 → (sh2 (left n.val) 256).Iotas .tc 32 [1] := by decide +kernel

/-- The scores of block `n` of the diagonal, masked. -/
def diagMask (n : Fin 16) (s : FVec Ideal (sh2 (left n.val) 256) .f32) : FVec Ideal (sh2 (left n.val) 256) .f32 :=
  if h : n.val < 15 then masked (maskLeft ⟨n.val, h⟩) s (Named.named κ "mask" 0xF149F2CA#32 : Ideal .f32)
  else corner (lastRows n h) (lastCols n h) s (Named.named κ "mask" 0xF149F2CA#32 : Ideal .f32)

/-- The rows of the maxima's scratch that block `n` touches. -/
abbrev low8 (n : Fin 16) : Rect S4096x128 := Rect.unit (s := S4096x128) ![256 * n.val, 0] (sh2 (left n.val) 128).size
  ((by decide +kernel : ∀ n : Fin 16, ∀ a, (![256 * n.val, 0] : Fin 2 → ℕ) a + (sh2 (left n.val) 128).size a ≤ S4096x128.size a) n)
/-- The rows of the sums' scratch that block `n` touches. -/
abbrev low9 (n : Fin 16) : Rect S4096x256 := Rect.unit (s := S4096x256) ![256 * n.val, 0] (sh2 (left n.val) 256).size
  ((by decide +kernel : ∀ n : Fin 16, ∀ a, (![256 * n.val, 0] : Fin 2 → ℕ) a + (sh2 (left n.val) 256).size a ≤ S4096x256.size a) n)

variable (arg8 : Memref sig .tc .vmem S4096x128 .f32) (arg9 : Memref sig .tc .vmem S4096x256 .f32)

/-- The stores of block `n`, from the maxima and sums it loads. -/
def diagStep (n : Fin 16) (s : FVec Ideal (sh2 (left n.val) 256) .f32) (v : Vec Ideal S1x1x256x128 .bf16)
    (m : FVec Ideal (sh2 (left n.val) 128) .f32) (a : FVec Ideal (sh2 (left n.val) 256) .f32) (prev : Maxes × Accs) : Maxes × Accs :=
  (⟨low8 n, shapeCast (sh2 (left n.val) 128) (newMax (okLeft n) (diagMask n s) m) (okLeft n).self8⟩ :: prev.1,
   ⟨low9 n, shapeCast (sh2 (left n.val) 256) (newAcc (okLeft n) (diagMask n s) m (newMax (okLeft n) (diagMask n s) m) v a) (okLeft n).self9⟩ :: prev.2)

/-- The stores after `n` blocks of the diagonal, from the stores `L` before it. -/
def diagTrace (L : Maxes × Accs) (s : (n : Fin 16) → FVec Ideal (sh2 (left n.val) 256) .f32) (v : Fin 16 → Vec Ideal S1x1x256x128 .bf16) :
    (n : ℕ) → n ≤ 16 → Maxes × Accs
  | 0, _ => L
  | n + 1, h => diagStep ⟨n, h⟩ (s ⟨n, h⟩) (v ⟨n, h⟩) (arg8.view.readCov (diagTrace L s v n (Nat.le_of_succ_le h)).1 (low8 ⟨n, h⟩).toLoadRect)
      (arg9.view.readCov (diagTrace L s v n (Nat.le_of_succ_le h)).2 (low9 ⟨n, h⟩).toLoadRect) (diagTrace L s v n (Nat.le_of_succ_le h))

theorem diagTrace_succ (L : Maxes × Accs) (s : (n : Fin 16) → FVec Ideal (sh2 (left n.val) 256) .f32) (v : Fin 16 → Vec Ideal S1x1x256x128 .bf16)
    (n : ℕ) (h : n + 1 ≤ 16) : diagTrace arg8 arg9 L s v (n + 1) h
      = diagStep ⟨n, h⟩ (s ⟨n, h⟩) (v ⟨n, h⟩) (arg8.view.readCov (diagTrace arg8 arg9 L s v n (Nat.le_of_succ_le h)).1 (low8 ⟨n, h⟩).toLoadRect)
        (arg9.view.readCov (diagTrace arg8 arg9 L s v n (Nat.le_of_succ_le h)).2 (low9 ⟨n, h⟩).toLoadRect) (diagTrace arg8 arg9 L s v n (Nat.le_of_succ_le h)) := rfl

variable (c : Dev nD) (i : grid0.Coords)
  (arg3 : Memref sig .tc .vmem S1x1x4096x256 .bf16) (harg3 : arg3.IsWhole) (arg4 : Memref sig .tc .vmem S1x1x8192x128 .bf16) (harg4 : arg4.IsWhole)
  (arg5 : Memref sig .tc .vmem S1x8192x128 .bf16) (harg5 : arg5.IsWhole) (arg6 : Memref sig .tc .vmem S1x1x8192x128 .bf16) (harg6 : arg6.IsWhole)
  (arg7 : Memref sig .tc .vmem S1x1x4096x128 .bf16) (harg7 : arg7.IsWhole) (harg8 : arg8.IsWhole) (harg9 : arg9.IsWhole)
  (x0 : Vec Ideal S1x1x4096x256 .bf16) (x1 : Vec Ideal S1x1x8192x128 .bf16) (x2 : Vec Ideal S1x8192x128 .bf16) (x3 : Vec Ideal S1x1x8192x128 .bf16)

/-- The scores of the diagonal's block `n`, before the mask. -/
def diagScores (n : Fin 16) : FVec Ideal (sh2 (left n.val) 256) .f32 :=
  scores (okLeft n) (View.readAt (Elt Ideal) arg3.view (Rect.unit (s := S1x1x4096x256) ![0, 0, 256 * n.val, 0] (sh4 1 1 (left n.val) 256).size
      ((by decide +kernel : ∀ n : Fin 16, ∀ a, (![0, 0, 256 * n.val, 0] : Fin 4 → ℕ) a + (sh4 1 1 (left n.val) 256).size a ≤ S1x1x4096x256.size a) n)).toLoadRect (harg3.unread x0))
    (View.readAt (Elt Ideal) arg4.view (Rect.unit (s := S1x1x8192x128) (k0_off5 i (BitVec.ofNat 32 (256 * n.val))) S1x1x256x128.size (k0_off5_inb i n)).toLoadRect (harg4.unread x1))
    (View.readAt (Elt Ideal) arg5.view (Rect.unit (s := S1x8192x128) (k0_off6 i (BitVec.ofNat 32 (256 * n.val))) S1x256x128.size (k0_off6_inb i n)).toLoadRect (harg5.unread x2))

/-- The values of the diagonal's block `n`. -/
def diagValues (n : Fin 16) : Vec Ideal S1x1x256x128 .bf16 :=
  View.readAt (Elt Ideal) arg6.view (Rect.unit (s := S1x1x8192x128) (k0_off5 i (BitVec.ofNat 32 (256 * n.val))) S1x1x256x128.size (k0_off5_inb i n)).toLoadRect (harg6.unread x3)

/-- The stores of the kernel's start: the maxima at the mask, the sums at zero. -/
def start : Maxes × Accs := ([⟨rect8, k0_pay176 (F := Ideal)⟩], [⟨rect9, k0_pay177 (F := Ideal)⟩])

/-- The stores before the diagonal: the start, and the loop's. -/
def before : Maxes × Accs :=
  let g8 := arg8.view.writes (Elt Ideal) arg8.view.junk start.1
  let g9 := arg9.view.writes (Elt Ideal) arg9.view.junk start.2
  let t1 := pb_k0_t1 (F := Ideal) Variants.none c none i arg3 harg3 arg4 harg4 arg5 harg5 arg6 harg6 arg7 harg7 arg8 harg8 arg9 harg9
    (harg3.unread x0) (harg4.unread x1) (harg5.unread x2) (harg6.unread x3) g8 g9 (Scf.trips (k0_t1_loop i).lb (k0_t1_loop i).ub (k0_t1_loop i).st)
  let t2 := pb_k0_t2 (F := Ideal) Variants.none c none i arg3 harg3 arg4 harg4 arg5 harg5 arg6 harg6 arg7 harg7 arg8 harg8 arg9 harg9 (kernelRun0_A.sl.v12 i)
    (harg3.unread x0) (harg4.unread x1) (harg5.unread x2) (harg6.unread x3)
    (arg8.view.writes (Elt Ideal) arg8.view.junk (t1.1 ++ start.1)) (arg9.view.writes (Elt Ideal) arg9.view.junk (t1.2 ++ start.2))
    (Scf.trips (k0_t2_loop i).lb (k0_t2_loop i).ub (k0_t2_loop i).st)
  (t2.1 ++ (t1.1 ++ start.1), t2.2 ++ (t1.2 ++ start.2))

/-- The stores after `n` blocks of the diagonal, of the kernel's own scores and values. -/
def diagAfter (n : ℕ) (h : n ≤ 16) : Maxes × Accs :=
  diagTrace arg8 arg9 (before arg8 arg9 c i arg3 harg3 arg4 harg4 arg5 harg5 arg6 harg6 arg7 harg7 harg8 harg9 x0 x1 x2 x3)
    (diagScores i arg3 harg3 arg4 harg4 arg5 harg5 x0 x1 x2) (diagValues i arg6 harg6 x3) n h

theorem diagAfter_succ (n : ℕ) (h : n + 1 ≤ 16) (L : Maxes × Accs)
    (e : L = diagAfter arg8 arg9 c i arg3 harg3 arg4 harg4 arg5 harg5 arg6 harg6 arg7 harg7 harg8 harg9 x0 x1 x2 x3 n (Nat.le_of_succ_le h)) :
    diagAfter arg8 arg9 c i arg3 harg3 arg4 harg4 arg5 harg5 arg6 harg6 arg7 harg7 harg8 harg9 x0 x1 x2 x3 (n + 1) h
      = diagStep ⟨n, h⟩ (diagScores i arg3 harg3 arg4 harg4 arg5 harg5 x0 x1 x2 ⟨n, h⟩) (diagValues i arg6 harg6 x3 ⟨n, h⟩)
        (arg8.view.readCov L.1 (low8 ⟨n, h⟩).toLoadRect) (arg9.view.readCov L.2 (low9 ⟨n, h⟩).toLoadRect) L := by
  subst e
  exact diagTrace_succ ..

open kernelRun0_A.sl

theorem diag1 : (HS0_1_1 (F := Ideal) c i arg3 harg3 arg4 harg4 arg5 harg5 arg6 harg6 arg7 harg7 arg8 harg8 arg9 harg9 x0 x1 x2 x3,
    HS1_1_1 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 1 (by decide) := by
  refine Eq.trans ?_ (diagAfter_succ (n := 0) (h := by decide) (e := rfl) ..).symm
  exact Prod.ext (by rfl) (by rfl)

attribute [local irreducible] HS0_1_1 HS1_1_1 in
theorem diag2 : (HS0_2 (F := Ideal) c i arg3 harg3 arg4 harg4 arg5 harg5 arg6 harg6 arg7 harg7 arg8 harg8 arg9 harg9 x0 x1 x2 x3,
    HS1_2 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 2 (by decide) := by
  refine Eq.trans ?_ (diagAfter_succ (n := 1) (h := by decide) (e := diag1 ..) ..).symm
  exact Prod.ext (by rfl) (by rfl)

attribute [local irreducible] HS0_2 HS1_2 in
theorem diag3 : (HS0_3 (F := Ideal) c i arg3 harg3 arg4 harg4 arg5 harg5 arg6 harg6 arg7 harg7 arg8 harg8 arg9 harg9 x0 x1 x2 x3,
    HS1_3 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 3 (by decide) := by
  refine Eq.trans ?_ (diagAfter_succ (n := 2) (h := by decide) (e := diag2 ..) ..).symm
  exact Prod.ext (by rfl) (by rfl)

attribute [local irreducible] HS0_3 HS1_3 in
theorem diag4 : (HS0_4 (F := Ideal) c i arg3 harg3 arg4 harg4 arg5 harg5 arg6 harg6 arg7 harg7 arg8 harg8 arg9 harg9 x0 x1 x2 x3,
    HS1_4 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 4 (by decide) := by
  refine Eq.trans ?_ (diagAfter_succ (n := 3) (h := by decide) (e := diag3 ..) ..).symm
  exact Prod.ext (by rfl) (by rfl)

attribute [local irreducible] HS0_4 HS1_4 in
theorem diag5 : (HS0_5 (F := Ideal) c i arg3 harg3 arg4 harg4 arg5 harg5 arg6 harg6 arg7 harg7 arg8 harg8 arg9 harg9 x0 x1 x2 x3,
    HS1_5 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 5 (by decide) := by
  refine Eq.trans ?_ (diagAfter_succ (n := 4) (h := by decide) (e := diag4 ..) ..).symm
  exact Prod.ext (by rfl) (by rfl)

attribute [local irreducible] HS0_5 HS1_5 in
theorem diag6 : (HS0_6 (F := Ideal) c i arg3 harg3 arg4 harg4 arg5 harg5 arg6 harg6 arg7 harg7 arg8 harg8 arg9 harg9 x0 x1 x2 x3,
    HS1_6 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 6 (by decide) := by
  refine Eq.trans ?_ (diagAfter_succ (n := 5) (h := by decide) (e := diag5 ..) ..).symm
  exact Prod.ext (by rfl) (by rfl)

attribute [local irreducible] HS0_6 HS1_6 in
theorem diag7 : (HS0_7 (F := Ideal) c i arg3 harg3 arg4 harg4 arg5 harg5 arg6 harg6 arg7 harg7 arg8 harg8 arg9 harg9 x0 x1 x2 x3,
    HS1_7 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 7 (by decide) := by
  refine Eq.trans ?_ (diagAfter_succ (n := 6) (h := by decide) (e := diag6 ..) ..).symm
  exact Prod.ext (by rfl) (by rfl)

attribute [local irreducible] HS0_7 HS1_7 in
theorem diag8 : (HS0_8 (F := Ideal) c i arg3 harg3 arg4 harg4 arg5 harg5 arg6 harg6 arg7 harg7 arg8 harg8 arg9 harg9 x0 x1 x2 x3,
    HS1_8 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 8 (by decide) := by
  refine Eq.trans ?_ (diagAfter_succ (n := 7) (h := by decide) (e := diag7 ..) ..).symm
  exact Prod.ext (by rfl) (by rfl)

attribute [local irreducible] HS0_8 HS1_8 in
theorem diag9 : (HS0_9 (F := Ideal) c i arg3 harg3 arg4 harg4 arg5 harg5 arg6 harg6 arg7 harg7 arg8 harg8 arg9 harg9 x0 x1 x2 x3,
    HS1_9 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 9 (by decide) := by
  refine Eq.trans ?_ (diagAfter_succ (n := 8) (h := by decide) (e := diag8 ..) ..).symm
  exact Prod.ext (by rfl) (by rfl)

attribute [local irreducible] HS0_9 HS1_9 in
theorem diag10 : (HS0_10 (F := Ideal) c i arg3 harg3 arg4 harg4 arg5 harg5 arg6 harg6 arg7 harg7 arg8 harg8 arg9 harg9 x0 x1 x2 x3,
    HS1_10 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 10 (by decide) := by
  refine Eq.trans ?_ (diagAfter_succ (n := 9) (h := by decide) (e := diag9 ..) ..).symm
  exact Prod.ext (by rfl) (by rfl)

attribute [local irreducible] HS0_10 HS1_10 in
theorem diag11 : (HS0_11 (F := Ideal) c i arg3 harg3 arg4 harg4 arg5 harg5 arg6 harg6 arg7 harg7 arg8 harg8 arg9 harg9 x0 x1 x2 x3,
    HS1_11 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 11 (by decide) := by
  refine Eq.trans ?_ (diagAfter_succ (n := 10) (h := by decide) (e := diag10 ..) ..).symm
  exact Prod.ext (by rfl) (by rfl)

attribute [local irreducible] HS0_11 HS1_11 in
theorem diag12 : (HS0_12 (F := Ideal) c i arg3 harg3 arg4 harg4 arg5 harg5 arg6 harg6 arg7 harg7 arg8 harg8 arg9 harg9 x0 x1 x2 x3,
    HS1_12 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 12 (by decide) := by
  refine Eq.trans ?_ (diagAfter_succ (n := 11) (h := by decide) (e := diag11 ..) ..).symm
  exact Prod.ext (by rfl) (by rfl)

attribute [local irreducible] HS0_12 HS1_12 in
theorem diag13 : (HS0_13 (F := Ideal) c i arg3 harg3 arg4 harg4 arg5 harg5 arg6 harg6 arg7 harg7 arg8 harg8 arg9 harg9 x0 x1 x2 x3,
    HS1_13 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 13 (by decide) := by
  refine Eq.trans ?_ (diagAfter_succ (n := 12) (h := by decide) (e := diag12 ..) ..).symm
  exact Prod.ext (by rfl) (by rfl)

attribute [local irreducible] HS0_13 HS1_13 in
theorem diag14 : (HS0_14 (F := Ideal) c i arg3 harg3 arg4 harg4 arg5 harg5 arg6 harg6 arg7 harg7 arg8 harg8 arg9 harg9 x0 x1 x2 x3,
    HS1_14 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 14 (by decide) := by
  refine Eq.trans ?_ (diagAfter_succ (n := 13) (h := by decide) (e := diag13 ..) ..).symm
  exact Prod.ext (by rfl) (by rfl)

attribute [local irreducible] HS0_14 HS1_14 in
theorem diag15 : (HS0_15 (F := Ideal) c i arg3 harg3 arg4 harg4 arg5 harg5 arg6 harg6 arg7 harg7 arg8 harg8 arg9 harg9 x0 x1 x2 x3,
    HS1_15 (F := Ideal) c i arg3 harg3 arg4 harg4 arg5 harg5 arg6 harg6 arg7 harg7 arg8 harg8 arg9 harg9 x0 x1 x2 x3)
    = diagAfter arg8 arg9 c i arg3 harg3 arg4 harg4 arg5 harg5 arg6 harg6 arg7 harg7 harg8 harg9 x0 x1 x2 x3 15 (by decide) := by
  refine Eq.trans ?_ (diagAfter_succ (n := 14) (h := by decide) (e := diag14 ..) ..).symm
  exact Prod.ext (by rfl) (by rfl)

attribute [local irreducible] HS0_15 HS1_15 in
theorem diag16 : HS1_16 (F := Ideal) c i arg3 harg3 arg4 harg4 arg5 harg5 arg6 harg6 arg7 harg7 arg8 harg8 arg9 harg9 x0 x1 x2 x3
    = (diagAfter arg8 arg9 c i arg3 harg3 arg4 harg4 arg5 harg5 arg6 harg6 arg7 harg7 harg8 harg9 x0 x1 x2 x3 16 (by decide)).2 := by
  refine Eq.trans ?_ (congrArg Prod.snd (diagAfter_succ (n := 15) (h := by decide) (e := diag15 ..) ..)).symm
  rfl

theorem diag_eq :
    (kernelRun0_A (F := Ideal) c i arg3 harg3 arg4 harg4 arg5 harg5 arg6 harg6 arg7 harg7 arg8 harg8 arg9 harg9 x0 x1 x2 x3).1
      = [⟨Rect.unit (s := S1x1x4096x128) ![0, 0, 0, 0] S1x1x4096x128.size inb_S1x1x4096x128_S1x1x4096x128_0_0_0_0,
          k0_pay1 (k0_pay281 (arg9.view.readCov (diagAfter arg8 arg9 c i arg3 harg3 arg4 harg4 arg5 harg5 arg6 harg6 arg7 harg7 harg8 harg9 x0 x1 x2 x3 16 le_rfl).2
            rect9.toLoadRect))⟩] := by
  rw [← diag16]
  rfl

end Cert.Attn
-- ==== Proof.State.lean ====
/-
  WHAT THE SCRATCH HOLDS. After the first `K` keys every row of the scratch holds its running maximum (in all 128 columns)
  and its running sums (`Holds`). A block of 256 keys keeps this (`Holds.step`); so does a trip of the loop (`trace_holds`)
  and so does the diagonal (`diag_holds`), where a block leaves alone the rows that see none of its keys.
-/
module

public import proofs.«01_k».proof.Proof.Online
public import proofs.«01_k».proof.Proof.Diag
public import Idealize.ShloMosaic.Lib.VecWindow
public import Idealize.ShloMosaic.Lib.WritesUnit

@[expose] public section

set_option maxRecDepth 65536

noncomputable section

namespace Cert.Attn

open Idealize.ShloMosaic Idealize.ShloMosaic.TcCoe Idealize.SL.Sem
open Cert.KernelIdeal Cert.KernelIdeal.Gen
open scoped BigOperators

/-- Every row's maximum and sums after the first `K` keys, of the rows' scores `s` and the columns' values `v`. -/
structure Holds {R : ℕ} (m : FVec Ideal (sh2 R 128) .f32) (a : FVec Ideal (sh2 R 256) .f32) (s : Fin R → ℕ → EReal) (v : Fin 256 → ℕ → EReal) (K : ℕ) : Prop where
  max : ∀ r l, m (ix2 r l) = rowMax (s r) K
  sum : ∀ r d, a (ix2 r d) = rowSum (s r) (v d) K

/-- The values of a block, the ones of the weights' columns included. -/
abbrev valueAt (w : Vec Ideal (sh4 1 1 256 128) .bf16) (j d : Fin 256) : EReal := if hd : d.val < 128 then w (ix4 0 0 j ⟨d.val, hd⟩) else 1

theorem Holds.step {R : ℕ} (h : StepOk R) {m : FVec Ideal (sh2 R 128) .f32} {a : FVec Ideal (sh2 R 256) .f32} {s : Fin R → ℕ → EReal} {v : Fin 256 → ℕ → EReal} {K : ℕ}
    (H : Holds m a s v K) (t : FVec Ideal (sh2 R 256) .f32) (w : Vec Ideal (sh4 1 1 256 128) .bf16)
    (ht : ∀ r j, t (ix2 r j) = s r (K + j.val)) (hw : ∀ j d, valueAt w j d = v d (K + j.val)) :
    Holds (newMax h t m) (newAcc h t m (newMax h t m) w a) s v (K + 256) := by
  have hm : ∀ r l, newMax h t m (ix2 r l) = rowMax (s r) (K + 256) := fun r l => by
    rw [newMax_apply, H.max]
    exact rowMax_step (s r) K _ (ht r)
  refine ⟨hm, fun r d => ?_⟩
  rw [newAcc_apply h t m _ w a r d (fun l l' => by rw [H.max, H.max]) (fun l l' => by rw [hm, hm]), H.max, hm, H.sum]
  exact rowSum_step (s r) (v d) K _ _ (ht r) fun j => hw j d

variable (arg8 : Memref sig .tc .vmem S4096x128 .f32) (arg9 : Memref sig .tc .vmem S4096x256 .f32)

section trip
variable (f8 : BufTy.Contents (Elt Ideal) arg8.view.ty) (f9 : BufTy.Contents (Elt Ideal) arg9.view.ty)

theorem load8_cons (w : FVec Ideal S4096x128 .f32) (L : Maxes) : load8 arg8 f8 (⟨rect8, w⟩ :: L) = w := View.readCov_full _ _ _ _ _
theorem load9_cons (w : FVec Ideal S4096x256 .f32) (L : Accs) : load9 arg9 f9 (⟨rect9, w⟩ :: L) = w := View.readCov_full _ _ _ _ _

/-- The sixteen blocks of a trip, whose keys begin at `K`. -/
theorem trace_holds (S : Fin 16 → FVec Ideal S4096x256 .f32) (V : Fin 16 → Vec Ideal S1x1x256x128 .bf16) {s : Fin 4096 → ℕ → EReal} {v : Fin 256 → ℕ → EReal} {K : ℕ}
    (H : Holds (arg8.view.read (Elt Ideal) f8) (arg9.view.read (Elt Ideal) f9) s v K)
    (hS : ∀ n r j, S n (ix2 r j) = s r (K + 256 * n.val + j.val)) (hV : ∀ n j d, valueAt (V n) j d = v d (K + 256 * n.val + j.val)) :
    ∀ (n : ℕ) (hn : n ≤ 16), Holds (load8 arg8 f8 (trace arg8 arg9 f8 f9 S V n hn).1) (load9 arg9 f9 (trace arg8 arg9 f8 f9 S V n hn).2) s v (K + 256 * n)
  | 0, _ => by
    have e8 : load8 arg8 f8 [] = arg8.view.read (Elt Ideal) f8 := View.readAt_full _ _ _
    have e9 : load9 arg9 f9 [] = arg9.view.read (Elt Ideal) f9 := View.readAt_full _ _ _
    show Holds (load8 arg8 f8 []) (load9 arg9 f9 []) s v K
    rw [e8, e9]
    exact H
  | n + 1, hn => by
    have ih := trace_holds S V H hS hV n (Nat.le_of_succ_le hn)
    have key := ih.step ok4096 (S ⟨n, hn⟩) (V ⟨n, hn⟩) (hS ⟨n, hn⟩) (hV ⟨n, hn⟩)
    rw [trace, load8_cons, load9_cons, shapeCast_self, shapeCast_self]
    exact key

theorem read_trace8 (S : Fin 16 → FVec Ideal S4096x256 .f32) (V : Fin 16 → Vec Ideal S1x1x256x128 .bf16) :
    arg8.view.read (Elt Ideal) (arg8.view.writes (Elt Ideal) f8 (trace arg8 arg9 f8 f9 S V 16 le_rfl).1) = load8 arg8 f8 (trace arg8 arg9 f8 f9 S V 16 le_rfl).1 := by
  rw [trace, load8_cons]
  exact View.read_writes_full _ _ _ _ _

theorem read_trace9 (S : Fin 16 → FVec Ideal S4096x256 .f32) (V : Fin 16 → Vec Ideal S1x1x256x128 .bf16) :
    arg9.view.read (Elt Ideal) (arg9.view.writes (Elt Ideal) f9 (trace arg8 arg9 f8 f9 S V 16 le_rfl).2) = load9 arg9 f9 (trace arg8 arg9 f8 f9 S V 16 le_rfl).2 := by
  rw [trace, load9_cons]
  exact View.read_writes_full _ _ _ _ _

end trip

/-- The maxima's scratch after the stores `L`. -/
abbrev held8 (L : Maxes) : FVec Ideal (sh2 4096 128) .f32 := arg8.view.read (Elt Ideal) (arg8.view.writes (Elt Ideal) arg8.view.junk L)
/-- The sums' scratch after the stores `L`. -/
abbrev held9 (L : Accs) : FVec Ideal (sh2 4096 256) .f32 := arg9.view.read (Elt Ideal) (arg9.view.writes (Elt Ideal) arg9.view.junk L)

/-- Row `r` of the rows that block `n` touches, among all rows. -/
abbrev lowRow (n : Fin 16) (r : Fin (left n.val)) : Fin 4096 := ⟨256 * n.val + r.val, by have := r.isLt; have := n.isLt; simp only [left] at *; omega⟩

theorem readCov_low8 (L : Maxes) (n : Fin 16) (r : Fin (left n.val)) (l : Fin 128) :
    (arg8.view.readCov L (low8 n).toLoadRect : FVec Ideal (sh2 (left n.val) 128) .f32) (ix2 r l) = held8 arg8 L (ix2 (lowRow n r) l) := by
  show arg8.view.read (Elt Ideal) (arg8.view.writes (Elt Ideal) arg8.view.junk L) ((low8 n).toLoadRect.idx (ix2 r l)) = _
  refine congrArg (held8 arg8 L) (funext fun a => Fin.ext ?_)
  refine Fin.cases ?_ (fun b => ?_) a
  · show 256 * n.val + 1 * r.val = 256 * n.val + r.val
    omega
  · obtain rfl : b = 0 := Subsingleton.elim _ _
    show 0 + 1 * l.val = l.val
    omega

theorem readCov_low9 (L : Accs) (n : Fin 16) (r : Fin (left n.val)) (d : Fin 256) :
    (arg9.view.readCov L (low9 n).toLoadRect : FVec Ideal (sh2 (left n.val) 256) .f32) (ix2 r d) = held9 arg9 L (ix2 (lowRow n r) d) := by
  show arg9.view.read (Elt Ideal) (arg9.view.writes (Elt Ideal) arg9.view.junk L) ((low9 n).toLoadRect.idx (ix2 r d)) = _
  refine congrArg (held9 arg9 L) (funext fun a => Fin.ext ?_)
  refine Fin.cases ?_ (fun b => ?_) a
  · show 256 * n.val + 1 * r.val = 256 * n.val + r.val
    omega
  · obtain rfl : b = 0 := Subsingleton.elim _ _
    show 0 + 1 * d.val = d.val
    omega

theorem held8_low (L : Maxes) (n : Fin 16) (w : FVec Ideal (sh2 (left n.val) 128) .f32) (r : Fin (left n.val)) (l : Fin 128) :
    held8 arg8 (⟨low8 n, w⟩ :: L) (ix2 (lowRow n r) l) = w (ix2 r l) := by
  refine View.read_writes_cons_unit_of_mem arg8.view _ _ w L _ (ix2 r l) rfl fun a => ?_
  refine Fin.cases rfl (fun b => ?_) a
  obtain rfl : b = 0 := Subsingleton.elim _ _
  exact (Nat.zero_add _).symm

theorem held9_low (L : Accs) (n : Fin 16) (w : FVec Ideal (sh2 (left n.val) 256) .f32) (r : Fin (left n.val)) (d : Fin 256) :
    held9 arg9 (⟨low9 n, w⟩ :: L) (ix2 (lowRow n r) d) = w (ix2 r d) := by
  refine View.read_writes_cons_unit_of_mem arg9.view _ _ w L _ (ix2 r d) rfl fun a => ?_
  refine Fin.cases rfl (fun b => ?_) a
  obtain rfl : b = 0 := Subsingleton.elim _ _
  exact (Nat.zero_add _).symm

theorem held8_high (L : Maxes) (n : Fin 16) (w : FVec Ideal (sh2 (left n.val) 128) .f32) (r : Fin 4096) (hr : r.val < 256 * n.val) (l : Fin 128) :
    held8 arg8 (⟨low8 n, w⟩ :: L) (ix2 r l) = held8 arg8 L (ix2 r l) :=
  View.read_writes_cons_unit_of_not_mem arg8.view _ _ w L _ rfl 0 (.inl hr)

theorem held9_high (L : Accs) (n : Fin 16) (w : FVec Ideal (sh2 (left n.val) 256) .f32) (r : Fin 4096) (hr : r.val < 256 * n.val) (d : Fin 256) :
    held9 arg9 (⟨low9 n, w⟩ :: L) (ix2 r d) = held9 arg9 L (ix2 r d) :=
  View.read_writes_cons_unit_of_not_mem arg9.view _ _ w L _ rfl 0 (.inl hr)

/-- The mask's stand-in is −∞. -/
theorem mask_eq : (Named.named κ "mask" 0xF149F2CA#32 : Ideal .f32) = (⊥ : EReal) := IdealRules.named_const.ideal_named_scalar _ _ _ _ rfl

theorem diagMask_apply (n : Fin 16) (s : FVec Ideal (sh2 (left n.val) 256) .f32) (r : Fin (left n.val)) (j : Fin 256) :
    diagMask n s (ix2 r j) = if r.val < j.val then (⊥ : EReal) else s (ix2 r j) := by
  unfold diagMask
  rw [mask_eq]
  by_cases h : n.val < 15
  · rw [dif_pos h]
    refine (masked_apply (maskLeft ⟨n.val, h⟩) s _ r j).trans ?_
    by_cases hj : r.val < j.val
    · rw [if_pos hj, if_pos ⟨by omega, hj⟩]
    · rw [if_neg hj, if_neg (fun c => hj c.2)]
  · rw [dif_neg h]
    exact corner_apply (by simp only [left]; omega) _ _ s _ r j

/-- The diagonal, whose keys begin at `K`. -/
theorem diag_holds (L : Maxes × Accs) (S : (n : Fin 16) → FVec Ideal (sh2 (left n.val) 256) .f32) (V : Fin 16 → Vec Ideal S1x1x256x128 .bf16)
    {s : Fin 4096 → ℕ → EReal} {v : Fin 256 → ℕ → EReal} {K : ℕ} (H : Holds (held8 arg8 L.1) (held9 arg9 L.2) s v K)
    (hs : ∀ r k, K + r.val < k → s r k = ⊥)
    (hS : ∀ n r (j : Fin 256), j.val ≤ r.val → S n (ix2 r j) = s (lowRow n r) (K + 256 * n.val + j.val))
    (hV : ∀ n j d, valueAt (V n) j d = v d (K + 256 * n.val + j.val)) :
    ∀ (n : ℕ) (hn : n ≤ 16), Holds (held8 arg8 (diagTrace arg8 arg9 L S V n hn).1) (held9 arg9 (diagTrace arg8 arg9 L S V n hn).2) s v (K + 256 * n)
  | 0, _ => H
  | n + 1, hn => by
    have ih := diag_holds L S V H hs hS hV n (Nat.le_of_succ_le hn)
    rw [diagTrace_succ]
    generalize diagTrace arg8 arg9 L S V n (Nat.le_of_succ_le hn) = D at ih ⊢
    have loc : Holds (arg8.view.readCov D.1 (low8 ⟨n, hn⟩).toLoadRect : FVec Ideal (sh2 (left n) 128) .f32)
        (arg9.view.readCov D.2 (low9 ⟨n, hn⟩).toLoadRect : FVec Ideal (sh2 (left n) 256) .f32) (fun r => s (lowRow ⟨n, hn⟩ r)) v (K + 256 * n) :=
      ⟨fun r l => (readCov_low8 arg8 D.1 ⟨n, hn⟩ r l).trans (ih.max _ l), fun r d => (readCov_low9 arg9 D.2 ⟨n, hn⟩ r d).trans (ih.sum _ d)⟩
    have key := loc.step (okLeft ⟨n, hn⟩) (diagMask ⟨n, hn⟩ (S ⟨n, hn⟩)) (V ⟨n, hn⟩) (fun r j => by
      rw [diagMask_apply]
      by_cases hj : r.val < j.val
      · rw [if_pos hj]
        exact (hs _ _ (by show K + (256 * n + r.val) < K + 256 * n + j.val; omega)).symm
      · rw [if_neg hj]
        exact hS ⟨n, hn⟩ r j (by omega)) (hV ⟨n, hn⟩)
    unfold diagStep
    dsimp only
    rw [shapeCast_self, shapeCast_self]
    have split : ∀ r : Fin 4096, 256 * n ≤ r.val → ∃ r' : Fin (left n), lowRow ⟨n, hn⟩ r' = r := fun r hr =>
      ⟨⟨r.val - 256 * n, by have := r.isLt; simp only [left]; omega⟩, Fin.ext (by show 256 * n + (r.val - 256 * n) = r.val; omega)⟩
    have off : ∀ r : Fin 4096, r.val < 256 * n → ∀ j, K + 256 * n ≤ j → j < K + 256 * (n + 1) → s r j = ⊥ := fun r hr j h1 _ => hs r j (by omega)
    have e : K + 256 * (n + 1) = K + 256 * n + 256 := by omega
    constructor
    · intro r l
      by_cases hr : r.val < 256 * n
      · rw [rowMax_masked (s r) (by omega) (off r hr), ← ih.max r l]
        exact held8_high arg8 D.1 ⟨n, hn⟩ _ r hr l
      · obtain ⟨r', rfl⟩ := split r (by omega)
        rw [e, ← key.max r' l]
        exact held8_low arg8 D.1 ⟨n, hn⟩ _ r' l
    · intro r d
      by_cases hr : r.val < 256 * n
      · rw [rowSum_masked (s r) (v d) (by omega) (off r hr), ← ih.sum r d]
        exact held9_high arg9 D.2 ⟨n, hn⟩ _ r hr d
      · obtain ⟨r', rfl⟩ := split r (by omega)
        rw [e, ← key.sum r' d]
        exact held9_low arg9 D.2 ⟨n, hn⟩ _ r' d

end Cert.Attn
-- ==== Proof.Block.lean ====
/-
  WHAT ONE GRID POINT COMPUTES. Row `r` of query tile `q` scores key `k` with `raw`; keys after the row's own position
  4096·q + r are masked (`rowScore`). The loop meets the earlier tiles' keys and the diagonal the tile's own, so at the
  end every row holds its sums over the keys 0 … 4096·q + 4095, and the block is their quotient (`block_apply`).
-/
module

public import proofs.«01_k».proof.Proof.State

@[expose] public section

set_option maxRecDepth 65536

noncomputable section

namespace Cert.Attn

open Idealize.ShloMosaic Idealize.ShloMosaic.TcCoe Idealize.SL.Sem
open Cert.KernelIdeal Cert.KernelIdeal.Gen
open scoped BigOperators

/-- Key `k`, column `d`: the head's own key and then the shared rotary key. -/
def keyRow (x1 : Vec Ideal S1x1x8192x128 .bf16) (x2 : Vec Ideal S1x8192x128 .bf16) (k : Fin 8192) (d : Fin 256) : EReal :=
  if hd : d.val < 128 then x1 (ix4 0 0 k ⟨d.val, hd⟩) else x2 (ix3 0 k ⟨d.val - 128, by omega⟩)

/-- The score of row `r` against key `k`, unmasked. -/
def raw (x0 : Vec Ideal S1x1x4096x256 .bf16) (x1 : Vec Ideal S1x1x8192x128 .bf16) (x2 : Vec Ideal S1x8192x128 .bf16) (r : Fin 4096) (k : ℕ) : EReal :=
  if hk : k < 8192 then ∑ d : Fin 256, x0 (ix4 0 0 r d) * keyRow x1 x2 ⟨k, hk⟩ d else ⊥

/-- The score of row `r` of the tile that begins at position `K`: a later key is masked. -/
def rowScore (x0 : Vec Ideal S1x1x4096x256 .bf16) (x1 : Vec Ideal S1x1x8192x128 .bf16) (x2 : Vec Ideal S1x8192x128 .bf16) (K : ℕ) (r : Fin 4096) (k : ℕ) : EReal :=
  if k ≤ K + r.val then raw x0 x1 x2 r k else ⊥

/-- Column `d` of the values; the columns from 128 on are ones. -/
def colValue (x3 : Vec Ideal S1x1x8192x128 .bf16) (d : Fin 256) (k : ℕ) : EReal :=
  if hd : d.val < 128 then (if hk : k < 8192 then x3 (ix4 0 0 ⟨k, hk⟩ ⟨d.val, hd⟩) else 0) else 1

theorem off1_eq (i : grid0.Coords) (k : Fin (k0_t1_loop i).trips) (hk : k.val < 2) (n : Fin 16) :
    k0_off1 i k (BitVec.ofNat 32 (256 * n.val)) = ![0, 0, 4096 * k.val + 256 * n.val, 0] := by
  have h : ∀ b : Fin 2, ∀ n : Fin 16, (Scalar.indexCast (Scalar.addi (Scalar.muli (Scf.iv 0#32 1#32 b.val) 4096#32) (BitVec.ofNat 32 (256 * n.val)))).toNat
      = 4096 * b.val + 256 * n.val := by decide +kernel
  exact congrArg (fun x => (![0, 0, x, 0] : Fin 4 → ℕ)) (h ⟨k.val, hk⟩ n)

theorem off2_eq (i : grid0.Coords) (k : Fin (k0_t1_loop i).trips) (hk : k.val < 2) (n : Fin 16) :
    k0_off2 i k (BitVec.ofNat 32 (256 * n.val)) = ![0, 4096 * k.val + 256 * n.val, 0] := by
  have h : ∀ b : Fin 2, ∀ n : Fin 16, (Scalar.indexCast (Scalar.addi (Scalar.muli (Scf.iv 0#32 1#32 b.val) 4096#32) (BitVec.ofNat 32 (256 * n.val)))).toNat
      = 4096 * b.val + 256 * n.val := by decide +kernel
  exact congrArg (fun x => (![0, x, 0] : Fin 3 → ℕ)) (h ⟨k.val, hk⟩ n)

theorem off5_eq (i : grid0.Coords) (n : Fin 16) : k0_off5 i (BitVec.ofNat 32 (256 * n.val)) = ![0, 0, 4096 * (i 2).val + 256 * n.val, 0] := by
  have h : ∀ b : Fin 2, ∀ n : Fin 16, (Scalar.indexCast (Scalar.addi (Scalar.muli (BitVec.ofNat 32 b.val) 4096#32) (BitVec.ofNat 32 (256 * n.val)))).toNat
      = 4096 * b.val + 256 * n.val := by decide +kernel
  exact congrArg (fun x => (![0, 0, x, 0] : Fin 4 → ℕ)) (h (i 2) n)

theorem off6_eq (i : grid0.Coords) (n : Fin 16) : k0_off6 i (BitVec.ofNat 32 (256 * n.val)) = ![0, 4096 * (i 2).val + 256 * n.val, 0] := by
  have h : ∀ b : Fin 2, ∀ n : Fin 16, (Scalar.indexCast (Scalar.addi (Scalar.muli (BitVec.ofNat 32 b.val) 4096#32) (BitVec.ofNat 32 (256 * n.val)))).toNat
      = 4096 * b.val + 256 * n.val := by decide +kernel
  exact congrArg (fun x => (![0, x, 0] : Fin 3 → ℕ)) (h (i 2) n)

theorem trips1_eq (i : grid0.Coords) : Scf.trips (k0_t1_loop i).lb (k0_t1_loop i).ub (k0_t1_loop i).st = (i 2).val :=
  (by decide +kernel : ∀ b : Fin 2, Scf.trips 0#32 (Scalar.addi 0#32 (Scalar.muli (Scalar.divsi (Scalar.subi (BitVec.ofNat 32 b.val) 0#32) 1#32) 1#32)) 1#32 = b.val) (i 2)

theorem trips2_eq (i : grid0.Coords) : Scf.trips (k0_t2_loop i).lb (k0_t2_loop i).ub (k0_t2_loop i).st = 0 :=
  (by decide +kernel : ∀ b : Fin 2, Scf.trips (Scalar.addi 0#32 (Scalar.muli (Scalar.divsi (Scalar.subi (BitVec.ofNat 32 b.val) 0#32) 1#32) 1#32))
    (Scalar.addi 0#32 (Scalar.subi (BitVec.ofNat 32 b.val) 0#32)) 1#32 = 0) (i 2)

/-- A load of consecutive rows of a four-axis window, at an index. -/
theorem load4_apply {A R D : ℕ} (arg : Memref sig .tc .vmem (sh4 1 1 A D) .bf16) (harg : arg.IsWhole) (x : Vec Ideal (sh4 1 1 A D) .bf16)
    (off : Fin 4 → ℕ) (K : ℕ) (hoff : off = ![0, 0, K, 0]) (inb : ∀ a, off a + (sh4 1 1 R D).size a ≤ (sh4 1 1 A D).size a) (r : Fin R) (d : Fin D) (hr : K + r.val < A) :
    (View.readAt (Elt Ideal) arg.view (Rect.unit (s := sh4 1 1 A D) off (sh4 1 1 R D).size inb).toLoadRect (harg.unread x) : Vec Ideal (sh4 1 1 R D) .bf16) (ix4 0 0 r d)
      = x (ix4 0 0 ⟨K + r.val, hr⟩ d) := by
  subst hoff
  rw [View.readAt_eq_ld, Memref.IsWhole.read_unread]
  refine congrArg x (funext fun a => Fin.ext ?_)
  match a with
  | ⟨0, _⟩ => rfl
  | ⟨1, _⟩ => rfl
  | ⟨2, _⟩ => show K + 1 * r.val = K + r.val; omega
  | ⟨3, _⟩ => show 0 + 1 * d.val = d.val; omega

/-- A load of consecutive rows of a three-axis window, at an index. -/
theorem load3_apply {A R D : ℕ} (arg : Memref sig .tc .vmem (sh3 1 A D) .bf16) (harg : arg.IsWhole) (x : Vec Ideal (sh3 1 A D) .bf16)
    (off : Fin 3 → ℕ) (K : ℕ) (hoff : off = ![0, K, 0]) (inb : ∀ a, off a + (sh3 1 R D).size a ≤ (sh3 1 A D).size a) (r : Fin R) (d : Fin D) (hr : K + r.val < A) :
    (View.readAt (Elt Ideal) arg.view (Rect.unit (s := sh3 1 A D) off (sh3 1 R D).size inb).toLoadRect (harg.unread x) : Vec Ideal (sh3 1 R D) .bf16) (ix3 0 r d)
      = x (ix3 0 ⟨K + r.val, hr⟩ d) := by
  subst hoff
  rw [View.readAt_eq_ld, Memref.IsWhole.read_unread]
  refine congrArg x (funext fun a => Fin.ext ?_)
  match a with
  | ⟨0, _⟩ => rfl
  | ⟨1, _⟩ => show K + 1 * r.val = K + r.val; omega
  | ⟨2, _⟩ => show 0 + 1 * d.val = d.val; omega

/-- Scores of loaded rows are the rows' raw scores. -/
theorem scores_raw {R : ℕ} (h : StepOk R) (x0 : Vec Ideal S1x1x4096x256 .bf16) (x1 : Vec Ideal S1x1x8192x128 .bf16) (x2 : Vec Ideal S1x8192x128 .bf16)
    (q : Vec Ideal (sh4 1 1 R 256) .bf16) (k : Vec Ideal (sh4 1 1 256 128) .bf16) (kr : Vec Ideal (sh3 1 256 128) .bf16) (r : Fin R) (r' : Fin 4096) (j : Fin 256) (K : ℕ)
    (hK : K + j.val < 8192) (hq : ∀ d, q (ix4 0 0 r d) = x0 (ix4 0 0 r' d)) (hk : ∀ d, k (ix4 0 0 j d) = x1 (ix4 0 0 ⟨K + j.val, hK⟩ d))
    (hkr : ∀ d, kr (ix3 0 j d) = x2 (ix3 0 ⟨K + j.val, hK⟩ d)) : scores h q k kr (ix2 r j) = raw x0 x1 x2 r' (K + j.val) := by
  rw [scores_apply, raw, dif_pos hK]
  refine Finset.sum_congr rfl fun d _ => ?_
  rw [hq, keyAt, keyRow]
  by_cases hd : d.val < 128
  · rw [dif_pos hd, dif_pos hd, hk]
  · rw [dif_neg hd, dif_neg hd, hkr]

/-- The values of a loaded block. -/
theorem valueAt_col (x3 : Vec Ideal S1x1x8192x128 .bf16) (w : Vec Ideal (sh4 1 1 256 128) .bf16) (j d : Fin 256) (K : ℕ) (hK : K + j.val < 8192)
    (hw : ∀ d, w (ix4 0 0 j d) = x3 (ix4 0 0 ⟨K + j.val, hK⟩ d)) : valueAt w j d = colValue x3 d (K + j.val) := by
  rw [valueAt, colValue]
  by_cases hd : d.val < 128
  · rw [dif_pos hd, dif_pos hd, dif_pos hK, hw]
  · rw [dif_neg hd, dif_neg hd]

variable (arg8 : Memref sig .tc .vmem S4096x128 .f32) (arg9 : Memref sig .tc .vmem S4096x256 .f32) (c : Dev nD) (i : grid0.Coords)
  (arg3 : Memref sig .tc .vmem S1x1x4096x256 .bf16) (harg3 : arg3.IsWhole) (arg4 : Memref sig .tc .vmem S1x1x8192x128 .bf16) (harg4 : arg4.IsWhole)
  (arg5 : Memref sig .tc .vmem S1x8192x128 .bf16) (harg5 : arg5.IsWhole) (arg6 : Memref sig .tc .vmem S1x1x8192x128 .bf16) (harg6 : arg6.IsWhole)
  (arg7 : Memref sig .tc .vmem S1x1x4096x128 .bf16) (harg7 : arg7.IsWhole) (harg8 : arg8.IsWhole) (harg9 : arg9.IsWhole)
  (x0 : Vec Ideal S1x1x4096x256 .bf16) (x1 : Vec Ideal S1x1x8192x128 .bf16) (x2 : Vec Ideal S1x8192x128 .bf16) (x3 : Vec Ideal S1x1x8192x128 .bf16)

theorem tripScores_apply (k : Fin (k0_t1_loop i).trips) (hk : k.val < 2) (n : Fin 16) (r : Fin 4096) (j : Fin 256) :
    tripScores i arg3 arg4 arg5 (harg3.unread x0) (harg4.unread x1) (harg5.unread x2) k n (ix2 r j) = raw x0 x1 x2 r (4096 * k.val + 256 * n.val + j.val) := by
  have hK : 4096 * k.val + 256 * n.val + j.val < 8192 := by omega
  refine scores_raw ok4096 x0 x1 x2 _ _ _ r r j (4096 * k.val + 256 * n.val) hK (fun d => ?_) (fun d => ?_) (fun d => ?_)
  · refine (load4_apply arg3 harg3 x0 _ 0 rfl _ r d (by omega)).trans (congrArg (fun r' => x0 (ix4 0 0 r' d)) (Fin.ext (Nat.zero_add _)))
  · exact load4_apply arg4 harg4 x1 _ _ (off1_eq i k hk n) _ j d hK
  · exact load3_apply arg5 harg5 x2 _ _ (off2_eq i k hk n) _ j d hK

theorem tripValues_apply (k : Fin (k0_t1_loop i).trips) (hk : k.val < 2) (n : Fin 16) (j d : Fin 256) :
    valueAt (tripValues i arg6 (harg6.unread x3) k n) j d = colValue x3 d (4096 * k.val + 256 * n.val + j.val) :=
  have hK : 4096 * k.val + 256 * n.val + j.val < 8192 := by omega
  valueAt_col x3 _ j d _ hK fun d => load4_apply arg6 harg6 x3 _ _ (off1_eq i k hk n) _ j d hK

theorem tile_lt : (i 2).val < 2 := (i 2).isLt

theorem diagScores_apply (n : Fin 16) (r : Fin (left n.val)) (j : Fin 256) :
    diagScores i arg3 harg3 arg4 harg4 arg5 harg5 x0 x1 x2 n (ix2 r j) = raw x0 x1 x2 (lowRow n r) (4096 * (i 2).val + 256 * n.val + j.val) := by
  have hi := tile_lt i
  have hK : 4096 * (i 2).val + 256 * n.val + j.val < 8192 := by omega
  refine scores_raw (okLeft n) x0 x1 x2 _ _ _ r (lowRow n r) j (4096 * (i 2).val + 256 * n.val) hK (fun d => ?_) (fun d => ?_) (fun d => ?_)
  · exact load4_apply arg3 harg3 x0 _ _ rfl _ r d (lowRow n r).isLt
  · exact load4_apply arg4 harg4 x1 _ _ (off5_eq i n) _ j d hK
  · exact load3_apply arg5 harg5 x2 _ _ (off6_eq i n) _ j d hK

theorem diagValues_apply (n : Fin 16) (j d : Fin 256) :
    valueAt (diagValues i arg6 harg6 x3 n) j d = colValue x3 d (4096 * (i 2).val + 256 * n.val + j.val) :=
  have hi := tile_lt i
  have hK : 4096 * (i 2).val + 256 * n.val + j.val < 8192 := by omega
  valueAt_col x3 _ j d _ hK fun d => load4_apply arg6 harg6 x3 _ _ (off5_eq i n) _ j d hK

/-- At the start nothing has been met. -/
theorem start_holds (s : Fin 4096 → ℕ → EReal) (v : Fin 256 → ℕ → EReal) : Holds (held8 arg8 start.1) (held9 arg9 start.2) s v 0 := by
  have e8 : held8 arg8 start.1 = k0_pay176 (F := Ideal) := View.read_writes_full _ _ _ _ _
  have e9 : held9 arg9 start.2 = k0_pay177 (F := Ideal) := View.read_writes_full _ _ _ _ _
  rw [e8, e9]
  refine ⟨fun r l => ?_, fun r d => ?_⟩
  · rw [rowMax_zero, k0_pay176]
    rw [shapeCast_self]
    exact mask_eq
  · rw [rowSum_zero, k0_pay177]
    rw [shapeCast_self]
    show Ideal.ofBits .f32 0x00000000#32 = 0
    simp [Ideal.ofBits, Ideal.ieee]

/-- After `k` trips of the loop the keys of `k` tiles have been met. -/
theorem loop_holds : ∀ (k : ℕ), k ≤ (i 2).val →
    Holds
      (arg8.view.read (Elt Ideal) (arg8.view.writes (Elt Ideal) (arg8.view.writes (Elt Ideal) arg8.view.junk start.1)
        (pb_k0_t1 (F := Ideal) Variants.none c none i arg3 harg3 arg4 harg4 arg5 harg5 arg6 harg6 arg7 harg7 arg8 harg8 arg9 harg9
          (harg3.unread x0) (harg4.unread x1) (harg5.unread x2) (harg6.unread x3)
          (arg8.view.writes (Elt Ideal) arg8.view.junk start.1) (arg9.view.writes (Elt Ideal) arg9.view.junk start.2) k).1))
      (arg9.view.read (Elt Ideal) (arg9.view.writes (Elt Ideal) (arg9.view.writes (Elt Ideal) arg9.view.junk start.2)
        (pb_k0_t1 (F := Ideal) Variants.none c none i arg3 harg3 arg4 harg4 arg5 harg5 arg6 harg6 arg7 harg7 arg8 harg8 arg9 harg9
          (harg3.unread x0) (harg4.unread x1) (harg5.unread x2) (harg6.unread x3)
          (arg8.view.writes (Elt Ideal) arg8.view.junk start.1) (arg9.view.writes (Elt Ideal) arg9.view.junk start.2) k).2))
      (rowScore x0 x1 x2 (4096 * (i 2).val)) (colValue x3) (4096 * k)
  | 0, _ => start_holds arg8 arg9 _ _
  | k + 1, hk => by
    have hi := tile_lt i
    have ih := loop_holds k (Nat.le_of_succ_le hk)
    have ht : k < (k0_t1_loop i).trips := lt_of_lt_of_eq hk (trips1_eq i).symm
    have succ := pb_k0_t1_succ (F := Ideal) Variants.none c none i arg3 harg3 arg4 harg4 arg5 harg5 arg6 harg6 arg7 harg7 arg8 harg8 arg9 harg9
      (harg3.unread x0) (harg4.unread x1) (harg5.unread x2) (harg6.unread x3)
      (arg8.view.writes (Elt Ideal) arg8.view.junk start.1) (arg9.view.writes (Elt Ideal) arg9.view.junk start.2) ⟨k, ht⟩
    rw [trip_eq] at succ
    dsimp only at succ
    rw [succ]
    dsimp only
    rw [View.writes_append, View.writes_append]
    generalize arg8.view.writes (Elt Ideal) _ (pb_k0_t1 (F := Ideal) _ _ _ _ _ _ _ _ _ _ _ _ _ _ _ _ _ _ _ _ _ _ _ _ k).1 = f8 at ih ⊢
    generalize arg9.view.writes (Elt Ideal) _ (pb_k0_t1 (F := Ideal) _ _ _ _ _ _ _ _ _ _ _ _ _ _ _ _ _ _ _ _ _ _ _ _ k).2 = f9 at ih ⊢
    rw [read_trace8, read_trace9]
    refine trace_holds arg8 arg9 f8 f9 _ _ ih (fun n r j => ?_) (fun n j d => tripValues_apply i arg6 harg6 x3 ⟨k, ht⟩ (by show k < 2; omega) n j d) 16 le_rfl
    rw [tripScores_apply i arg3 harg3 arg4 harg4 arg5 harg5 x0 x1 x2 ⟨k, ht⟩ (by show k < 2; omega), rowScore]
    exact (if_pos (by omega)).symm

theorem before_holds : Holds
    (held8 arg8 (before arg8 arg9 c i arg3 harg3 arg4 harg4 arg5 harg5 arg6 harg6 arg7 harg7 harg8 harg9 x0 x1 x2 x3).1)
    (held9 arg9 (before arg8 arg9 c i arg3 harg3 arg4 harg4 arg5 harg5 arg6 harg6 arg7 harg7 harg8 harg9 x0 x1 x2 x3).2)
    (rowScore x0 x1 x2 (4096 * (i 2).val)) (colValue x3) (4096 * (i 2).val) := by
  have h := loop_holds arg8 arg9 c i arg3 harg3 arg4 harg4 arg5 harg5 arg6 harg6 arg7 harg7 harg8 harg9 x0 x1 x2 x3 (i 2).val le_rfl
  have t1 := trips1_eq i
  have t2 := trips2_eq i
  dsimp only [k0_t1_loop, k0_t2_loop] at t1 t2
  simp only [before, t1, t2, pb_k0_t2]
  rw [List.nil_append, List.nil_append, held8, held9, View.writes_append, View.writes_append]
  exact h

/-- The block a grid point leaves: the weighted values over the weights. -/
theorem block_apply (r : Fin 4096) (d : Fin 128) :
    out0_A_4 (F := Ideal) c i arg3 harg3 arg4 harg4 arg5 harg5 arg6 harg6 arg7 harg7 arg8 harg8 arg9 harg9 x0 x1 x2 x3 (ix4 0 0 r d)
      = Ideal.div (rowSum (rowScore x0 x1 x2 (4096 * (i 2).val) r) (colValue x3 ⟨d.val, by omega⟩) (4096 * (i 2).val + 4096))
        (rowSum (rowScore x0 x1 x2 (4096 * (i 2).val) r) (colValue x3 ⟨128 + d.val, by omega⟩) (4096 * (i 2).val + 4096)) := by
  have hd := diag_holds arg8 arg9 _ (diagScores i arg3 harg3 arg4 harg4 arg5 harg5 x0 x1 x2) (diagValues i arg6 harg6 x3)
    (before_holds arg8 arg9 c i arg3 harg3 arg4 harg4 arg5 harg5 arg6 harg6 arg7 harg7 harg8 harg9 x0 x1 x2 x3)
    (fun r k hk => if_neg (by omega))
    (fun n r j hj => (diagScores_apply i arg3 harg3 arg4 harg4 arg5 harg5 x0 x1 x2 n r j).trans
      (if_pos (by show 4096 * (i 2).val + 256 * n.val + j.val ≤ 4096 * (i 2).val + (256 * n.val + r.val); omega)).symm)
    (diagValues_apply i arg6 harg6 x3) 16 le_rfl
  unfold out0_A_4
  rw [diag_eq, View.read_writes_full, k0_pay1]
  dsimp only
  refine (shapeCast_apply _ _ _ (ix2 r d) ?_).trans ?_
  · rw [Shape.rowMajor_val_four, Shape.rowMajor_val_two]
    show r.val * 128 + d.val = ((0 * 1 + 0) * 4096 + r.val) * 128 + d.val
    omega
  rw [View.readCov, View.readAt_full, k0_pay281]
  show Ideal.div (held9 arg9 _ _) (held9 arg9 _ _) = _
  have e1 := hd.sum r ⟨d.val, by omega⟩
  have e2 := hd.sum r ⟨128 + d.val, by omega⟩
  rw [← e1, ← e2]
  unfold diagAfter
  refine congrArg₂ Ideal.div (congrArg (held9 arg9 _) (funext fun a => Fin.ext ?_)) (congrArg (held9 arg9 _) (funext fun a => Fin.ext ?_))
  · match a with
    | ⟨0, _⟩ => exact Nat.zero_add _
    | ⟨1, _⟩ => exact Nat.zero_add _
  · match a with
    | ⟨0, _⟩ => exact Nat.zero_add _
    | ⟨1, _⟩ => rfl

end Cert.Attn
-- ==== Proof.Softmax.lean ====
/-
  SOFTMAX TWO WAYS. One way scales the scores by log 2, subtracts the row's maximum, exponentiates, divides every weight
  by their sum and only then weights the values; the other takes powers of two of the unscaled scores, weights the values
  and divides once at the end. They agree when no score is +∞ and some score is not −∞ (`softmax_eq`).
-/
module

public import proofs.«01_k».proof.Proof.Online

@[expose] public section

noncomputable section

namespace Cert.Attn

open Idealize.ShloMosaic
open scoped BigOperators

/-- The scale. -/
abbrev ln2 : EReal := ((Real.log 2 : ℝ) : EReal)

theorem ln2_pos : 0 < Real.log 2 := Real.log_pos (by norm_num)

/-- A scaled difference from a real maximum, exponentiated, is a power of two. -/
theorem exp_scaled {x : EReal} (M : ℝ) (hx : x ≠ ⊤) : Ideal.exp (x * ln2 - (M : EReal) * ln2) = Ideal.exp2 (x - (M : EReal)) := by
  induction x using EReal.rec with
  | bot =>
    rw [EReal.bot_mul_coe_of_pos ln2_pos, ← EReal.coe_mul, EReal.bot_sub, EReal.bot_sub]
    simp
  | top => exact absurd rfl hx
  | coe x =>
    rw [← EReal.coe_mul, ← EReal.coe_mul, ← EReal.coe_sub, ← EReal.coe_sub, Ideal.exp_coe, Ideal.exp2_coe]
    congr 1
    change _ = (2 : ℝ) ^ (x - M)
    rw [Real.rpow_def_of_pos (by norm_num)]
    congr 1
    ring

/-- The scale is increasing. -/
theorem scale_mono : Monotone fun x : EReal => x * ln2 := fun _ _ h => mul_le_mul_of_nonneg_right h (EReal.coe_nonneg.2 ln2_pos.le)

theorem sup_range (s : ℕ → EReal) (N : ℕ) : (Finset.univ.sup fun j : Fin N => s j.val) = rowMax s N :=
  le_antisymm (Finset.sup_le fun j _ => le_rowMax s j.isLt)
    (Finset.sup_le fun j hj => Finset.le_sup (f := fun j : Fin N => s j.val) (Finset.mem_univ ⟨j, Finset.mem_range.1 hj⟩))

theorem sup_scaled (s : ℕ → EReal) (N : ℕ) : (Finset.univ.sup fun j : Fin N => s j.val * ln2) = rowMax s N * ln2 := by
  rw [sup_range (fun j => s j * ln2) N]
  exact (Finset.comp_sup_eq_sup_comp_of_is_total (fun x : EReal => x * ln2) scale_mono (EReal.bot_mul_coe_of_pos ln2_pos)).symm

/-- The maximum is a real number. -/
theorem rowMax_real (s : ℕ → EReal) (N : ℕ) (ht : ∀ j, j < N → s j ≠ ⊤) (hb : ∃ j, j < N ∧ s j ≠ ⊥) :
    ∃ i, i < N ∧ ∃ M : ℝ, s i = M ∧ rowMax s N = M := by
  obtain ⟨j, hj, hjb⟩ := hb
  obtain ⟨i, hi, e⟩ := Finset.exists_mem_eq_sup (Finset.range N) ⟨j, Finset.mem_range.2 hj⟩ s
  have hi' := Finset.mem_range.1 hi
  have hle : s j ≤ s i := by rw [← e]; exact le_rowMax s hj
  have hib : s i ≠ ⊥ := fun h => hjb (le_bot_iff.1 (h ▸ hle))
  refine ⟨i, hi', (s i).toReal, (EReal.coe_toReal (ht i hi') hib).symm, ?_⟩
  rw [EReal.coe_toReal (ht i hi') hib]
  exact e

theorem softmax_eq (s v : ℕ → EReal) (N : ℕ) (ht : ∀ j, j < N → s j ≠ ⊤) (hb : ∃ j, j < N ∧ s j ≠ ⊥) :
    (∑ j : Fin N, Ideal.div (Ideal.exp (s j.val * ln2 - Finset.univ.sup fun j : Fin N => s j.val * ln2))
      (∑ j : Fin N, Ideal.exp (s j.val * ln2 - Finset.univ.sup fun j : Fin N => s j.val * ln2)) * v j.val)
      = Ideal.div (rowSum s v N) (rowSum s (fun _ => 1) N) := by
  obtain ⟨i, hi, M, hs, hM⟩ := rowMax_real s N ht hb
  have e : ∀ j : Fin N, Ideal.exp (s j.val * ln2 - Finset.univ.sup fun j : Fin N => s j.val * ln2) = Ideal.exp2 (s j.val - rowMax s N) := fun j => by
    rw [sup_scaled, hM, exp_scaled M (ht j.val j.isLt)]
  have hD : rowSum s (fun _ => 1) N = ∑ j : Fin N, Ideal.exp2 (s j.val - rowMax s N) := by
    unfold rowSum
    rw [Finset.sum_range]
    simp only [mul_one]
  simp only [e]
  rw [← hD]
  have hpos : (0 : EReal) < rowSum s (fun _ => 1) N := by
    have h1 : Ideal.exp2 (s i - rowMax s N) = 1 := by
      rw [hs, hM, ← EReal.coe_sub, sub_self, Ideal.exp2_coe]
      change (((2 : ℝ) ^ (0 : ℝ) : ℝ) : EReal) = 1
      rw [Real.rpow_zero]; rfl
    have hle : Ideal.exp2 (s i - rowMax s N) * 1 ≤ rowSum s (fun _ => 1) N :=
      Finset.single_le_sum (f := fun j => Ideal.exp2 (s j - rowMax s N) * 1) (fun j _ => by simpa using exp2_nonneg _) (Finset.mem_range.2 hi)
    rw [h1, one_mul] at hle
    exact lt_of_lt_of_le zero_lt_one hle
  generalize rowSum s (fun _ => 1) N = D at hpos ⊢
  have hdiv : ∀ x, Ideal.div x D = D⁻¹ * x := fun x => by
    unfold Ideal.div
    rw [if_neg hpos.ne', mul_comm]
  have hinv : D⁻¹ ≠ ⊤ := by
    induction D using EReal.rec with
    | bot => simp
    | top => simp
    | coe x => rw [← EReal.coe_inv]; exact EReal.coe_ne_top _
  simp only [hdiv]
  unfold rowSum
  rw [mul_sum_of_nonneg _ (EReal.inv_nonneg_of_nonneg hpos.le) hinv, Finset.sum_range]
  exact Finset.sum_congr rfl fun j _ => mul_assoc _ _ _

end Cert.Attn

end
-- ==== Proof.Reference.lean ====
/-
  WHAT THE REFERENCE COMPUTES, read at one index. The scores are the sum of two products (the head's own columns and
  the shared rotary ones), scaled by log 2 and masked after the query's position (`refScores`); the weights are their
  exponentials less the row's maximum (`refWeights`); the result is the values weighted by the normalised weights.
-/
module

public import proofs.«01_k».proof.Proof.Gen.ReferenceIdeal.Run
public import Idealize.ShloMosaic.Lib.Pointwise
public import Idealize.ShloMosaic.Lib.Pointwise.IndexVar
public import Idealize.ShloMosaic.Lib.KernelVsHost
public import Idealize.ShloMosaic.Lib.IdealHost
public import Idealize.ShloMosaic.Lib.Tactic.CleanTypes

@[expose] public section

set_option maxRecDepth 16384

noncomputable section

namespace Cert.AttnRef

open Idealize.ShloMosaic Idealize.ShloMosaic.TcCoe Idealize.SL.Sem
open Cert.ReferenceIdeal Cert.ReferenceIdeal.Gen
open scoped BigOperators

/-- A position's causal mask: key positions against query positions. -/
def causal : IVec S8x8x8192x8192 1 :=
  broadcastInDim S8x8x8192x8192 ![0, 1, 2, 3] bcast_S1x1x8192x8192_S8x8x8192x8192_0_1_2_3 (cmpi .sle (broadcastInDim S1x1x8192x8192 ![0, 1, 2, 3] bcast_S1x1x1x8192_S1x1x8192x8192_0_1_2_3 (broadcastInDim S1x1x1x8192 ![3] bcast_S8192_S1x1x1x8192_3 (iotaInDim S8192 32 0))) (broadcastInDim S1x1x8192x8192 ![0, 1, 2, 3] bcast_S1x1x8192x1_S1x1x8192x8192_0_1_2_3 (broadcastInDim S1x1x8192x1 ![2] bcast_S8192_S1x1x8192x1_2 (iotaInDim S8192 32 0))))

/-- The scaled scores, not yet masked. -/
def scaled (q : FVec Ideal S8x8x8192x256 .bf16) (k : FVec Ideal S8x8x8192x128 .bf16) (kr : FVec Ideal S8x8192x128 .bf16) : FVec Ideal S8x8x8192x8192 .f32 :=
  mulf (addf (Host.dotGeneral dot_S8x8x8192x128_S8x8x8192x128_S8x8x8192x8192_3_3_2_2_01_01 none (extractStridedSlice S8x8x8192x128 ![0, 0, 0, 0] (extf .f32 q bitsLt_bf16_f32) slices_S8x8x8192x256_S8x8x8192x128_0_0_0_0) (extf .f32 k bitsLt_bf16_f32)) (transpose S8x8x8192x8192 [2, 0, 3, 1] (Host.dotGeneral dot_S8x8192x128_S8x8x8192x128_S8x8192x8x8192_2_3_1_02_0_1 none (extf .f32 kr bitsLt_bf16_f32) (extractStridedSlice S8x8x8192x128 ![0, 0, 0, 128] (extf .f32 q bitsLt_bf16_f32) slices_S8x8x8192x256_S8x8x8192x128_0_0_0_128)) transposes_S8x8192x8x8192_S8x8x8192x8192_2_0_3_1)) (broadcastInDim S8x8x8192x8192 ![] bcast_S_S8x8x8192x8192 (Host.log (constant S_ .f32 0x40000000#32)))

/-- The masked scores. -/
def refScores (q : FVec Ideal S8x8x8192x256 .bf16) (k : FVec Ideal S8x8x8192x128 .bf16) (kr : FVec Ideal S8x8192x128 .bf16) : FVec Ideal S8x8x8192x8192 .f32 :=
  select causal (scaled q k kr) (broadcastInDim S8x8x8192x8192 ![] bcast_S_S8x8x8192x8192 (id (constant S_ .f32 0xFF800000#32)))

/-- The greatest score of each row. -/
def refMax (s : FVec Ideal S8x8x8192x8192 .f32) : FVec Ideal S8x8x8192 .f32 :=
  maximumf (broadcastInDim S8x8x8192 ![] bcast_S_S8x8x8192 (constant S_ .f32 0xFF800000#32)) (Host.reduce FloatOps.maximumf s (constant S_ .f32 0xFF800000#32) reducesTo_S8x8x8192x8192_S8x8x8192_d3 h_S_)

/-- A row's number, spread over the row. -/
def spread (x : FVec Ideal S8x8x8192 .f32) : FVec Ideal S8x8x8192x8192 .f32 :=
  broadcastInDim S8x8x8192x8192 ![0, 1, 2, 3] bcast_S8x8x8192x1_S8x8x8192x8192_0_1_2_3 (broadcastInDim S8x8x8192x1 ![0, 1, 2] bcast_S8x8x8192_S8x8x8192x1_0_1_2 x)

/-- The weights, not yet normalised. -/
def refWeights (s : FVec Ideal S8x8x8192x8192 .f32) : FVec Ideal S8x8x8192x8192 .f32 :=
  Host.exp (subf s (spread (refMax s)))

/-- The normalised weights. -/
def refProbs (w : FVec Ideal S8x8x8192x8192 .f32) : FVec Ideal S8x8x8192x8192 .f32 :=
  Host.divf w (spread (Host.reduceAdd w (constant S_ .f32 0x00000000#32) reducesTo_S8x8x8192x8192_S8x8x8192_d3 h_S_))

/-- The weighted values. -/
def refMix (p : FVec Ideal S8x8x8192x8192 .f32) (v : FVec Ideal S8x8x8192x128 .bf16) : FVec Ideal S8x8x8192x128 .bf16 :=
  truncf .bf16 (Host.dotGeneral dot_S8x8x8192x8192_S8x8x8192x128_S8x8x8192x128_3_2_2_3_01_01 none p (extf .f32 v bitsLt_bf16_f32)) bitsLt_bf16_f32

theorem res_eq (m : (ℓ : Loc nD τ sig) → Buf (Elt Ideal) ℓ) (c : Dev nD) :
    Value.res_out0 m c = refMix (refProbs (refWeights (refScores (m ((c.tc : Thread nD τ).loc main_arg0)) (m ((c.tc : Thread nD τ).loc main_arg1))
      (m ((c.tc : Thread nD τ).loc main_arg2))))) (m ((c.tc : Thread nD τ).loc main_arg3)) := rfl

theorem causal_apply (h b : Fin 8) (t j : Fin 8192) : causal (ix4 h b t j) = BitVec.ofBool (decide (j.val ≤ t.val)) := by
  unfold causal
  pointwise
  have hj := j.isLt
  have ht := t.isLt
  show BitVec.ofBool (BitVec.sle _ _) = _
  rw [BitVec.sle_eq_decide, BitVec.toInt_ofNat', BitVec.toInt_ofNat', Int.bmod_eq_of_le (by omega) (by omega), Int.bmod_eq_of_le (by omega) (by omega)]
  simp only [Nat.cast_le]

/-- The scale: the natural logarithm of 2. -/
theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee]
    rw [← EReal.coe_mul]
    norm_num
  rw [e, Ideal.log_coe, if_neg (by norm_num)]

theorem scaled_apply (q : FVec Ideal S8x8x8192x256 .bf16) (k : FVec Ideal S8x8x8192x128 .bf16) (kr : FVec Ideal S8x8192x128 .bf16) (h b : Fin 8) (t j : Fin 8192) :
    scaled q k kr (ix4 h b t j) = ((∑ d : Fin 128, q (ix4 h b t ⟨d.val, by omega⟩) * k (ix4 h b j d))
      + ∑ d : Fin 128, kr (ix3 b j d) * q (ix4 h b t ⟨128 + d.val, by omega⟩)) * ((Real.log 2 : ℝ) : EReal) := by
  unfold scaled
  pointwise
  rw [← log_two]

theorem refScores_apply (q : FVec Ideal S8x8x8192x256 .bf16) (k : FVec Ideal S8x8x8192x128 .bf16) (kr : FVec Ideal S8x8192x128 .bf16) (h b : Fin 8) (t j : Fin 8192) :
    refScores q k kr (ix4 h b t j) = if j.val ≤ t.val then scaled q k kr (ix4 h b t j) else ⊥ := by
  unfold refScores
  generalize scaled q k kr = s
  have hb : Ideal.ofBits .f32 4286578688#32 = ⊥ := by simp [Ideal.ofBits, Ideal.ieee]
  pointwise
  rw [causal_apply]
  change Scalar.select _ _ (Ideal.ofBits .f32 4286578688#32) = _
  rw [hb]
  by_cases hlt : j.val ≤ t.val
  · rw [if_pos hlt, decide_eq_true hlt]; rfl
  · rw [if_neg hlt, decide_eq_false hlt]; rfl

theorem spread_apply (x : FVec Ideal S8x8x8192 .f32) (h b : Fin 8) (t j : Fin 8192) : spread x (ix4 h b t j) = x (ix3 h b t) := by
  unfold spread
  pointwise

theorem hred : S8x8x8192x8192.Reduces [3] S8x8x8192 := by decide

theorem rowMax_eq (s : FVec Ideal S8x8x8192x8192 .f32) (j : S8x8x8192.Idx) :
    Host.reduce FloatOps.maximumf s (constant S_ .f32 0xFF800000#32) reducesTo_S8x8x8192x8192_S8x8x8192_d3 h_S_ j
      = (Finset.univ : Finset (Fin (S8x8x8192x8192.size 3))).fold FloatOps.maximumf (constant (F := Ideal) S_ .f32 0xFF800000#32 (Shape.Idx.first h_S_)) (s ∘ hred.lift j) :=
  Host.reduce_eq_fold_single _ s _ _ hred h_S_ j

theorem fold_eq_sup {n : ℕ} (f : Fin n → EReal) : Finset.univ.fold (FloatOps.maximumf (F := Ideal) (φ := .f32)) ⊥ f = Finset.univ.sup f := rfl

theorem negInf : Ideal.ofBits .f32 4286578688#32 = ⊥ := by simp [Ideal.ofBits, Ideal.ieee]

theorem refMax_split (s : FVec Ideal S8x8x8192x8192 .f32) (j : S8x8x8192.Idx) :
    refMax s j = max (Ideal.ofBits .f32 4286578688#32) (Host.reduce FloatOps.maximumf s (constant S_ .f32 0xFF800000#32) reducesTo_S8x8x8192x8192_S8x8x8192_d3 h_S_ j) := by
  unfold refMax
  generalize Host.reduce FloatOps.maximumf s (constant S_ .f32 0xFF800000#32) reducesTo_S8x8x8192x8192_S8x8x8192_d3 h_S_ = y
  rw [ValueIdx.maximumf_apply]
  rfl

theorem rowMax_sup (s : FVec Ideal S8x8x8192x8192 .f32) (j : S8x8x8192.Idx) :
    Host.reduce FloatOps.maximumf s (constant S_ .f32 0xFF800000#32) reducesTo_S8x8x8192x8192_S8x8x8192_d3 h_S_ j
      = (Finset.univ : Finset (Fin (S8x8x8192x8192.size 3))).sup (s ∘ hred.lift j) := by
  rw [rowMax_eq]
  rw [show (constant (F := Ideal) S_ .f32 0xFF800000#32 (Shape.Idx.first h_S_)) = ⊥ from negInf]
  exact fold_eq_sup _

theorem sup_size (s : FVec Ideal S8x8x8192x8192 .f32) (j : S8x8x8192.Idx) :
    (Finset.univ : Finset (Fin (S8x8x8192x8192.size 3))).sup (s ∘ hred.lift j) = (Finset.univ : Finset (Fin 8192)).sup (s ∘ hred.lift j) := rfl

theorem refMax_apply (s : FVec Ideal S8x8x8192x8192 .f32) (h b : Fin 8) (t : Fin 8192) :
    refMax s (ix3 h b t) = Finset.univ.sup fun j : Fin 8192 => s (ix4 h b t j) := by
  rw [refMax_split, negInf, rowMax_sup, sup_size]
  refine (bot_sup_eq _).trans (Finset.sup_congr rfl fun j _ => congrArg s ?_)
  funext c
  refine Fin.ext ?_
  show hred.liftVal (ix3 h b t) j.val c = _
  fin_cases c <;> rfl

theorem refWeights_apply (s : FVec Ideal S8x8x8192x8192 .f32) (h b : Fin 8) (t j : Fin 8192) :
    refWeights s (ix4 h b t j) = Ideal.exp (s (ix4 h b t j) - Finset.univ.sup fun j : Fin 8192 => s (ix4 h b t j)) := by
  unfold refWeights
  rw [← refMax_apply, ← spread_apply (refMax s) h b t j]
  rfl

theorem refProbs_apply (w : FVec Ideal S8x8x8192x8192 .f32) (h b : Fin 8) (t j : Fin 8192) :
    refProbs w (ix4 h b t j) = Ideal.div (w (ix4 h b t j)) (∑ j : Fin 8192, w (ix4 h b t j)) := by
  have e : Host.reduceAdd w (constant S_ .f32 0x00000000#32) reducesTo_S8x8x8192x8192_S8x8x8192_d3 h_S_ (ix3 h b t) = ∑ j : Fin 8192, w (ix4 h b t j) := by
    pointwise
  unfold refProbs
  rw [← e, ← spread_apply (Host.reduceAdd w (constant S_ .f32 0x00000000#32) reducesTo_S8x8x8192x8192_S8x8x8192_d3 h_S_) h b t j]
  rfl

theorem refMix_apply (p : FVec Ideal S8x8x8192x8192 .f32) (v : FVec Ideal S8x8x8192x128 .bf16) (h b : Fin 8) (t : Fin 8192) (d : Fin 128) :
    refMix p v (ix4 h b t d) = ∑ j : Fin 8192, p (ix4 h b t j) * v (ix4 h b j d) := by
  unfold refMix
  pointwise

/-- The reference's masked scores of one row. -/
def refScore (q : FVec Ideal S8x8x8192x256 .bf16) (k : FVec Ideal S8x8x8192x128 .bf16) (kr : FVec Ideal S8x8192x128 .bf16) (h b : Fin 8) (t j : Fin 8192) : EReal :=
  if j.val ≤ t.val then ((∑ d : Fin 128, q (ix4 h b t ⟨d.val, by omega⟩) * k (ix4 h b j d))
      + ∑ d : Fin 128, kr (ix3 b j d) * q (ix4 h b t ⟨128 + d.val, by omega⟩)) * ((Real.log 2 : ℝ) : EReal) else ⊥

/-- One entry of the result: the softmax of the row's scores against the values. -/
theorem res_apply (m : (ℓ : Loc nD τ sig) → Buf (Elt Ideal) ℓ) (c : Dev nD) (q : FVec Ideal S8x8x8192x256 .bf16) (k v : FVec Ideal S8x8x8192x128 .bf16) (kr : FVec Ideal S8x8192x128 .bf16)
    (hq : m ((c.tc : Thread nD τ).loc main_arg0) = q) (hk : m ((c.tc : Thread nD τ).loc main_arg1) = k) (hkr : m ((c.tc : Thread nD τ).loc main_arg2) = kr)
    (hv : m ((c.tc : Thread nD τ).loc main_arg3) = v) (h b : Fin 8) (t : Fin 8192) (d : Fin 128) :
    (Value.res_out0 m c : FVec Ideal S8x8x8192x128 .bf16) (ix4 h b t d) = ∑ j : Fin 8192, Ideal.div (Ideal.exp (refScore q k kr h b t j - Finset.univ.sup fun j => refScore q k kr h b t j))
      (∑ j : Fin 8192, Ideal.exp (refScore q k kr h b t j - Finset.univ.sup fun j => refScore q k kr h b t j)) * v (ix4 h b j d) := by
  have e : ∀ j, refScores q k kr (ix4 h b t j) = refScore q k kr h b t j := fun j => by rw [refScores_apply, scaled_apply]; rfl
  rw [res_eq, hq, hk, hkr, hv, refMix_apply]
  simp only [refProbs_apply, refWeights_apply, e]

end Cert.AttnRef

end
-- ==== Proof.Row.lean ====
/-
  ONE ROW OF A BLOCK AGAINST THE REFERENCE. When the blocks hold the head's queries, keys and values and the batch's
  rotary keys, a row's scores times log 2 are the reference's scores (`score_eq`); all of them are real or masked
  (`score_ne_top`, `score_self`), so the row of the block is the reference's softmax row (`row_eq`).
-/
module

public import proofs.«01_k».proof.Proof.Block
public import proofs.«01_k».proof.Proof.Softmax
public import proofs.«01_k».proof.Proof.Reference

@[expose] public section

set_option maxRecDepth 65536

noncomputable section

namespace Cert.Attn

open Idealize.ShloMosaic Idealize.ShloMosaic.TcCoe Idealize.SL.Sem
open Cert.KernelIdeal Cert.KernelIdeal.Gen
open scoped BigOperators

/-- A number that is neither infinity. -/
def Real' (x : EReal) : Prop := x ≠ ⊥ ∧ x ≠ ⊤

theorem Real'.mul {x y : EReal} (hx : Real' x) (hy : Real' y) : Real' (x * y) := by
  lift x to ℝ using ⟨hx.2, hx.1⟩
  lift y to ℝ using ⟨hy.2, hy.1⟩
  rw [← EReal.coe_mul]
  exact ⟨EReal.coe_ne_bot _, EReal.coe_ne_top _⟩

theorem Real'.sum {ι : Type} (A : Finset ι) (f : ι → EReal) (hf : ∀ i, Real' (f i)) : Real' (∑ i ∈ A, f i) := by
  refine Finset.sum_induction f Real' (fun x y hx hy => ?_) ⟨EReal.zero_ne_bot, EReal.zero_ne_top⟩ fun i _ => hf i
  lift x to ℝ using ⟨hx.2, hx.1⟩
  lift y to ℝ using ⟨hy.2, hy.1⟩
  rw [← EReal.coe_add]
  exact ⟨EReal.coe_ne_bot _, EReal.coe_ne_top _⟩

section Row

variable {x0 : Vec Ideal S1x1x4096x256 .bf16} {x1 : Vec Ideal S1x1x8192x128 .bf16} {x2 : Vec Ideal S1x8192x128 .bf16} {x3 : Vec Ideal S1x1x8192x128 .bf16}
  {q : FVec Ideal S8x8x8192x256 .bf16} {k v : FVec Ideal S8x8x8192x128 .bf16} {kr : FVec Ideal S8x8192x128 .bf16} {h b : Fin 8} {K : ℕ} {r : Fin 4096} {t : Fin 8192}

theorem score_eq (ht : t.val = K + r.val) (h0 : ∀ e, x0 (ix4 0 0 r e) = q (ix4 h b t e)) (h1 : ∀ j d, x1 (ix4 0 0 j d) = k (ix4 h b j d))
    (h2 : ∀ j d, x2 (ix3 0 j d) = kr (ix3 b j d)) (j : Fin 8192) : rowScore x0 x1 x2 K r j.val * ln2 = AttnRef.refScore q k kr h b t j := by
  unfold rowScore AttnRef.refScore raw
  rw [ht, dif_pos j.isLt]
  by_cases hj : j.val ≤ K + r.val
  · rw [if_pos hj, if_pos hj]
    refine congrArg (· * ln2) ?_
    refine (Fin.sum_univ_add (a := 128) (b := 128) fun d : Fin 256 => x0 (ix4 0 0 r d) * keyRow x1 x2 ⟨j.val, j.isLt⟩ d).trans ?_
    refine congrArg₂ (· + ·) (Finset.sum_congr rfl fun d _ => ?_) (Finset.sum_congr rfl fun d _ => ?_)
    · have hd : (Fin.castAdd 128 d : Fin 256).val < 128 := d.isLt
      unfold keyRow
      rw [dif_pos hd, h0, h1]
      rfl
    · have hd : ¬ (Fin.natAdd 128 d : Fin 256).val < 128 := by show ¬ 128 + d.val < 128; omega
      have hs : (⟨(Fin.natAdd 128 d : Fin 256).val - 128, by show 128 + d.val - 128 < 128; omega⟩ : Fin 128) = d := Fin.ext (by show 128 + d.val - 128 = d.val; omega)
      unfold keyRow
      rw [dif_neg hd, h0, h2, mul_comm, hs]
      rfl
  · rw [if_neg hj, if_neg hj, EReal.bot_mul_coe_of_pos ln2_pos]

theorem raw_real (h0 : ∀ e, Real' (x0 (ix4 0 0 r e))) (h1 : ∀ j d, Real' (x1 (ix4 0 0 j d))) (h2 : ∀ j d, Real' (x2 (ix3 0 j d))) {j : ℕ} (hj : j < 8192) :
    Real' (raw x0 x1 x2 r j) := by
  unfold raw
  rw [dif_pos hj]
  refine Real'.sum _ _ fun d => (h0 d).mul ?_
  unfold keyRow
  split
  · exact h1 _ _
  · exact h2 _ _

theorem row_eq (hK : K + 4096 ≤ 8192) (ht : t.val = K + r.val) (h0 : ∀ e, x0 (ix4 0 0 r e) = q (ix4 h b t e)) (h1 : ∀ j d, x1 (ix4 0 0 j d) = k (ix4 h b j d))
    (h2 : ∀ j d, x2 (ix3 0 j d) = kr (ix3 b j d)) (h3 : ∀ j d, x3 (ix4 0 0 j d) = v (ix4 h b j d))
    (fq : ∀ i, Real' (q i)) (fk : ∀ i, Real' (k i)) (fkr : ∀ i, Real' (kr i)) (d : Fin 128) :
    Ideal.div (rowSum (rowScore x0 x1 x2 K r) (colValue x3 ⟨d.val, by omega⟩) (K + 4096)) (rowSum (rowScore x0 x1 x2 K r) (colValue x3 ⟨128 + d.val, by omega⟩) (K + 4096))
      = ∑ j : Fin 8192, Ideal.div (Ideal.exp (AttnRef.refScore q k kr h b t j - Finset.univ.sup fun j => AttnRef.refScore q k kr h b t j))
      (∑ j : Fin 8192, Ideal.exp (AttnRef.refScore q k kr h b t j - Finset.univ.sup fun j => AttnRef.refScore q k kr h b t j)) * v (ix4 h b j d) := by
  have fraw : ∀ j, j < 8192 → Real' (raw x0 x1 x2 r j) := fun j hj =>
    raw_real (fun e => by rw [h0]; exact fq _) (fun j d => by rw [h1]; exact fk _) (fun j d => by rw [h2]; exact fkr _) hj
  have hmask : ∀ j, K + 4096 ≤ j → j < 8192 → rowScore x0 x1 x2 K r j = ⊥ := fun j hj _ => by
    unfold rowScore
    exact if_neg (by have := r.isLt; omega)
  have hone : colValue x3 ⟨128 + d.val, by omega⟩ = fun _ => 1 := by
    funext j
    unfold colValue
    exact dif_neg (by show ¬ 128 + d.val < 128; omega)
  rw [← rowSum_masked _ _ hK hmask, ← rowSum_masked _ _ hK hmask, hone, ← softmax_eq]
  · simp only [score_eq ht h0 h1 h2]
    refine Finset.sum_congr rfl fun j _ => ?_
    rw [show colValue x3 ⟨d.val, by omega⟩ j.val = v (ix4 h b j d) from by
      unfold colValue
      rw [dif_pos d.isLt, dif_pos j.isLt]
      exact h3 j d]
  · intro j hj
    unfold rowScore
    split
    · exact (fraw j hj).2
    · exact bot_ne_top
  · refine ⟨0, by omega, ?_⟩
    unfold rowScore
    rw [if_pos (Nat.zero_le _)]
    exact (fraw 0 (by omega)).1

end Row

end Cert.Attn

end
-- ==== Proof.Finite.lean ====
/-
  THE PRECONDITION READ BACK. Where `finite_queries_and_keys` holds everywhere, every query, key and rotary key is a real
  number (`queries_real`, `keys_real`, `rotary_real`).
-/
module

public import proofs.«01_k».proof.Defs
public import proofs.«01_k».proof.Proof.Row

@[expose] public section

noncomputable section

namespace Cert.Attn

open Idealize.ShloMosaic Idealize.ShloMosaic.TcCoe Idealize.SL.Sem
open Cert.Pre_finite_queries_and_keys

/-- The shape relations of the precondition's operations. -/
theorem preFacts : Cert.Pre_finite_queries_and_keys.Facts where
  slices_S8x8x8192x256_S8x8x8192x128_0_0_0_0 := by decide +kernel
  bcast_S_S8x8x8192x128 := by decide +kernel
  slices_S8x8x8192x256_S8x8x8192x128_0_0_0_128 := by decide +kernel
  bcast_S_S8x8192x128 := by decide +kernel
  bcast_S8x8192x128_S1x8x8192x128_1_2_3 := by decide +kernel
  bcast_S1x8x8192x128_S8x8x8192x128_0_1_2_3 := by decide +kernel

instance : Cert.Pre_finite_queries_and_keys.Facts := preFacts

/-- The test one number passes. -/
def small (x : EReal) : BitVec 1 := Ideal.cmp .olt (max x (-x)) (Ideal.ofBits .bf16 0x7F80#16)

theorem small_real {x : EReal} (h : small x = 1#1) : Real' x := by
  have hb : Ideal.ofBits .bf16 0x7F80#16 = ⊤ := by simp [Ideal.ofBits, Ideal.ieee]
  unfold small at h
  rw [hb] at h
  have hlt : max x (-x) < ⊤ := by
    by_contra hn
    have e : Ideal.cmp .olt (max x (-x)) ⊤ = 0#1 := by
      show BitVec.ofBool (decide _) = _
      rw [decide_eq_false hn]; rfl
    rw [e] at h
    exact absurd h (by decide)
  have hx := lt_of_le_of_lt (le_max_left x (-x)) hlt
  have hn := lt_of_le_of_lt (le_max_right x (-x)) hlt
  refine ⟨fun e => ?_, hx.ne⟩
  rw [e, EReal.neg_bot] at hn
  exact lt_irrefl _ hn

theorem and_one {a b : BitVec 1} (h : a &&& b = 1#1) : a = 1#1 ∧ b = 1#1 := by
  revert a b
  decide

theorem test_apply (q : FVec Ideal S8x8x8192x256 .bf16) (k : FVec Ideal S8x8x8192x128 .bf16) (kr : FVec Ideal S8x8192x128 .bf16) (v : FVec Ideal S8x8x8192x128 .bf16)
    (h b : Fin 8) (t : Fin 8192) (d : Fin 128) :
    fn q k kr v (ix4 h b t d) = ((small (q (ix4 h b t ⟨d.val, by omega⟩)) &&& small (q (ix4 h b t ⟨128 + d.val, by omega⟩))) &&& small (k (ix4 h b t d))) &&& small (kr (ix3 b t d)) := by
  unfold fn
  dsimp only
  pointwise
  rfl

section Read

variable {q : FVec Ideal S8x8x8192x256 .bf16} {k v : FVec Ideal S8x8x8192x128 .bf16} {kr : FVec Ideal S8x8192x128 .bf16}

/-- The four tests at one place. -/
theorem tests (hp : fn q k kr v = fun _ => 1#1) (h b : Fin 8) (t : Fin 8192) (d : Fin 128) :
    Real' (q (ix4 h b t ⟨d.val, by omega⟩)) ∧ Real' (q (ix4 h b t ⟨128 + d.val, by omega⟩)) ∧ Real' (k (ix4 h b t d)) ∧ Real' (kr (ix3 b t d)) := by
  have e := test_apply q k kr v h b t d
  rw [hp] at e
  obtain ⟨e, h3⟩ := and_one e.symm
  obtain ⟨e, h2⟩ := and_one e
  obtain ⟨h0, h1⟩ := and_one e
  exact ⟨small_real h0, small_real h1, small_real h2, small_real h3⟩

theorem queries_real (hp : fn q k kr v = fun _ => 1#1) (i : S8x8x8192x256.Idx) : Real' (q i) := by
  obtain ⟨h, b, t, e, rfl⟩ : ∃ (h b : Fin 8) (t : Fin 8192) (e : Fin 256), i = ix4 h b t e := ⟨i 0, i 1, i 2, i 3, by funext a; fin_cases a <;> rfl⟩
  by_cases he : e.val < 128
  · exact (tests hp h b t ⟨e.val, he⟩).1
  · have w := (tests hp h b t ⟨e.val - 128, by omega⟩).2.1
    have ee : (⟨128 + (e.val - 128), by omega⟩ : Fin 256) = e := Fin.ext (by show 128 + (e.val - 128) = e.val; omega)
    rwa [ee] at w

theorem keys_real (hp : fn q k kr v = fun _ => 1#1) (i : S8x8x8192x128.Idx) : Real' (k i) := by
  obtain ⟨h, b, t, d, rfl⟩ : ∃ (h b : Fin 8) (t : Fin 8192) (d : Fin 128), i = ix4 h b t d := ⟨i 0, i 1, i 2, i 3, by funext a; fin_cases a <;> rfl⟩
  exact (tests hp h b t d).2.2.1

theorem rotary_real (hp : fn q k kr v = fun _ => 1#1) (i : S8x8192x128.Idx) : Real' (kr i) := by
  obtain ⟨b, t, d, rfl⟩ : ∃ (b : Fin 8) (t : Fin 8192) (d : Fin 128), i = ix3 b t d := ⟨i 0, i 1, i 2, by funext a; fin_cases a <;> rfl⟩
  exact (tests hp 0 b t d).2.2.2

end Read

end Cert.Attn

end
-- ==== Proof.Array.lean ====
/-
  THE WHOLE RESULT. Grid point (b, h, q) reads head `h` of batch `b` and writes rows 4096·q … 4096·q + 4095 of that
  head; the 128 blocks tile the result, so the array after the run is the reference's (`array_eq`).
-/
module

public import proofs.«01_k».proof.Proof.Finite
public import proofs.«01_k».proof.Proof.Gen.KernelIdeal.Value
public import Idealize.ShloMosaic.Lib.Pipeline.ValueKit.Geometry
public import Idealize.ShloMosaic.Lib.Pipeline.ValueKit.Point

@[expose] public section

set_option maxRecDepth 65536

noncomputable section

namespace Cert.Attn

open Idealize.ShloMosaic Idealize.ShloMosaic.TcCoe Idealize.SL.Sem
open Cert.KernelIdeal Cert.KernelIdeal.Gen
open scoped BigOperators

/-- The place of every block. -/
theorem places : ∀ t : Fin cfg0.N,
    win0_0.index t = ![(grid0.coords t 1).val, (grid0.coords t 0).val, (grid0.coords t 2).val, 0]
    ∧ win0_1.index t = ![(grid0.coords t 1).val, (grid0.coords t 0).val, 0, 0]
    ∧ win0_2.index t = ![(grid0.coords t 0).val, 0, 0]
    ∧ win0_3.index t = ![(grid0.coords t 1).val, (grid0.coords t 0).val, 0, 0]
    ∧ win0_4.index t = ![(grid0.coords t 1).val, (grid0.coords t 0).val, (grid0.coords t 2).val, 0]
    ∧ (grid0.coords t 0).val < 8 ∧ (grid0.coords t 1).val < 8 ∧ (grid0.coords t 2).val < 2 :=
  (by decide +kernel : ∀ t : Fin grid0.N, _)

variable (m : (ℓ : Loc nD τ sig) → Buf (Elt Ideal) ℓ) (c : Dev nD)

theorem array_eq (G : FVec Ideal S8x8x8192x128 .bf16)
    (hG : ∀ (t : Fin cfg0.N) (r : Fin 4096) (d : Fin 128),
      out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) (ix4 0 0 r d)
        = G (ix4 ⟨(grid0.coords t 1).val, (places t).2.2.2.2.2.2.1⟩ ⟨(grid0.coords t 0).val, (places t).2.2.2.2.2.1⟩
            ⟨4096 * (grid0.coords t 2).val + r.val, by have := (places t).2.2.2.2.2.2.2; omega⟩ d)) :
    (dats m 0 c).arrAt 4 cfg0.N = G := by
  refine (dats m 0 c).arrAt_eq_of_covers 4 _ (by decide +kernel) fun t hf y => ?_
  blk_simp
  rw [after0_4]
  unfold outsAt0
  obtain ⟨r, d, hy⟩ : ∃ (r : Fin 4096) (d : Fin 128), (y : S1x1x4096x128.Idx) = ix4 0 0 r d :=
    ⟨y 2, y 3, by
      funext a
      fin_cases a
      · exact Fin.ext (Nat.lt_one_iff.1 (y 0).isLt)
      · exact Fin.ext (Nat.lt_one_iff.1 (y 1).isLt)
      · rfl
      · rfl⟩
  subst hy
  refine (hG t r d).trans (congrArg G ?_)
  obtain ⟨e0, e1, e2, e3, e4, b0, b1, b2⟩ := places t
  blk_ext [e4]

section Blocks

variable (t : Fin cfg0.N)

/-- The grid point's head, batch and row position. -/
def headOf : Fin 8 := ⟨(grid0.coords t 1).val, (places t).2.2.2.2.2.2.1⟩
def batchOf : Fin 8 := ⟨(grid0.coords t 0).val, (places t).2.2.2.2.2.1⟩
def posOf (r : Fin 4096) : Fin 8192 := ⟨4096 * (grid0.coords t 2).val + r.val, by have := (places t).2.2.2.2.2.2.2; omega⟩

theorem queries_block (r : Fin 4096) (e : Fin 256) :
    (iblk m c 0 t : Vec Ideal S1x1x4096x256 .bf16) (ix4 0 0 r e) = (m ((c.tc : Thread nD τ).loc main_arg0) : FVec Ideal S8x8x8192x256 .bf16) (ix4 (headOf t) (batchOf t) (posOf t r) e) := by
  obtain ⟨e0, e1, e2, e3, e4, b0, b1, b2⟩ := places t
  unfold headOf batchOf posOf
  blk_ext [iblk, V, e0]

theorem keys_block (j : Fin 8192) (d : Fin 128) :
    (iblk m c 1 t : Vec Ideal S1x1x8192x128 .bf16) (ix4 0 0 j d) = (m ((c.tc : Thread nD τ).loc main_arg1) : FVec Ideal S8x8x8192x128 .bf16) (ix4 (headOf t) (batchOf t) j d) := by
  obtain ⟨e0, e1, e2, e3, e4, b0, b1, b2⟩ := places t
  unfold headOf batchOf
  blk_ext [iblk, V, e1]

theorem rotary_block (j : Fin 8192) (d : Fin 128) :
    (iblk m c 2 t : Vec Ideal S1x8192x128 .bf16) (ix3 0 j d) = (m ((c.tc : Thread nD τ).loc main_arg2) : FVec Ideal S8x8192x128 .bf16) (ix3 (batchOf t) j d) := by
  obtain ⟨e0, e1, e2, e3, e4, b0, b1, b2⟩ := places t
  unfold batchOf
  blk_ext [iblk, V, e2]

theorem values_block (j : Fin 8192) (d : Fin 128) :
    (iblk m c 3 t : Vec Ideal S1x1x8192x128 .bf16) (ix4 0 0 j d) = (m ((c.tc : Thread nD τ).loc main_arg3) : FVec Ideal S8x8x8192x128 .bf16) (ix4 (headOf t) (batchOf t) j d) := by
  obtain ⟨e0, e1, e2, e3, e4, b0, b1, b2⟩ := places t
  unfold headOf batchOf
  blk_ext [iblk, V, e3]

end Blocks

/-- The array after the run, for real queries and keys: the reference's result on the same arguments. -/
theorem result_eq (q : FVec Ideal S8x8x8192x256 .bf16) (k v : FVec Ideal S8x8x8192x128 .bf16) (kr : FVec Ideal S8x8192x128 .bf16)
    (hq : m ((c.tc : Thread nD τ).loc main_arg0) = q) (hk : m ((c.tc : Thread nD τ).loc main_arg1) = k) (hkr : m ((c.tc : Thread nD τ).loc main_arg2) = kr)
    (hv : m ((c.tc : Thread nD τ).loc main_arg3) = v) (fq : ∀ i, Real' (q i)) (fk : ∀ i, Real' (k i)) (fkr : ∀ i, Real' (kr i))
    (G : FVec Ideal S8x8x8192x128 .bf16)
    (hG : ∀ (h b : Fin 8) (t : Fin 8192) (d : Fin 128), G (ix4 h b t d) = ∑ j : Fin 8192, Ideal.div (Ideal.exp (AttnRef.refScore q k kr h b t j - Finset.univ.sup fun j => AttnRef.refScore q k kr h b t j))
      (∑ j : Fin 8192, Ideal.exp (AttnRef.refScore q k kr h b t j - Finset.univ.sup fun j => AttnRef.refScore q k kr h b t j)) * v (ix4 h b j d)) :
    (dats m 0 c).arrAt 4 cfg0.N = G := by
  refine array_eq m c G fun t r d => ?_
  have hqi := (places t).2.2.2.2.2.2.2
  refine (block_apply _ _ c (grid0.coords t) _ _ _ _ _ _ _ _ _ _ _ _ _ _ _ _ r d).trans (Eq.trans ?_ (hG (headOf t) (batchOf t) (posOf t r) d).symm)
  exact row_eq (by omega) rfl (fun e => (queries_block m c t r e).trans (congrFun hq _)) (fun j d => (keys_block m c t j d).trans (congrFun hk _))
    (fun j d => (rotary_block m c t j d).trans (congrFun hkr _)) (fun j d => (values_block m c t j d).trans (congrFun hv _)) fq fk fkr d

end Cert.Attn

end
-- ==== Proof.TailRow.lean ====
/-
  ONE TOKEN OF THE LAYER'S TAIL. A token's row is normalised (`normRow`), mixed with the layer's input (`mixRow`), sent
  through the feed-forward layer (`ffnRow`) and gated (`gateRow`). Nothing here needs a finite
  number: the only law used is that a sum may be taken in blocks (`ffnRow_blocks`), which holds for all extended reals.
-/
module

public import Idealize.ShloMosaic.Lib.Pipeline.ValueKit.Acc
public import Idealize.ShloMosaic.PureOps.Ideal

@[expose] public section

noncomputable section

namespace Cert.Tail

open Idealize.ShloMosaic
open scoped BigOperators

/-- The residual weight √2, as its float word. -/
abbrev alphaW : EReal := Ideal.ofBits .f32 0x3FB504F3#32
/-- The width 1024, as its float word. -/
abbrev widthW : EReal := Ideal.ofBits .f32 0x44800000#32
/-- The normalisation's ε, as its float word. -/
abbrev epsW : EReal := Ideal.ofBits .f32 0x3727C5AC#32
/-- One, as its float word. -/
abbrev oneW : EReal := Ideal.ofBits .f32 0x3F800000#32

/-- The mean of a row. -/
def mean (z : Fin 1024 → EReal) : EReal := Ideal.div (∑ l, z l) widthW

/-- The layer normalisation of a row. -/
def normRow (z g b : Fin 1024 → EReal) (j : Fin 1024) : EReal :=
  (z j - mean z) * Ideal.rsqrt (mean (fun l => (z l - mean z) * (z l - mean z)) + epsW) * g j + b j

/-- The logistic function. -/
def sigm (x : EReal) : EReal := Ideal.div oneW (oneW + Ideal.exp (-x))

/-- The gated unit: `g · sigm g · u`. -/
def act (g u : EReal) : EReal := g * sigm g * u

/-- A row plus its projection: `√2 · x + o W`. -/
def mixRow (o x : Fin 1024 → EReal) (w : Fin 1024 → Fin 1024 → EReal) (j : Fin 1024) : EReal :=
  alphaW * x j + ∑ l, o l * w l j

/-- Hidden unit `n` of the feed-forward layer: its gate is column `n`, its value column `2816 + n`. -/
def hidden (x : Fin 1024 → EReal) (w : Fin 1024 → Fin 5632 → EReal) (n : Fin 2816) : EReal :=
  act (∑ l, x l * w l ⟨n.val, by omega⟩) (∑ l, x l * w l ⟨2816 + n.val, by omega⟩)

/-- The feed-forward layer of a row. -/
def ffnRow (x : Fin 1024 → EReal) (w : Fin 1024 → Fin 5632 → EReal) (d : Fin 2816 → Fin 1024 → EReal) (j : Fin 1024) : EReal :=
  ∑ n : Fin 2816, hidden x w n * d n j

/-- The row before the second normalisation: `√2 · x + ffn x`. -/
def preRow (x : Fin 1024 → EReal) (w : Fin 1024 → Fin 5632 → EReal) (d : Fin 2816 → Fin 1024 → EReal) (j : Fin 1024) : EReal :=
  alphaW * x j + ffnRow x w d j

/-- The gated end: `y + sigm (y W) · (p W')`. -/
def gateRow (y : Fin 1024 → EReal) (w : Fin 1024 → Fin 1024 → EReal) (p : Fin 256 → EReal) (v : Fin 256 → Fin 1024 → EReal) (j : Fin 1024) : EReal :=
  y j + sigm (∑ l, y l * w l j) * ∑ l, p l * v l j

/-- Block `k` (256 hidden units) of the feed-forward layer. -/
def ffnBlock (x : Fin 1024 → EReal) (w : Fin 1024 → Fin 5632 → EReal) (d : Fin 2816 → Fin 1024 → EReal) (j : Fin 1024) (k : Fin 11) : EReal :=
  ∑ n : Fin 256, hidden x w ⟨k.val * 256 + n.val, by omega⟩ * d ⟨k.val * 256 + n.val, by omega⟩ j

theorem ffnRow_blocks (x : Fin 1024 → EReal) (w : Fin 1024 → Fin 5632 → EReal) (d : Fin 2816 → Fin 1024 → EReal) (j : Fin 1024) :
    ∑ k, ffnBlock x w d j k = ffnRow x w d j :=
  Fin.sum_mul_add_fin 11 256 (fun n => hidden x w n * d n j) (by decide)

end Cert.Tail

end
-- ==== Proof.TailBody.lean ====
/-
  THE TAIL KERNEL'S BODY, read at one row. The body is four things: the normalisation of a block of rows (`k0_pay10`),
  the mix of a block with its projection (`k0_pay4`), one block of 256 hidden units (`unitBlock`) and the gated end
  (`k0_pay14`).
-/
module

public import proofs.«01_k».proof.Proof.TailRow
public import proofs.«01_k».proof.Proof.Gen.Kernel2Ideal.Skeleton
public import Idealize.ShloMosaic.Lib.MatmulPlain
public import Idealize.ShloMosaic.Lib.Pipeline.Value
public import Idealize.ShloMosaic.Lib.Pointwise
public import Idealize.ShloMosaic.Lib.Pointwise.IndexVar

@[expose] public section

set_option maxRecDepth 16384

noncomputable section

namespace Cert.Tail

open Idealize.ShloMosaic Idealize.ShloMosaic.TcCoe Idealize.SL.Sem
open Cert.Kernel2Ideal Cert.Kernel2Ideal.Gen
open scoped BigOperators

/-- One block of 256 hidden units: two products, the gated unit, and the product with the block's rows of the last matrix. -/
def unitBlock (x : Vec Ideal S512x1024 .bf16) (wg wu : Vec Ideal S1x1024x256 .bf16) (wd : Vec Ideal S1x256x1024 .bf16) : FVec Ideal S512x1024 .f32 :=
  matmul (φ₁ := .bf16) (φ₂ := .bf16) dot_S512x256_S256x1024_S512x1024_1_0_0_1_n_n none
    (truncf .bf16 (mulf (mulf (k0_pay15 x wg) (divf (k0_pay18 (F := Ideal)) (k0_pay17 x wg))) (k0_pay16 x wu)) bitsLt_bf16_f32)
    (shapeCast S256x1024 wd shapeCasts_S1x256x1024_S256x1024) (constant S512x1024 .f32 0x00000000#32)

theorem norm_apply (z : Vec Ideal S512x1024 .f32) (g b : Vec Ideal S1x1x1024 .f32) (r : Fin 512) (j : Fin 1024) :
    k0_pay10 z g b (ix2 r j) = normRow (fun l => z (ix2 r l)) (fun l => g (ix3 0 0 l)) (fun l => b (ix3 0 0 l)) j := by
  unfold k0_pay10 normRow mean
  pointwise

theorem unit_apply (x : Vec Ideal S512x1024 .bf16) (wg wu : Vec Ideal S1x1024x256 .bf16) (wd : Vec Ideal S1x256x1024 .bf16) (r : Fin 512) (j : Fin 1024) :
    unitBlock x wg wu wd (ix2 r j) = ∑ n : Fin 256, act (∑ l : Fin 1024, x (ix2 r l) * wg (ix3 0 l n)) (∑ l : Fin 1024, x (ix2 r l) * wu (ix3 0 l n)) * wd (ix3 0 n j) := by
  unfold unitBlock k0_pay15 k0_pay16 k0_pay17 k0_pay18 k0_pay15 act sigm
  pointwise
  simp only [zero_sub]

theorem gate_apply (y : Vec Ideal S512x1024 .f32) (w : Vec Ideal S1x1024x1024 .bf16) (p : Vec Ideal S1x512x256 .f32) (v : Vec Ideal S1x256x1024 .bf16) (r : Fin 512) (j : Fin 1024) :
    k0_pay14 y w p v (ix2 r j) = gateRow (fun l => y (ix2 r l)) (fun l j => w (ix3 0 l j)) (fun l => p (ix3 0 r l)) (fun l j => v (ix3 0 l j)) j := by
  unfold k0_pay14 gateRow sigm
  pointwise
  simp only [zero_sub]

/-- The eight heads' rows side by side. -/
def heads (o : Fin 8 → Vec Ideal S1x512x128 .bf16) (r : Fin 512) (l : Fin 1024) : EReal :=
  o ⟨l.val / 128, by omega⟩ (ix3 0 r ⟨l.val % 128, by omega⟩)

/-- The heads side by side, as the body builds them. -/
def headsVec (o : Fin 8 → Vec Ideal S1x512x128 .bf16) : FVec Ideal S512x1024 .bf16 :=
  concatenate S512x1024 1 [⟨S512x128, shapeCast S512x128 (o 0) shapeCasts_S1x512x128_S512x128⟩, ⟨S512x128, shapeCast S512x128 (o 1) shapeCasts_S1x512x128_S512x128⟩,
    ⟨S512x128, shapeCast S512x128 (o 2) shapeCasts_S1x512x128_S512x128⟩, ⟨S512x128, shapeCast S512x128 (o 3) shapeCasts_S1x512x128_S512x128⟩,
    ⟨S512x128, shapeCast S512x128 (o 4) shapeCasts_S1x512x128_S512x128⟩, ⟨S512x128, shapeCast S512x128 (o 5) shapeCasts_S1x512x128_S512x128⟩,
    ⟨S512x128, shapeCast S512x128 (o 6) shapeCasts_S1x512x128_S512x128⟩, ⟨S512x128, shapeCast S512x128 (o 7) shapeCasts_S1x512x128_S512x128⟩]
    concatenates_S512x128_S512x128_S512x128_S512x128_S512x128_S512x128_S512x128_S512x128_S512x1024_d1

theorem headsVec_apply (o : Fin 8 → Vec Ideal S1x512x128 .bf16) (r : Fin 512) (l : Fin 1024) : headsVec o (ix2 r l) = heads o r l := by
  refine (concatenate_ofFn_apply (t := S512x1024) (s₁ := S512x128) 1 (fun n : Fin 8 => shapeCast S512x128 (o n) shapeCasts_S1x512x128_S512x128)
    concatenates_S512x128_S512x128_S512x128_S512x128_S512x128_S512x128_S512x128_S512x128_S512x1024_d1 rfl 128 rfl (ix2 r l) ⟨l.val / 128, by omega⟩ rfl
    (ix2 r ⟨l.val % 128, by omega⟩) rfl (fun b hb => by fin_cases b <;> first | rfl | exact absurd rfl hb)).trans ?_
  unfold heads
  pointwise

theorem mix_eq (o : Fin 8 → Vec Ideal S1x512x128 .bf16) (x : Vec Ideal S512x1024 .f32) (w : Vec Ideal S1024x1024 .bf16) :
    k0_pay4 (o 0) (o 1) (o 2) (o 3) (o 4) (o 5) (o 6) (o 7) x w = addf (mulf (broadcast S512x1024 (Scalar.ofBits .f32 0x3FB504F3#32)) x)
      (matmul (φ₁ := .bf16) (φ₂ := .bf16) dot_S512x1024_S1024x1024_S512x1024_1_0_0_1_n_n none (headsVec o) (shapeCast S1024x1024 w shapeCasts_S1024x1024_S1024x1024)
        (constant S512x1024 .f32 0x00000000#32)) := rfl

theorem mix_apply (o : Fin 8 → Vec Ideal S1x512x128 .bf16) (x : Vec Ideal S512x1024 .f32) (w : Vec Ideal S1024x1024 .bf16) (r : Fin 512) (j : Fin 1024) :
    k0_pay4 (o 0) (o 1) (o 2) (o 3) (o 4) (o 5) (o 6) (o 7) x w (ix2 r j) = mixRow (heads o r) (fun l => x (ix2 r l)) (fun l j => w (ix2 l j)) j := by
  unfold mixRow
  simp only [← headsVec_apply]
  rw [mix_eq]
  generalize headsVec o = y
  pointwise

end Cert.Tail

end
-- ==== Proof.TailStep.lean ====
/-
  ONE GRID STEP OF THE TAIL KERNEL. A step leaves three blocks of rows for the next one: the mixed and normalised rows of
  the next tile (`nextX`, and the same rows again as the matrices' operand, `nextXb`), and the rows of this tile before the
  second normalisation (`nextPre`). It writes out the tile before it (`nextOut`). Each is read here at one row, and the run's
  own terms for a step are these (`out_B`, `x_B`, …).
-/
module

public import proofs.«01_k».proof.Proof.TailBody
public import proofs.«01_k».proof.Proof.Gen.Kernel2Ideal.Value
public import Idealize.ShloMosaic.Lib.Pipeline.ValueKit.Geometry
public import Idealize.ShloMosaic.Lib.Pipeline.ValueKit.Point
public import Idealize.ShloMosaic.Lib.Pipeline.ValueKit.Tiles

@[expose] public section

set_option maxRecDepth 65536

noncomputable section

namespace Cert.Tail

open Idealize.ShloMosaic Idealize.ShloMosaic.TcCoe Idealize.SL.Sem
open Cert.Kernel2Ideal Cert.Kernel2Ideal.Gen
open scoped BigOperators

theorem inHead (h : Fin 8) : ∀ a, (![h.val, 0, 0] : Fin 3 → ℕ) a + (![1, 512, 128] : Fin 3 → ℕ) a ≤ S8x512x128.size a := by
  intro a
  have := h.isLt
  fin_cases a
  · show h.val + 1 ≤ 8; omega
  · exact le_refl 512
  · exact le_refl 128

theorem inGate (k : Fin 11) : ∀ a, (![0, 0, 256 * k.val] : Fin 3 → ℕ) a + (![1, 1024, 256] : Fin 3 → ℕ) a ≤ S1x1024x5632.size a := by
  intro a
  have := k.isLt
  fin_cases a
  · exact le_refl 1
  · exact le_refl 1024
  · show 256 * k.val + 256 ≤ 5632; omega

theorem inUp (k : Fin 11) : ∀ a, (![0, 0, 2816 + 256 * k.val] : Fin 3 → ℕ) a + (![1, 1024, 256] : Fin 3 → ℕ) a ≤ S1x1024x5632.size a := by
  intro a
  have := k.isLt
  fin_cases a
  · exact le_refl 1
  · exact le_refl 1024
  · show 2816 + 256 * k.val + 256 ≤ 5632; omega

theorem inDown (k : Fin 11) : ∀ a, (![0, 256 * k.val, 0] : Fin 3 → ℕ) a + (![1, 256, 1024] : Fin 3 → ℕ) a ≤ S1x2816x1024.size a := by
  intro a
  have := k.isLt
  fin_cases a
  · exact le_refl 1
  · show 256 * k.val + 256 ≤ 2816; omega
  · exact le_refl 1024

/-- Head `h` of a block. -/
def headOf (o : Vec Ideal S8x512x128 .bf16) (h : Fin 8) : Vec Ideal S1x512x128 .bf16 := View.ld o (Rect.unit ![h.val, 0, 0] ![1, 512, 128] (inHead h))

/-- Block `k` of 256 hidden units. -/
def unitAt (x : Vec Ideal S512x1024 .bf16) (w : Vec Ideal S1x1024x5632 .bf16) (d : Vec Ideal S1x2816x1024 .bf16) (k : Fin 11) : FVec Ideal S512x1024 .f32 :=
  unitBlock x (View.ld w (Rect.unit ![0, 0, 256 * k.val] ![1, 1024, 256] (inGate k))) (View.ld w (Rect.unit ![0, 0, 2816 + 256 * k.val] ![1, 1024, 256] (inUp k)))
    (View.ld d (Rect.unit ![0, 256 * k.val, 0] ![1, 256, 1024] (inDown k)))

/-- The sum of the first `n` blocks of hidden units. -/
def unitsTo (x : Vec Ideal S512x1024 .bf16) (w : Vec Ideal S1x1024x5632 .bf16) (d : Vec Ideal S1x2816x1024 .bf16) : ∀ n : ℕ, n ≤ 11 → FVec Ideal S512x1024 .f32
  | 0, _ => k0_pay11 (F := Ideal)
  | n + 1, h => addf (unitsTo x w d n (Nat.le_of_succ_le h)) (unitAt x w d ⟨n, h⟩)

/-- The rows of this tile before the second normalisation. -/
def nextPre (x : Vec Ideal S512x1024 .bf16) (x1 : Vec Ideal S512x1024 .f32) (w : Vec Ideal S1x1024x5632 .bf16) (d : Vec Ideal S1x2816x1024 .bf16) : FVec Ideal S512x1024 .f32 :=
  k0_pay2 (addf (mulf (broadcast S512x1024 (Scalar.ofBits .f32 0x3FB504F3#32)) x1) (unitsTo x w d 11 le_rfl))

/-- The mixed and normalised rows of a tile, before they are stored. -/
def mixed (o : Vec Ideal S8x512x128 .bf16) (x : Vec Ideal S512x1024 .f32) (w : Vec Ideal S1024x1024 .bf16) (g b : Vec Ideal S1x1x1024 .f32) : FVec Ideal S512x1024 .f32 :=
  k0_pay10 (k0_pay4 (headOf o 0) (headOf o 1) (headOf o 2) (headOf o 3) (headOf o 4) (headOf o 5) (headOf o 6) (headOf o 7) x w) g b

/-- The mixed and normalised rows of a tile. -/
def nextX (o : Vec Ideal S8x512x128 .bf16) (x : Vec Ideal S512x1024 .f32) (w : Vec Ideal S1024x1024 .bf16) (g b : Vec Ideal S1x1x1024 .f32) : FVec Ideal S512x1024 .f32 :=
  k0_pay2 (mixed o x w g b)

/-- The same rows, as the matrices' operand. -/
def nextXb (o : Vec Ideal S8x512x128 .bf16) (x : Vec Ideal S512x1024 .f32) (w : Vec Ideal S1024x1024 .bf16) (g b : Vec Ideal S1x1x1024 .f32) : FVec Ideal S512x1024 .bf16 :=
  k0_pay3 (mixed o x w g b)

/-- The tile written out. -/
def nextOut (z : Vec Ideal S512x1024 .f32) (g b : Vec Ideal S1x1x1024 .f32) (w : Vec Ideal S1x1024x1024 .bf16) (p : Vec Ideal S1x512x256 .f32) (v : Vec Ideal S1x256x1024 .bf16) :
    FVec Ideal S512x1024 .f32 := k0_pay14 (k0_pay10 z g b) w p v

section read

theorem headOf_apply (o : Vec Ideal S8x512x128 .bf16) (h : Fin 8) (r : Fin 512) (l : Fin 128) : headOf o h (ix3 0 r l) = o (ix3 h r l) :=
  View.ld_unit_apply_of o _ _ _ _ _ fun a => by
    fin_cases a
    · rfl
    · exact (Nat.zero_add _).symm
    · exact (Nat.zero_add _).symm

theorem unitAt_apply (x : Vec Ideal S512x1024 .bf16) (w : Vec Ideal S1x1024x5632 .bf16) (d : Vec Ideal S1x2816x1024 .bf16) (k : Fin 11) (r : Fin 512) (j : Fin 1024) :
    unitAt x w d k (ix2 r j) = ffnBlock (fun l => x (ix2 r l)) (fun l n => w (ix3 0 l n)) (fun n j => d (ix3 0 n j)) j k := by
  unfold unitAt ffnBlock hidden
  rw [unit_apply]
  have eg : ∀ (l : Fin 1024) (n : Fin 256), View.ld w (Rect.unit ![0, 0, 256 * k.val] ![1, 1024, 256] (inGate k)) (ix3 0 l n) = w (ix3 0 l ⟨k.val * 256 + n.val, by omega⟩) := fun l n =>
    View.ld_unit_apply_of w _ _ _ _ _ fun a => by
      fin_cases a
      · rfl
      · exact (Nat.zero_add _).symm
      · show k.val * 256 + n.val = 256 * k.val + n.val; omega
  have eu : ∀ (l : Fin 1024) (n : Fin 256), View.ld w (Rect.unit ![0, 0, 2816 + 256 * k.val] ![1, 1024, 256] (inUp k)) (ix3 0 l n) = w (ix3 0 l ⟨2816 + (k.val * 256 + n.val), by omega⟩) := fun l n =>
    View.ld_unit_apply_of w _ _ _ _ _ fun a => by
      fin_cases a
      · rfl
      · exact (Nat.zero_add _).symm
      · show 2816 + (k.val * 256 + n.val) = 2816 + 256 * k.val + n.val; omega
  have ed : ∀ n : Fin 256, View.ld d (Rect.unit ![0, 256 * k.val, 0] ![1, 256, 1024] (inDown k)) (ix3 0 n j) = d (ix3 0 ⟨k.val * 256 + n.val, by omega⟩ j) := fun n =>
    View.ld_unit_apply_of d _ _ _ _ _ fun a => by
      fin_cases a
      · rfl
      · show k.val * 256 + n.val = 256 * k.val + n.val; omega
      · exact (Nat.zero_add _).symm
  exact Finset.sum_congr rfl fun n _ => by simp only [eg, eu, ed]

theorem unitsTo_apply (x : Vec Ideal S512x1024 .bf16) (w : Vec Ideal S1x1024x5632 .bf16) (d : Vec Ideal S1x2816x1024 .bf16) (r : Fin 512) (j : Fin 1024) :
    ∀ (n : ℕ) (h : n ≤ 11), unitsTo x w d n h (ix2 r j)
      = ∑ k : Fin n, ffnBlock (fun l => x (ix2 r l)) (fun l n => w (ix3 0 l n)) (fun n j => d (ix3 0 n j)) j (k.castLE h)
  | 0, h => by
    rw [Fin.sum_univ_zero]
    unfold unitsTo k0_pay11
    pointwise
  | n + 1, h => by
    rw [Fin.sum_univ_castSucc, unitsTo, ValueIdx.addf_apply, unitsTo_apply x w d r j n, unitAt_apply]
    rfl

theorem nextPre_apply (x : Vec Ideal S512x1024 .bf16) (x1 : Vec Ideal S512x1024 .f32) (w : Vec Ideal S1x1024x5632 .bf16) (d : Vec Ideal S1x2816x1024 .bf16) (r : Fin 512) (j : Fin 1024)
    (hx : ∀ l, x (ix2 r l) = x1 (ix2 r l)) :
    nextPre x x1 w d (ix2 r j) = preRow (fun l => x1 (ix2 r l)) (fun l n => w (ix3 0 l n)) (fun n j => d (ix3 0 n j)) j := by
  unfold preRow
  rw [← ffnRow_blocks]
  simp only [← hx]
  rw [hx j]
  have e := unitsTo_apply x w d r j 11 le_rfl
  have e' : ∑ k : Fin 11, ffnBlock (fun l => x (ix2 r l)) (fun l n => w (ix3 0 l n)) (fun n j => d (ix3 0 n j)) j (k.castLE le_rfl)
    = ∑ k : Fin 11, ffnBlock (fun l => x (ix2 r l)) (fun l n => w (ix3 0 l n)) (fun n j => d (ix3 0 n j)) j k := rfl
  rw [← e', ← e]
  unfold nextPre k0_pay2
  generalize unitsTo x w d 11 le_rfl = u
  pointwise

theorem mixed_apply (o : Vec Ideal S8x512x128 .bf16) (x : Vec Ideal S512x1024 .f32) (w : Vec Ideal S1024x1024 .bf16) (g b : Vec Ideal S1x1x1024 .f32) (r : Fin 512) (j : Fin 1024) :
    mixed o x w g b (ix2 r j) = normRow (mixRow (fun l => o (ix3 ⟨l.val / 128, by omega⟩ r ⟨l.val % 128, by omega⟩)) (fun l => x (ix2 r l)) (fun l j => w (ix2 l j)))
      (fun l => g (ix3 0 0 l)) (fun l => b (ix3 0 0 l)) j := by
  have e : heads (headOf o) r = fun l => o (ix3 ⟨l.val / 128, by omega⟩ r ⟨l.val % 128, by omega⟩) := funext fun l => headOf_apply o _ r _
  unfold mixed
  rw [norm_apply, ← e]
  exact congrArg (fun z => normRow z _ _ j) (funext fun l => mix_apply (headOf o) x w r l)

theorem nextX_apply (o : Vec Ideal S8x512x128 .bf16) (x : Vec Ideal S512x1024 .f32) (w : Vec Ideal S1024x1024 .bf16) (g b : Vec Ideal S1x1x1024 .f32) (i : S512x1024.Idx) :
    nextX o x w g b i = mixed o x w g b i := by
  unfold nextX k0_pay2
  generalize mixed o x w g b = z
  exact congrFun (shapeCast_self _ _) i

theorem nextXb_apply (o : Vec Ideal S8x512x128 .bf16) (x : Vec Ideal S512x1024 .f32) (w : Vec Ideal S1024x1024 .bf16) (g b : Vec Ideal S1x1x1024 .f32) (i : S512x1024.Idx) :
    nextXb o x w g b i = mixed o x w g b i := by
  unfold nextXb k0_pay3
  generalize mixed o x w g b = z
  exact congrFun (shapeCast_self _ _) i

theorem nextOut_apply (z : Vec Ideal S512x1024 .f32) (g b : Vec Ideal S1x1x1024 .f32) (w : Vec Ideal S1x1024x1024 .bf16) (p : Vec Ideal S1x512x256 .f32) (v : Vec Ideal S1x256x1024 .bf16)
    (r : Fin 512) (j : Fin 1024) :
    nextOut z g b w p v (ix2 r j) = gateRow (normRow (fun l => z (ix2 r l)) (fun l => g (ix3 0 0 l)) (fun l => b (ix3 0 0 l))) (fun l j => w (ix3 0 l j)) (fun l => p (ix3 0 r l))
      (fun l j => v (ix3 0 l j)) j := by
  unfold nextOut
  rw [gate_apply]
  exact congrArg (fun y => gateRow y _ _ _ j) (funext fun l => norm_apply z g b r l)

end read

section run

variable (m : (ℓ : Loc nD τ sig) → Buf (Elt Ideal) ℓ) (c : Dev nD) (t : Fin cfg0.N)

theorem out_B (h : ¬t.val % 129 = 0) : (outsAt0 m c t.val t.isLt).1
    = nextOut (outsAt0 m c (t.val - 1) (by omega)).2.2.2 (iblk m c 10 t) (iblk m c 11 t) (iblk m c 12 t) (iblk m c 4 t) (iblk m c 13 t) := by
  rw [outsAt0_B m c t h]
  frame_out
  generalize (outsAt0 m c (t.val - 1) _).2.2.2 = z
  have ez : View.read (Elt Ideal) (View.whole cc0_scratch2) ((Memref.isWhole_whole cc0_scratch2).unread z) = z := (Memref.isWhole_whole cc0_scratch2).read_unread z
  rw [ez]
  rfl

theorem x_B (h : ¬t.val % 129 = 0) : (outsAt0 m c t.val t.isLt).2.1
    = nextX (iblk m c 2 t) (iblk m c 3 t) (iblk m c 5 t) (iblk m c 6 t) (iblk m c 7 t) := by
  rw [outsAt0_B m c t h]
  frame_out
  rfl

theorem xb_B (h : ¬t.val % 129 = 0) : (outsAt0 m c t.val t.isLt).2.2.1
    = nextXb (iblk m c 2 t) (iblk m c 3 t) (iblk m c 5 t) (iblk m c 6 t) (iblk m c 7 t) := by
  rw [outsAt0_B m c t h]
  frame_out
  rfl

theorem pre_B (h : ¬t.val % 129 = 0) : (outsAt0 m c t.val t.isLt).2.2.2
    = nextPre (outsAt0 m c (t.val - 1) (by omega)).2.2.1 (outsAt0 m c (t.val - 1) (by omega)).2.1 (iblk m c 8 t) (iblk m c 9 t) := by
  rw [outsAt0_B m c t h]
  frame_out
  generalize (outsAt0 m c (t.val - 1) _).2.2.1 = x
  generalize (outsAt0 m c (t.val - 1) _).2.1 = x1
  have ex : View.read (Elt Ideal) (View.whole cc0_scratch1) ((Memref.isWhole_whole cc0_scratch1).unread x) = x := (Memref.isWhole_whole cc0_scratch1).read_unread x
  have ex1 : View.read (Elt Ideal) (View.whole cc0_scratch0) ((Memref.isWhole_whole cc0_scratch0).unread x1) = x1 := (Memref.isWhole_whole cc0_scratch0).read_unread x1
  rw [ex, ex1]
  rfl

theorem x_A (h : t.val % 129 = 0) : (outsAt0 m c t.val t.isLt).2.1
    = nextX (iblk m c 2 t) (iblk m c 3 t) (iblk m c 5 t) (iblk m c 6 t) (iblk m c 7 t) := by
  rw [outsAt0_A m c t h]
  frame_out
  rfl

theorem xb_A (h : t.val % 129 = 0) : (outsAt0 m c t.val t.isLt).2.2.1
    = nextXb (iblk m c 2 t) (iblk m c 3 t) (iblk m c 5 t) (iblk m c 6 t) (iblk m c 7 t) := by
  rw [outsAt0_A m c t h]
  frame_out
  rfl

theorem pre_A (h : t.val % 129 = 0) : (outsAt0 m c t.val t.isLt).2.2.2
    = nextPre (nextXb (iblk m c 0 t) (iblk m c 1 t) (iblk m c 5 t) (iblk m c 6 t) (iblk m c 7 t))
        (nextX (iblk m c 0 t) (iblk m c 1 t) (iblk m c 5 t) (iblk m c 6 t) (iblk m c 7 t)) (iblk m c 8 t) (iblk m c 9 t) := by
  rw [outsAt0_A m c t h]
  frame_out
  rfl

end run

end Cert.Tail

end
-- ==== Proof.TailBlocks.lean ====
/-
  WHERE THE TAIL KERNEL'S BLOCKS LIE. Step `t` reads the next tile of the mixer's output and of the input (tile `t + 1`, the
  last one again at the end), and the projected features of the tile before; step 0 also reads tile 0. The weights are whole
  arrays of layer 1; the five matrices were cast beforehand.
-/
module

public import proofs.«01_k».proof.Proof.TailStep

@[expose] public section

set_option maxRecDepth 65536

noncomputable section

namespace Cert.Tail

open Idealize.ShloMosaic Idealize.ShloMosaic.TcCoe Idealize.SL.Sem
open Cert.Kernel2Ideal Cert.Kernel2Ideal.Gen
open scoped BigOperators

/-- The tile a step mixes for the next step. -/
def ahead (t : ℕ) : ℕ := min (t + 1) 127

/-- The tiles a step reads, and the one it writes. -/
theorem tilePlaces : ∀ t : Fin cfg0.N,
    win0_0.index t = ![0, 0, 0] ∧ win0_1.index t = ![0, 0]
    ∧ win0_2.index t = ![0, ahead t.val, 0] ∧ win0_3.index t = ![ahead t.val, 0]
    ∧ win0_4.index t = ![1, t.val - 1, 0] ∧ win0_14.index t = ![t.val - 1, 0] :=
  (by decide +kernel : ∀ t : Fin grid0.N, _)

/-- The weights of layer 1. -/
theorem weightPlaces : ∀ t : Fin cfg0.N,
    win0_5.index t = ![0, 0] ∧ win0_6.index t = ![1, 0, 0] ∧ win0_7.index t = ![1, 0, 0] ∧ win0_8.index t = ![1, 0, 0]
    ∧ win0_9.index t = ![1, 0, 0] ∧ win0_10.index t = ![1, 0, 0] ∧ win0_11.index t = ![1, 0, 0]
    ∧ win0_12.index t = ![1, 0, 0] ∧ win0_13.index t = ![1, 0, 0] :=
  (by decide +kernel : ∀ t : Fin grid0.N, _)

/-- The row of the whole arrays that row `r` of tile `T` is. -/
def rowAt (T : ℕ) (h : T < 128) (r : Fin 512) : Fin 65536 := ⟨512 * T + r.val, by omega⟩

theorem ahead_lt (t : ℕ) : ahead t < 128 := by unfold ahead; omega

variable (m : (ℓ : Loc nD τ sig) → Buf (Elt Ideal) ℓ) (c : Dev nD) (t : Fin cfg0.N)

theorem first_mixer (h : Fin 8) (r : Fin 512) (l : Fin 128) :
    (iblk m c 0 t : Vec Ideal S8x512x128 .bf16) (ix3 h r l) = (m ((c.tc : Thread nD τ).loc main_arg0) : FVec Ideal S8x65536x128 .bf16) (ix3 h (rowAt 0 (by decide) r) l) := by
  obtain ⟨e0, -, -, -, -, -⟩ := tilePlaces t
  unfold rowAt
  blk_ext [iblk, V, e0]

theorem first_input (r : Fin 512) (l : Fin 1024) :
    (iblk m c 1 t : Vec Ideal S512x1024 .f32) (ix2 r l) = (m ((c.tc : Thread nD τ).loc main_arg1) : FVec Ideal S65536x1024 .f32) (ix2 (rowAt 0 (by decide) r) l) := by
  obtain ⟨-, e1, -, -, -, -⟩ := tilePlaces t
  unfold rowAt
  blk_ext [iblk, V, e1]

theorem next_mixer (h : Fin 8) (r : Fin 512) (l : Fin 128) :
    (iblk m c 2 t : Vec Ideal S8x512x128 .bf16) (ix3 h r l) = (m ((c.tc : Thread nD τ).loc main_arg0) : FVec Ideal S8x65536x128 .bf16) (ix3 h (rowAt (ahead t.val) (ahead_lt _) r) l) := by
  obtain ⟨-, -, e2, -, -, -⟩ := tilePlaces t
  unfold rowAt
  blk_ext [iblk, V, e2]

theorem next_input (r : Fin 512) (l : Fin 1024) :
    (iblk m c 3 t : Vec Ideal S512x1024 .f32) (ix2 r l) = (m ((c.tc : Thread nD τ).loc main_arg1) : FVec Ideal S65536x1024 .f32) (ix2 (rowAt (ahead t.val) (ahead_lt _) r) l) := by
  obtain ⟨-, -, -, e3, -, -⟩ := tilePlaces t
  unfold rowAt
  blk_ext [iblk, V, e3]

theorem last_features (r : Fin 512) (l : Fin 256) (hT : t.val - 1 < 128) :
    (iblk m c 4 t : Vec Ideal S1x512x256 .f32) (ix3 0 r l) = (m ((c.tc : Thread nD τ).loc main_arg2) : FVec Ideal S2x65536x256 .f32) (ix3 1 (rowAt (t.val - 1) hT r) l) := by
  obtain ⟨-, -, -, -, e4, -⟩ := tilePlaces t
  unfold rowAt
  blk_ext [iblk, V, e4]

theorem weight5 (l j : Fin 1024) :
    (iblk m c 5 t : Vec Ideal S1024x1024 .bf16) (ix2 l j) = (m ((c.tc : Thread nD τ).loc main_arg3) : FVec Ideal S1024x1024 .f32) (ix2 l j) := by
  have e := (weightPlaces t).1
  blk_point [iblk, V, e]

theorem weight6 (l : Fin 1024) :
    (iblk m c 6 t : Vec Ideal S1x1x1024 .f32) (ix3 0 0 l) = (m ((c.tc : Thread nD τ).loc main_arg4) : FVec Ideal S2x1x1024 .f32) (ix3 1 0 l) := by
  have e := (weightPlaces t).2.1
  blk_ext [iblk, V, e]

theorem weight7 (l : Fin 1024) :
    (iblk m c 7 t : Vec Ideal S1x1x1024 .f32) (ix3 0 0 l) = (m ((c.tc : Thread nD τ).loc main_arg5) : FVec Ideal S2x1x1024 .f32) (ix3 1 0 l) := by
  have e := (weightPlaces t).2.2.1
  blk_ext [iblk, V, e]

theorem weight8 (l : Fin 1024) (n : Fin 5632) :
    (iblk m c 8 t : Vec Ideal S1x1024x5632 .bf16) (ix3 0 l n) = (m ((c.tc : Thread nD τ).loc main_arg6) : FVec Ideal S2x1024x5632 .f32) (ix3 1 l n) := by
  have e := (weightPlaces t).2.2.2.1
  blk_point [iblk, V, e]

theorem weight9 (n : Fin 2816) (j : Fin 1024) :
    (iblk m c 9 t : Vec Ideal S1x2816x1024 .bf16) (ix3 0 n j) = (m ((c.tc : Thread nD τ).loc main_arg7) : FVec Ideal S2x2816x1024 .f32) (ix3 1 n j) := by
  have e := (weightPlaces t).2.2.2.2.1
  blk_point [iblk, V, e]

theorem weight10 (l : Fin 1024) :
    (iblk m c 10 t : Vec Ideal S1x1x1024 .f32) (ix3 0 0 l) = (m ((c.tc : Thread nD τ).loc main_arg8) : FVec Ideal S2x1x1024 .f32) (ix3 1 0 l) := by
  have e := (weightPlaces t).2.2.2.2.2.1
  blk_ext [iblk, V, e]

theorem weight11 (l : Fin 1024) :
    (iblk m c 11 t : Vec Ideal S1x1x1024 .f32) (ix3 0 0 l) = (m ((c.tc : Thread nD τ).loc main_arg9) : FVec Ideal S2x1x1024 .f32) (ix3 1 0 l) := by
  have e := (weightPlaces t).2.2.2.2.2.2.1
  blk_ext [iblk, V, e]

theorem weight12 (l j : Fin 1024) :
    (iblk m c 12 t : Vec Ideal S1x1024x1024 .bf16) (ix3 0 l j) = (m ((c.tc : Thread nD τ).loc main_arg10) : FVec Ideal S2x1024x1024 .f32) (ix3 1 l j) := by
  have e := (weightPlaces t).2.2.2.2.2.2.2.1
  blk_point [iblk, V, e]

theorem weight13 (l : Fin 256) (j : Fin 1024) :
    (iblk m c 13 t : Vec Ideal S1x256x1024 .bf16) (ix3 0 l j) = (m ((c.tc : Thread nD τ).loc main_arg11) : FVec Ideal S2x256x1024 .f32) (ix3 1 l j) := by
  have e := (weightPlaces t).2.2.2.2.2.2.2.2
  blk_point [iblk, V, e]

end Cert.Tail

end
-- ==== Proof.TailReference.lean ====
/-
  WHAT THE TAIL'S REFERENCE COMPUTES, read at one token. Each of its arrays is a row function of that token's rows:
  the mixed row, its normalisation, the feed-forward layer, the second normalisation and the gated end.
-/
module

public import proofs.«01_k».proof.Proof.TailRow
public import proofs.«01_k».proof.Proof.Gen.Reference2Ideal.Run
public import Idealize.ShloMosaic.Lib.Pointwise
public import Idealize.ShloMosaic.Lib.Pointwise.IndexVar
public import Idealize.ShloMosaic.Lib.KernelVsHost
public import Idealize.ShloMosaic.Lib.IdealHost
public import Idealize.ShloMosaic.Lib.Tactic.CleanTypes

@[expose] public section

set_option maxRecDepth 16384

noncomputable section

namespace Cert.TailRef

open Idealize.ShloMosaic Idealize.ShloMosaic.TcCoe Idealize.SL.Sem
open Cert.Reference2Ideal Cert.Reference2Ideal.Gen Cert.Tail
open scoped BigOperators

/-- The layer's input plus the projection of the mixer's output. -/
def refMix (o : FVec Ideal S8x65536x128 .bf16) (x : FVec Ideal S65536x1024 .f32) (w : FVec Ideal S1024x1024 .f32) : FVec Ideal S65536x1024 .f32 :=
  addf (mulf (broadcastInDim S65536x1024 ![] bcast_S_S65536x1024 (constant S_ .f32 0x3FB504F3#32)) x) (Host.dotGeneral dot_S65536x1024_S1024x1024_S65536x1024_1_0_0_1_n_n none (shapeCast _ (transpose S65536x8x128 [1, 0, 2] (extf .f32 o bitsLt_bf16_f32) transposes_S8x65536x128_S65536x8x128_1_0_2) shapeCasts_S65536x8x128_S65536x1024) w)

/-- The mean of every row. -/
def refMean (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))

/-- Every row less its mean. -/
def refCentred (z : FVec Ideal S65536x1024 .f32) : FVec Ideal S65536x1024 .f32 :=
  subf z (broadcastInDim S65536x1024 ![0, 1] bcast_S65536x1_S65536x1024_0_1 (refMean z))

/-- Layer 1's row of a pair of rows, for every token. -/
def refSpread (g : FVec Ideal S2x1x1024 .f32) : FVec Ideal S65536x1024 .f32 :=
  broadcastInDim S65536x1024 ![0, 1] bcast_S1x1024_S65536x1024_0_1 (shapeCast _ (extractStridedSlice S1x1x1024 ![1, 0, 0] g slices_S2x1x1024_S1x1x1024_1_0_0) shapeCasts_S1x1x1024_S1x1024)

/-- The layer normalisation. -/
def refNorm (z : FVec Ideal S65536x1024 .f32) (g b : FVec Ideal S2x1x1024 .f32) : FVec Ideal S65536x1024 .f32 :=
  addf (mulf (mulf (refCentred z) (broadcastInDim S65536x1024 ![0, 1] bcast_S65536x1_S65536x1024_0_1 (Host.rsqrt (addf (refMean (mulf (refCentred z) (refCentred z))) (broadcastInDim S65536x1 ![] bcast_S_S65536x1 (constant S_ .f32 0x3727C5AC#32)))))) (refSpread g)) (refSpread b)

/-- The first product of the feed-forward layer. -/
def refWide (x : FVec Ideal S65536x1024 .f32) (w : FVec Ideal S2x1024x5632 .f32) : FVec Ideal S65536x5632 .f32 :=
  Host.dotGeneral dot_S65536x1024_S1024x5632_S65536x5632_1_0_0_1_n_n none x (shapeCast _ (extractStridedSlice S1x1024x5632 ![1, 0, 0] w slices_S2x1024x5632_S1x1024x5632_1_0_0) shapeCasts_S1x1024x5632_S1024x5632)

/-- The hidden units. -/
def refHidden (a : FVec Ideal S65536x5632 .f32) : FVec Ideal S65536x2816 .f32 :=
  mulf (mulf (extractStridedSlice S65536x2816 ![0, 0] a slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] a slices_S65536x5632_S65536x2816_0_0)))))) (extractStridedSlice S65536x2816 ![0, 2816] a slices_S65536x5632_S65536x2816_0_2816)

/-- The rows before the second normalisation. -/
def refPre (x : FVec Ideal S65536x1024 .f32) (a : FVec Ideal S65536x2816 .f32) (d : FVec Ideal S2x2816x1024 .f32) : FVec Ideal S65536x1024 .f32 :=
  addf (mulf (broadcastInDim S65536x1024 ![] bcast_S_S65536x1024 (constant S_ .f32 0x3FB504F3#32)) x) (Host.dotGeneral dot_S65536x2816_S2816x1024_S65536x1024_1_0_0_1_n_n none a (shapeCast _ (extractStridedSlice S1x2816x1024 ![1, 0, 0] d slices_S2x2816x1024_S1x2816x1024_1_0_0) shapeCasts_S1x2816x1024_S2816x1024))

/-- The gated end. -/
def refGate (y : FVec Ideal S65536x1024 .f32) (w : FVec Ideal S2x1024x1024 .f32) (p : FVec Ideal S2x65536x256 .f32) (v : FVec Ideal S2x256x1024 .f32) : FVec Ideal S65536x1024 .f32 :=
  addf y (mulf (Host.divf (broadcastInDim S65536x1024 ![] bcast_S_S65536x1024 (constant S_ .f32 0x3F800000#32)) (addf (broadcastInDim S65536x1024 ![] bcast_S_S65536x1024 (constant S_ .f32 0x3F800000#32)) (Host.exp (Host.negf (Host.dotGeneral dot_S65536x1024_S1024x1024_S65536x1024_1_0_0_1_n_n none y (shapeCast _ (extractStridedSlice S1x1024x1024 ![1, 0, 0] w slices_S2x1024x1024_S1x1024x1024_1_0_0) shapeCasts_S1x1024x1024_S1024x1024)))))) (Host.dotGeneral dot_S65536x256_S256x1024_S65536x1024_1_0_0_1_n_n none (shapeCast _ (extractStridedSlice S1x65536x256 ![1, 0, 0] p slices_S2x65536x256_S1x65536x256_1_0_0) shapeCasts_S1x65536x256_S65536x256) (shapeCast _ (extractStridedSlice S1x256x1024 ![1, 0, 0] v slices_S2x256x1024_S1x256x1024_1_0_0) shapeCasts_S1x256x1024_S256x1024)))

theorem refMix_apply (o : FVec Ideal S8x65536x128 .bf16) (x : FVec Ideal S65536x1024 .f32) (w : FVec Ideal S1024x1024 .f32) (t : Fin 65536) (j : Fin 1024) :
    refMix o x w (ix2 t j) = mixRow (fun l => o (ix3 ⟨l.val / 128, by omega⟩ t ⟨l.val % 128, by omega⟩)) (fun l => x (ix2 t l)) (fun l j => w (ix2 l j)) j := by
  unfold refMix mixRow
  pointwise

theorem refMean_apply (z : FVec Ideal S65536x1024 .f32) (t : Fin 65536) : refMean z (ix2 t 0) = mean fun l => z (ix2 t l) := by
  unfold refMean mean
  pointwise

theorem refCentred_apply (z : FVec Ideal S65536x1024 .f32) (t : Fin 65536) (j : Fin 1024) : refCentred z (ix2 t j) = z (ix2 t j) - mean fun l => z (ix2 t l) := by
  rw [← refMean_apply]
  unfold refCentred
  generalize refMean z = y
  pointwise

theorem refSpread_apply (g : FVec Ideal S2x1x1024 .f32) (t : Fin 65536) (j : Fin 1024) : refSpread g (ix2 t j) = g (ix3 1 0 j) := by
  unfold refSpread
  pointwise

theorem refNorm_apply (z : FVec Ideal S65536x1024 .f32) (g b : FVec Ideal S2x1x1024 .f32) (t : Fin 65536) (j : Fin 1024) :
    refNorm z g b (ix2 t j) = normRow (fun l => z (ix2 t l)) (fun l => g (ix3 1 0 l)) (fun l => b (ix3 1 0 l)) j := by
  have em : refMean (mulf (refCentred z) (refCentred z)) (ix2 t 0)
      = mean fun l => (z (ix2 t l) - mean fun l => z (ix2 t l)) * (z (ix2 t l) - mean fun l => z (ix2 t l)) := by
    rw [refMean_apply]
    exact congrArg mean (funext fun l => by rw [ValueIdx.mulf_apply, refCentred_apply])
  unfold normRow
  beta_reduce
  rw [← em, ← refCentred_apply, ← refSpread_apply g t j, ← refSpread_apply b t j]
  unfold refNorm
  generalize refMean (mulf (refCentred z) (refCentred z)) = y
  generalize refCentred z = x
  generalize refSpread g = g'
  generalize refSpread b = b'
  pointwise

theorem refWide_apply (x : FVec Ideal S65536x1024 .f32) (w : FVec Ideal S2x1024x5632 .f32) (t : Fin 65536) (n : Fin 5632) :
    refWide x w (ix2 t n) = ∑ l : Fin 1024, x (ix2 t l) * w (ix3 1 l n) := by
  unfold refWide
  pointwise

theorem refHidden_apply (a : FVec Ideal S65536x5632 .f32) (t : Fin 65536) (n : Fin 2816) :
    refHidden a (ix2 t n) = act (a (ix2 t ⟨n.val, by omega⟩)) (a (ix2 t ⟨2816 + n.val, by omega⟩)) := by
  unfold refHidden act sigm
  pointwise

theorem refPre_apply (x : FVec Ideal S65536x1024 .f32) (w : FVec Ideal S2x1024x5632 .f32) (d : FVec Ideal S2x2816x1024 .f32) (t : Fin 65536) (j : Fin 1024) :
    refPre x (refHidden (refWide x w)) d (ix2 t j) = preRow (fun l => x (ix2 t l)) (fun l n => w (ix3 1 l n)) (fun n j => d (ix3 1 n j)) j := by
  have eh : ∀ n : Fin 2816, refHidden (refWide x w) (ix2 t n) = hidden (fun l => x (ix2 t l)) (fun l n => w (ix3 1 l n)) n := fun n => by
    rw [refHidden_apply, refWide_apply, refWide_apply]
    rfl
  unfold preRow ffnRow
  simp only [← eh]
  unfold refPre
  generalize refHidden (refWide x w) = a
  pointwise

theorem refGate_apply (y : FVec Ideal S65536x1024 .f32) (w : FVec Ideal S2x1024x1024 .f32) (p : FVec Ideal S2x65536x256 .f32) (v : FVec Ideal S2x256x1024 .f32) (t : Fin 65536) (j : Fin 1024) :
    refGate y w p v (ix2 t j) = gateRow (fun l => y (ix2 t l)) (fun l j => w (ix3 1 l j)) (fun l => p (ix3 1 t l)) (fun l j => v (ix3 1 l j)) j := by
  unfold refGate gateRow sigm
  pointwise

/-- The mixed and normalised row of a token, from the whole arrays. -/
def xRow (o : FVec Ideal S8x65536x128 .bf16) (x : FVec Ideal S65536x1024 .f32) (w : FVec Ideal S1024x1024 .f32) (g b : FVec Ideal S2x1x1024 .f32) (t : Fin 65536) (j : Fin 1024) : EReal :=
  normRow (mixRow (fun l => o (ix3 ⟨l.val / 128, by omega⟩ t ⟨l.val % 128, by omega⟩)) (fun l => x (ix2 t l)) (fun l j => w (ix2 l j)))
    (fun l => g (ix3 1 0 l)) (fun l => b (ix3 1 0 l)) j

/-- A token's row before the second normalisation, from its mixed row. -/
def zRow (x : Fin 1024 → EReal) (w : FVec Ideal S2x1024x5632 .f32) (d : FVec Ideal S2x2816x1024 .f32) : Fin 1024 → EReal :=
  preRow x (fun l n => w (ix3 1 l n)) (fun n j => d (ix3 1 n j))

/-- A token's result, from its row before the second normalisation. -/
def yRow (z : Fin 1024 → EReal) (g b : FVec Ideal S2x1x1024 .f32) (w : FVec Ideal S2x1024x1024 .f32) (p : FVec Ideal S2x65536x256 .f32) (v : FVec Ideal S2x256x1024 .f32) (t : Fin 65536) :
    Fin 1024 → EReal :=
  gateRow (normRow z (fun l => g (ix3 1 0 l)) (fun l => b (ix3 1 0 l))) (fun l j => w (ix3 1 l j)) (fun l => p (ix3 1 t l)) (fun l j => v (ix3 1 l j))

/-- The reference's arrays, one after another. -/
def refOut (o : FVec Ideal S8x65536x128 .bf16) (x : FVec Ideal S65536x1024 .f32) (p : FVec Ideal S2x65536x256 .f32) (wo : FVec Ideal S1024x1024 .f32) (g1 b1 : FVec Ideal S2x1x1024 .f32)
    (wi : FVec Ideal S2x1024x5632 .f32) (wd : FVec Ideal S2x2816x1024 .f32) (g2 b2 : FVec Ideal S2x1x1024 .f32) (wg : FVec Ideal S2x1024x1024 .f32) (wp : FVec Ideal S2x256x1024 .f32) :
    FVec Ideal S65536x1024 .f32 :=
  refGate (refNorm (refPre (refNorm (refMix o x wo) g1 b1) (refHidden (refWide (refNorm (refMix o x wo) g1 b1) wi)) wd) g2 b2) wg p wp

theorem refOut_apply (o : FVec Ideal S8x65536x128 .bf16) (x : FVec Ideal S65536x1024 .f32) (p : FVec Ideal S2x65536x256 .f32) (wo : FVec Ideal S1024x1024 .f32) (g1 b1 : FVec Ideal S2x1x1024 .f32)
    (wi : FVec Ideal S2x1024x5632 .f32) (wd : FVec Ideal S2x2816x1024 .f32) (g2 b2 : FVec Ideal S2x1x1024 .f32) (wg : FVec Ideal S2x1024x1024 .f32) (wp : FVec Ideal S2x256x1024 .f32)
    (t : Fin 65536) (j : Fin 1024) :
    refOut o x p wo g1 b1 wi wd g2 b2 wg wp (ix2 t j) = yRow (zRow (xRow o x wo g1 b1 t) wi wd) g2 b2 wg p wp t j := by
  have ex : (fun l => refNorm (refMix o x wo) g1 b1 (ix2 t l)) = xRow o x wo g1 b1 t := funext fun l => by
    rw [refNorm_apply]
    exact congrArg (fun z => normRow z _ _ l) (funext fun l => refMix_apply o x wo t l)
  unfold refOut yRow zRow
  rw [refGate_apply, ← ex]
  exact congrArg (fun y => gateRow y _ _ _ j) (funext fun l => (refNorm_apply _ _ _ t l).trans
    (congrArg (fun z => normRow z _ _ l) (funext fun l => refPre_apply _ _ _ t l)))

/-- Those arrays, of the arguments in memory. -/
def result (m : (ℓ : Loc nD τ sig) → Buf (Elt Ideal) ℓ) (c : Dev nD) : FVec Ideal S65536x1024 .f32 :=
  refOut (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))

end Cert.TailRef

end
-- ==== Proof.TailState.lean ====
/-
  WHAT THE STEPS OF THE TAIL KERNEL HOLD. After step `t` the first two blocks hold the mixed and normalised rows of the next
  tile (`x_state`, `xb_state`), and the third the rows of tile `t` before the second normalisation (`pre_state`); step `t`
  writes the finished rows of tile `t - 1` (`out_state`), and so the whole result is the row functions' (`tail_eq`).
-/
module

public import proofs.«01_k».proof.Proof.TailBlocks
public import proofs.«01_k».proof.Proof.TailReference

@[expose] public section

set_option maxRecDepth 65536

noncomputable section

namespace Cert.Tail

open Idealize.ShloMosaic Idealize.ShloMosaic.TcCoe Idealize.SL.Sem
open Cert.Kernel2Ideal Cert.Kernel2Ideal.Gen
open Cert.TailRef (xRow zRow yRow)
open scoped BigOperators

variable (m : (ℓ : Loc nD τ sig) → Buf (Elt Ideal) ℓ) (c : Dev nD)

/-- The mixed and normalised row of a token, from the arguments. -/
def xOf (T : Fin 65536) : Fin 1024 → EReal :=
  xRow (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5)) T

/-- A token's row before the second normalisation, from the arguments. -/
def zOf (T : Fin 65536) : Fin 1024 → EReal :=
  zRow (xOf m c T) (m ((c.tc : Thread nD τ).loc main_arg6)) (m ((c.tc : Thread nD τ).loc main_arg7))

/-- A token's result, from the arguments. -/
def yOf (T : Fin 65536) : Fin 1024 → EReal :=
  yRow (zOf m c T) (m ((c.tc : Thread nD τ).loc main_arg8)) (m ((c.tc : Thread nD τ).loc main_arg9)) (m ((c.tc : Thread nD τ).loc main_arg10))
    (m ((c.tc : Thread nD τ).loc main_arg2)) (m ((c.tc : Thread nD τ).loc main_arg11)) T

section steps

variable (t : Fin cfg0.N)

theorem mixed_next (r : Fin 512) (j : Fin 1024) :
    mixed (iblk m c 2 t) (iblk m c 3 t) (iblk m c 5 t) (iblk m c 6 t) (iblk m c 7 t) (ix2 r j) = xOf m c (rowAt (ahead t.val) (ahead_lt _) r) j := by
  rw [mixed_apply]
  unfold xOf xRow
  simp only [next_mixer, next_input, weight5, weight6, weight7]

theorem mixed_first (r : Fin 512) (j : Fin 1024) :
    mixed (iblk m c 0 t) (iblk m c 1 t) (iblk m c 5 t) (iblk m c 6 t) (iblk m c 7 t) (ix2 r j) = xOf m c (rowAt 0 (by decide) r) j := by
  rw [mixed_apply]
  unfold xOf xRow
  simp only [first_mixer, first_input, weight5, weight6, weight7]

theorem x_state (r : Fin 512) (j : Fin 1024) : (outsAt0 m c t.val t.isLt).2.1 (ix2 r j) = xOf m c (rowAt (ahead t.val) (ahead_lt _) r) j := by
  by_cases h : t.val % 129 = 0
  · rw [x_A m c t h, nextX_apply, mixed_next]
  · rw [x_B m c t h, nextX_apply, mixed_next]

theorem xb_state (r : Fin 512) (j : Fin 1024) : (outsAt0 m c t.val t.isLt).2.2.1 (ix2 r j) = xOf m c (rowAt (ahead t.val) (ahead_lt _) r) j := by
  by_cases h : t.val % 129 = 0
  · rw [xb_A m c t h, nextXb_apply, mixed_next]
  · rw [xb_B m c t h, nextXb_apply, mixed_next]

/-- The feed-forward layer of a block whose rows are the tokens' mixed rows. -/
theorem next_pre (x : Vec Ideal S512x1024 .bf16) (x1 : Vec Ideal S512x1024 .f32) (T : Fin 65536) (r : Fin 512) (j : Fin 1024)
    (hx : ∀ l, x (ix2 r l) = xOf m c T l) (hx1 : ∀ l, x1 (ix2 r l) = xOf m c T l) :
    nextPre x x1 (iblk m c 8 t) (iblk m c 9 t) (ix2 r j) = zOf m c T j := by
  rw [nextPre_apply _ _ _ _ r j fun l => (hx l).trans (hx1 l).symm]
  unfold zOf zRow
  simp only [hx1, weight8, weight9]

theorem pre_state (ht : t.val < 128) (r : Fin 512) (j : Fin 1024) : (outsAt0 m c t.val t.isLt).2.2.2 (ix2 r j) = zOf m c (rowAt t.val ht r) j := by
  by_cases h : t.val % 129 = 0
  · have e : rowAt t.val ht r = rowAt 0 (by decide) r := Fin.ext (by unfold rowAt; show 512 * t.val + r.val = 512 * 0 + r.val; omega)
    rw [pre_A m c t h, e]
    exact next_pre m c t _ _ _ r j (fun l => (nextXb_apply _ _ _ _ _ _).trans (mixed_first m c t r l)) fun l => (nextX_apply _ _ _ _ _ _).trans (mixed_first m c t r l)
  · have e : rowAt t.val ht r = rowAt (ahead (t.val - 1)) (ahead_lt _) r := Fin.ext (by unfold rowAt ahead; show 512 * t.val + r.val = 512 * min (t.val - 1 + 1) 127 + r.val; omega)
    rw [pre_B m c t h, e]
    exact next_pre m c t _ _ _ r j (xb_state m c ⟨t.val - 1, by omega⟩ r) (x_state m c ⟨t.val - 1, by omega⟩ r)

theorem out_state (h : ¬t.val % 129 = 0) (hT : t.val - 1 < 128) (r : Fin 512) (j : Fin 1024) :
    (outsAt0 m c t.val t.isLt).1 (ix2 r j) = yOf m c (rowAt (t.val - 1) hT r) j := by
  rw [out_B m c t h, nextOut_apply]
  unfold yOf yRow
  have e : ∀ l, (outsAt0 m c (t.val - 1) (by omega)).2.2.2 (ix2 r l) = zOf m c (rowAt (t.val - 1) hT r) l :=
    fun l => pre_state m c ⟨t.val - 1, by omega⟩ hT r l
  simp only [e, last_features m c t _ _ hT, weight10, weight11, weight12, weight13]

end steps

/-- A block is written out only after a step that has one before it. -/
theorem late : ∀ t : Fin cfg0.N, (cfg0.win 14).flush t = true → ¬t.val % 129 = 0 ∧ t.val - 1 < 128 :=
  (by decide +kernel : ∀ t : Fin grid0.N, (cfg0.win 14).flush t = true → _)

/-- The array after the run. -/
theorem tail_eq (G : FVec Ideal S65536x1024 .f32) (hG : ∀ (T : Fin 65536) (j : Fin 1024), G (ix2 T j) = yOf m c T j) :
    (dats m 0 c).arrAt 14 cfg0.N = G := by
  refine (dats m 0 c).arrAt_eq_of_covers 14 _ (by decide +kernel) fun t hf y => ?_
  obtain ⟨h, hT⟩ := late t hf
  have e := (tilePlaces t).2.2.2.2.2
  blk_simp
  rw [after0_14]
  obtain ⟨r, j, hy⟩ : ∃ (r : Fin 512) (j : Fin 1024), (y : S512x1024.Idx) = ix2 r j :=
    ⟨y 0, y 1, by
      funext a
      fin_cases a
      · rfl
      · rfl⟩
  subst hy
  refine (out_state m c t h hT r j).trans ((hG _ j).symm.trans (congrArg G ?_))
  unfold rowAt
  blk_ext [e]

end Cert.Tail

end
-- ==== Proof.GateRow.lean ====
/-
  THE GATES OF ONE FEATURE. With a lower bound `L` strictly between 0 and 1 and any forget feature `f`, finite or not, the
  kernel's key gate and log gate are the reference's: `key_eq`, `log_eq`. The kernel works with `u = exp (-|f|)`, so that
  nothing overflows, and takes the logarithm of a quotient as a difference; the reference adds in logarithms.
-/
module

public import Idealize.ShloMosaic.PureOps.Ideal
public import Idealize.ShloMosaic.Lib.Pipeline.Value

@[expose] public section

noncomputable section

namespace Cert.Gate

open Idealize.ShloMosaic
open scoped BigOperators

/-- `exp (-|f|)`. -/
def decay (f : EReal) : EReal := Ideal.exp (-(max f (-f)))

/-- The key gate as the kernel computes it. -/
def keyGate (L f : EReal) : EReal :=
  (1 - L) * (if 0 ≤ f then decay f * Ideal.div 1 (1 + decay f) else Ideal.div 1 (1 + decay f))

/-- The log gate as the kernel computes it. -/
def logGate (L f : EReal) : EReal :=
  max (Ideal.log (if 0 ≤ f then 1 + L * decay f else L + decay f)) (max (Ideal.log L) (min f 0)) - Ideal.log (1 + decay f)

/-- The key gate as the reference computes it. -/
def keyRef (L f : EReal) : EReal := (1 - L) * Ideal.div 1 (1 + Ideal.exp (- -f))

/-- Addition in logarithms. -/
def logAdd (a b : EReal) : EReal := max a b + Ideal.log1p (Ideal.exp (-(max (a - b) (-(a - b)))))

/-- The log gate as the reference computes it. -/
def logRef (L f : EReal) : EReal := logAdd (Ideal.log L) (Ideal.log1p (-L) + -(logAdd (-f) 0))

/-- The silu of one number. -/
def siluOf (z : EReal) : EReal := z * Ideal.div 1 (1 + Ideal.exp (-z))

/-- The column of part `p` that is feature `d` of head `h`. -/
def col (p : Fin 4) (h : Fin 8) (d : Fin 128) : Fin 4096 := ⟨1024 * p.val + (128 * h.val + d.val), by omega⟩

/-- The feature's place among the lower bounds. -/
def feat (h : Fin 8) (d : Fin 128) : Fin 1024 := ⟨128 * h.val + d.val, by omega⟩

/-- The larger of a feature's two logits. -/
def largest (z : Fin 2 → EReal) : EReal := Finset.fold max (Ideal.ofBits .f32 0xFF800000#32) z Finset.univ

/-- The lower bound: the second of the softmax of a feature's two logits. -/
def bound (z : Fin 2 → EReal) : EReal := Ideal.div (Ideal.exp (z 1 - largest z)) (∑ i, Ideal.exp (z i - largest z))

theorem exp_coe (x : ℝ) : Ideal.exp (x : EReal) = (Real.exp x : EReal) := rfl

theorem log_coe {x : ℝ} (h : 0 < x) : Ideal.log (x : EReal) = (Real.log x : EReal) := by
  show (if x ≤ 0 then ⊥ else (Real.log x : EReal)) = _
  rw [if_neg (not_le.2 h)]

theorem div_coe (x : ℝ) {y : ℝ} (h : 0 < y) : Ideal.div (x : EReal) (y : EReal) = ((x / y : ℝ) : EReal) := by
  unfold Ideal.div
  rw [if_neg (by exact_mod_cast h.ne'), ← EReal.coe_inv, ← EReal.coe_mul, div_eq_mul_inv]

theorem max_coe (x y : ℝ) : max (x : EReal) (y : EReal) = ((max x y : ℝ) : EReal) := (EReal.coe_strictMono.monotone.map_max).symm

theorem min_coe (x y : ℝ) : min (x : EReal) (y : EReal) = ((min x y : ℝ) : EReal) := (EReal.coe_strictMono.monotone.map_min).symm

theorem decay_coe (x : ℝ) : decay (x : EReal) = (Real.exp (-|x|) : EReal) := by
  unfold decay
  rw [← EReal.coe_neg, max_coe, ← EReal.coe_neg, exp_coe]
  rfl

theorem decay_top : decay ⊤ = 0 := by
  unfold decay
  rw [max_eq_left le_top, EReal.neg_top]
  rfl

theorem decay_bot : decay ⊥ = 0 := by
  unfold decay
  rw [EReal.neg_bot, max_eq_right le_top, EReal.neg_top]
  rfl

/-- Addition in logarithms of two numbers is the logarithm of the sum of their exponentials. -/
theorem logAdd_coe (a b : ℝ) : logAdd (a : EReal) (b : EReal) = (Real.log (Real.exp a + Real.exp b) : EReal) := by
  have h : max a b + Real.log (1 + Real.exp (-(max (a - b) (-(a - b))))) = Real.log (Real.exp a + Real.exp b) := by
    rcases le_total a b with hab | hab
    · have e : Real.exp a + Real.exp b = Real.exp b * (1 + Real.exp (a - b)) := by
        rw [mul_add, ← Real.exp_add, mul_one]; ring_nf
      rw [max_eq_right hab, max_eq_right (by linarith), neg_neg, e, Real.log_mul (Real.exp_pos _).ne' (by positivity), Real.log_exp]
    · have e : Real.exp a + Real.exp b = Real.exp a * (1 + Real.exp (-(a - b))) := by
        rw [mul_add, ← Real.exp_add, mul_one]; ring_nf
      rw [max_eq_left hab, max_eq_left (by linarith), e, Real.log_mul (Real.exp_pos _).ne' (by positivity), Real.log_exp]
  unfold logAdd Ideal.log1p
  rw [← EReal.coe_sub, ← EReal.coe_neg, max_coe, max_coe, ← EReal.coe_neg, exp_coe, ← EReal.coe_one, ← EReal.coe_add,
    log_coe (by positivity), ← EReal.coe_add, h]

/-- Adding nothing in logarithms. -/
theorem logAdd_bot (a : ℝ) : logAdd (a : EReal) ⊥ = a := by
  unfold logAdd Ideal.log1p
  have e : (a : EReal) - ⊥ = ⊤ := rfl
  rw [e, max_eq_left bot_le, max_eq_left le_top, EReal.neg_top]
  show (a : EReal) + Ideal.log (1 + 0) = a
  rw [add_zero, ← EReal.coe_one, log_coe one_pos, Real.log_one, EReal.coe_zero, add_zero]

theorem bot_logAdd_zero : logAdd ⊥ 0 = 0 := by
  unfold logAdd Ideal.log1p
  have e : (⊥ : EReal) - 0 = ⊥ := rfl
  rw [e, EReal.neg_bot, max_eq_right bot_le, max_eq_right bot_le, EReal.neg_top]
  show (0 : EReal) + Ideal.log (1 + 0) = 0
  rw [add_zero, ← EReal.coe_one, log_coe one_pos, Real.log_one, EReal.coe_zero, add_zero]

theorem top_logAdd_zero : logAdd ⊤ 0 = ⊤ := by
  unfold logAdd Ideal.log1p
  have e : (⊤ : EReal) - 0 = ⊤ := rfl
  rw [e, EReal.neg_top, max_eq_left bot_le, max_eq_left le_top, EReal.neg_top]
  show (⊤ : EReal) + Ideal.log (1 + 0) = ⊤
  rw [add_zero, ← EReal.coe_one, log_coe one_pos, Real.log_one, EReal.coe_zero, add_zero]

theorem ofBits_bot : Ideal.ofBits .f32 0xFF800000#32 = ⊥ := by simp [Ideal.ofBits, Ideal.ieee]

theorem largest_coe (a : Fin 2 → ℝ) : largest (fun i => (a i : EReal)) = ((max (a 0) (a 1) : ℝ) : EReal) := by
  unfold largest
  rw [ofBits_bot, show (Finset.univ : Finset (Fin 2)) = {0, 1} from rfl, Finset.fold_insert (by decide), Finset.fold_singleton, max_eq_left (bot_le (a := ((a 1 : ℝ) : EReal))), max_coe]

/-- With real logits both softmax values are positive real numbers, and they sum to 1. -/
theorem softmax_coe (a : Fin 2 → ℝ) : ∃ l : ℝ, 0 < l ∧ l < 1
    ∧ Ideal.div (Ideal.exp ((a 1 : EReal) - largest fun i => (a i : EReal))) (∑ i, Ideal.exp ((a i : EReal) - largest fun i => (a i : EReal))) = l
    ∧ Ideal.div (Ideal.exp ((a 0 : EReal) - largest fun i => (a i : EReal))) (∑ i, Ideal.exp ((a i : EReal) - largest fun i => (a i : EReal))) = ((1 - l : ℝ) : EReal) := by
  have p0 := Real.exp_pos (a 0 - max (a 0) (a 1))
  have p1 := Real.exp_pos (a 1 - max (a 0) (a 1))
  have ps := add_pos p0 p1
  refine ⟨Real.exp (a 1 - max (a 0) (a 1)) / (Real.exp (a 0 - max (a 0) (a 1)) + Real.exp (a 1 - max (a 0) (a 1))), div_pos p1 ps, (div_lt_one ps).2 (by linarith), ?_, ?_⟩
  · rw [largest_coe, Fin.sum_univ_two, ← EReal.coe_sub, ← EReal.coe_sub, exp_coe, exp_coe, ← EReal.coe_add, div_coe _ ps]
  · rw [largest_coe, Fin.sum_univ_two, ← EReal.coe_sub, ← EReal.coe_sub, exp_coe, exp_coe, ← EReal.coe_add, div_coe _ ps]
    congr 1
    field_simp
    ring

variable {l : ℝ} (h0 : 0 < l) (h1 : l < 1)

include h0 h1

/-- The two key gates. -/
theorem key_eq (f : EReal) : keyGate l f = keyRef l f := by
  have one : Ideal.div 1 (1 + 0) = 1 := by
    rw [add_zero, ← EReal.coe_one, div_coe _ one_pos, div_one]
  unfold keyGate keyRef
  congr 1
  induction f with
  | bot =>
    rw [decay_bot, one, if_neg (by simp), EReal.neg_bot, EReal.neg_top]
    exact one.symm
  | top =>
    rw [decay_top, if_pos le_top, zero_mul, EReal.neg_top, EReal.neg_bot]
    show (0 : EReal) = Ideal.div 1 (1 + ⊤)
    have e : (1 : EReal) + ⊤ = ⊤ := rfl
    unfold Ideal.div
    rw [e, if_neg (by simp), EReal.inv_top, mul_zero]
  | coe x =>
    have p : 0 < Real.exp x := Real.exp_pos x
    rw [decay_coe, neg_neg, exp_coe, ← EReal.coe_one, ← EReal.coe_add, ← EReal.coe_add, div_coe _ (by positivity), div_coe _ (by positivity),
      ← EReal.coe_mul]
    by_cases hx : 0 ≤ x
    · rw [if_pos (by exact_mod_cast hx), abs_of_nonneg hx, Real.exp_neg]
      congr 1
      field_simp
      ring
    · rw [if_neg (by exact_mod_cast hx), abs_of_neg (not_le.1 hx), neg_neg]

/-- The quotient whose logarithm the log gate is. -/
theorem log_quotient (x : ℝ) :
    (if 0 ≤ x then 1 + l * Real.exp (-|x|) else l + Real.exp (-|x|)) = (1 + Real.exp (-|x|)) * (l + (1 - l) / (1 + Real.exp (-x))) := by
  have p : 0 < Real.exp x := Real.exp_pos x
  by_cases hx : 0 ≤ x
  · rw [if_pos hx, abs_of_nonneg hx, Real.exp_neg]
    field_simp
    ring
  · rw [if_neg hx, abs_of_neg (not_le.1 hx), neg_neg, Real.exp_neg]
    field_simp
    ring

/-- The kernel's clamp changes nothing. -/
theorem clamp (x : ℝ) {n : ℝ} (hn : n = if 0 ≤ x then 1 + l * Real.exp (-|x|) else l + Real.exp (-|x|)) :
    0 < n ∧ max (Real.log n) (max (Real.log l) (min x 0)) = Real.log n := by
  have p := Real.exp_pos (-|x|)
  have q := mul_pos h0 p
  by_cases hx : 0 ≤ x
  · rw [if_pos hx] at hn
    have hl : 0 ≤ Real.log n := Real.log_nonneg (by linarith)
    exact ⟨by linarith, max_eq_left (max_le ((Real.log_nonpos h0.le h1.le).trans hl) ((min_le_right _ _).trans hl))⟩
  · rw [if_neg hx] at hn
    have hn0 : 0 < n := by linarith
    refine ⟨hn0, max_eq_left (max_le (Real.log_le_log h0 (by linarith)) ((min_le_left _ _).trans ?_))⟩
    rw [Real.le_log_iff_exp_le hn0, hn, abs_of_neg (not_le.1 hx), neg_neg]
    linarith

/-- The two log gates. -/
theorem log_eq (f : EReal) : logGate l f = logRef l f := by
  have hl1 : 0 < 1 - l := by linarith
  have e1 : (1 : EReal) + -(l : EReal) = ((1 - l : ℝ) : EReal) := by
    rw [← EReal.coe_neg, ← EReal.coe_one, ← EReal.coe_add, sub_eq_add_neg]
  have one : Ideal.log 1 = 0 := by rw [← EReal.coe_one, log_coe one_pos, Real.log_one, EReal.coe_zero]
  have hlog := Real.log_nonpos h0.le h1.le
  unfold logGate logRef
  rw [show Ideal.log1p (-(l : EReal)) = (Real.log (1 - l) : EReal) by unfold Ideal.log1p; rw [e1, log_coe hl1], log_coe h0]
  induction f with
  | bot =>
    rw [decay_bot, if_neg (by simp), EReal.neg_bot, top_logAdd_zero, EReal.neg_top, EReal.add_bot, logAdd_bot, add_zero, add_zero, log_coe h0, one,
      min_eq_left bot_le, max_eq_left bot_le, max_self, sub_zero]
  | top =>
    rw [decay_top, if_pos le_top, mul_zero, EReal.neg_top, bot_logAdd_zero, neg_zero, add_zero, add_zero, one, min_eq_right le_top, sub_zero, logAdd_coe,
      Real.exp_log h0, Real.exp_log hl1, max_eq_right (show (Real.log l : EReal) ≤ 0 by exact_mod_cast hlog), max_self]
    rw [show l + (1 - l) = 1 by ring, Real.log_one, EReal.coe_zero]
  | coe x =>
    have p : 0 < Real.exp (-x) := Real.exp_pos _
    have u := Real.exp_pos (-|x|)
    obtain ⟨hn, hmax⟩ := clamp h0 h1 x rfl
    have eif : (if (0 : EReal) ≤ (x : EReal) then (1 : EReal) + l * decay x else l + decay x)
        = (((if 0 ≤ x then 1 + l * Real.exp (-|x|) else l + Real.exp (-|x|)) : ℝ) : EReal) := by
      rw [decay_coe]
      by_cases hx : 0 ≤ x
      · rw [if_pos (by exact_mod_cast hx), if_pos hx, EReal.coe_add, EReal.coe_mul, EReal.coe_one]
      · rw [if_neg (by exact_mod_cast hx), if_neg hx, EReal.coe_add]
    rw [eif, decay_coe, log_coe hn, ← EReal.coe_zero, min_coe, max_coe, max_coe, hmax, ← EReal.coe_one, ← EReal.coe_add, log_coe (by linarith),
      ← EReal.coe_sub, ← EReal.coe_neg, logAdd_coe, ← EReal.coe_neg, ← EReal.coe_add, logAdd_coe, log_quotient h0 h1,
      Real.log_mul (by linarith) (by have := div_pos hl1 (add_pos one_pos p); linarith), Real.exp_log h0, Real.exp_add, Real.exp_log hl1, Real.exp_neg (Real.log _),
      Real.exp_log (by rw [Real.exp_zero]; linarith), Real.exp_zero, add_sub_cancel_left, add_comm (Real.exp (-x)) 1, ← div_eq_mul_inv]

end Cert.Gate

end
-- ==== Proof.GateBody.lean ====
/-
  THE GATE KERNEL'S BODY. A step projects 512 tokens onto 256 columns at a time, turns each part into its gate and stores the
  two heads a block of 256 columns holds. Each output block is eight such stores (`out0_3` … `out0_7` as `heads` of the parts'
  blocks), and here each is read at a head, a row and a column.
-/
module

public import proofs.«01_k».proof.Proof.GateRow
public import proofs.«01_k».proof.Proof.Gen.Kernel3Ideal.Value
public import Idealize.ShloMosaic.Lib.MatmulPlain
public import Idealize.ShloMosaic.Lib.Pipeline.Value
public import Idealize.ShloMosaic.Lib.Pipeline.ValueKit.Geometry
public import Idealize.ShloMosaic.Lib.Pipeline.ValueKit.Point
public import Idealize.ShloMosaic.Lib.Pipeline.ValueKit.Tiles
public import Idealize.ShloMosaic.Lib.Pointwise
public import Idealize.ShloMosaic.Lib.Pointwise.IndexVar

@[expose] public section

set_option maxRecDepth 65536

noncomputable section

namespace Cert.Gate

open Idealize.ShloMosaic Idealize.ShloMosaic.TcCoe
open Cert.Kernel3Ideal Cert.Kernel3Ideal.Facts Cert.Kernel3Ideal.Gen
open scoped BigOperators

/-- The eight stores of an output block, the last first. -/
def heads {e : EltTy} (p : Fin 8 → Vec Ideal S1x512x128 e) : Vec Ideal S8x512x128 e :=
  View.canon [⟨r0_22, p 7⟩, ⟨r0_21, p 6⟩, ⟨r0_16, p 5⟩, ⟨r0_15, p 4⟩, ⟨r0_10, p 3⟩, ⟨r0_9, p 2⟩, ⟨r0_4, p 1⟩, ⟨r0_3, p 0⟩]

theorem heads_apply {e : EltTy} (p : Fin 8 → Vec Ideal S1x512x128 e) (h : Fin 8) (r : Fin 512) (d : Fin 128) :
    heads p (ix3 h r d) = p h (ix3 0 r d) := by
  have inb : ∀ (k : Fin 8) a, (![(7 - k : Fin 8).val, 0, 0] : Fin 3 → Nat) a + S1x512x128.size a ≤ S8x512x128.size a := by decide
  have ep : heads p = View.canon (List.ofFn fun k : Fin 8 => (⟨Rect.unit (s := S8x512x128) ![(7 - k : Fin 8).val, 0, 0] S1x512x128.size (inb k), p (7 - k)⟩ :
      View.Piece (Elt Ideal) S8x512x128 e)) := rfl
  rw [ep]
  refine View.canon_ofFn_unit_eq_of_forall (S := S8x512x128) (fun k : Fin 8 => ![(7 - k : Fin 8).val, 0, 0]) S1x512x128.size inb (fun k : Fin 8 => (p (7 - k) : Vec Ideal S1x512x128 e)) _ _ ⟨7 - h, fun a => ?_⟩ fun k x hx => ?_
  · have e7 : (7 - (7 - h) : Fin 8) = h := by revert h; decide
    rw [e7]
    fin_cases a
    · exact ⟨le_refl _, Nat.lt_succ_self _⟩
    · exact ⟨Nat.zero_le _, by show r.val < 0 + 512; omega⟩
    · exact ⟨Nat.zero_le _, by show d.val < 0 + 128; omega⟩
  · have x0 : (x 0).val < 1 := (x 0).isLt
    have a0 : h.val = (7 - k : Fin 8).val + (x 0).val := hx 0
    have a1 : r.val = 0 + (x 1).val := hx 1
    have a2 : d.val = 0 + (x 2).val := hx 2
    have ek : (7 - k : Fin 8) = h := Fin.ext (by omega)
    have ex : x = (ix3 0 r d : S1x512x128.Idx) := by
      funext a
      fin_cases a
      · exact Fin.ext (by show (x 0).val = 0; omega)
      · exact Fin.ext (by show (x 1).val = r.val; omega)
      · exact Fin.ext (by show (x 2).val = d.val; omega)
    show p (7 - k) x = p h (ix3 0 r d)
    rw [ek, ex]

/-- The projection of a block. -/
def proj (x : Vec Ideal S512x1024 .f32) (w : Vec Ideal S1024x256 .bf16) : FVec Ideal S512x256 .f32 := k0_pay12 (k0_pay8 x) w

theorem proj_apply (x : Vec Ideal S512x1024 .f32) (w : Vec Ideal S1024x256 .bf16) (r : Fin 512) (n : Fin 256) :
    proj x w (ix2 r n) = ∑ k : Fin 1024, x (ix2 r k) * w (ix2 k n) := by
  unfold proj k0_pay12 k0_pay8
  pointwise

/-- `z · 1 / (1 + exp (-z))`. -/
def silu (z : FVec Ideal S512x256 .f32) : FVec Ideal S512x256 .f32 :=
  mulf z (divf (broadcast S512x256 (Scalar.ofBits .f32 0x3F800000#32)) (addf (broadcast S512x256 (Scalar.ofBits .f32 0x3F800000#32))
    (exp (subf (broadcast S512x256 (Scalar.ofBits .f32 0x00000000#32)) z))))

theorem silu_apply (z : FVec Ideal S512x256 .f32) (r : Fin 512) (n : Fin 256) : silu z (ix2 r n) = siluOf (z (ix2 r n)) := by
  unfold silu siluOf
  pointwise
  simp only [zero_sub]

/-- `exp (-|f|)` of a block. -/
def decays (f : FVec Ideal S512x256 .f32) : FVec Ideal S512x256 .f32 :=
  exp (subf (broadcast S512x256 (Scalar.ofBits .f32 0x00000000#32)) (absf f))

theorem decays_apply (f : FVec Ideal S512x256 .f32) (r : Fin 512) (n : Fin 256) : decays f (ix2 r n) = decay (f (ix2 r n)) := by
  unfold decays decay
  pointwise
  simp only [zero_sub]
  rfl

/-- The key gate of a block. -/
def keys (f : FVec Ideal S512x256 .f32) (b : FVec Ideal S1x256 .f32) : FVec Ideal S512x256 .f32 := k0_pay37 f b (decays f)

theorem keys_apply (f : FVec Ideal S512x256 .f32) (b : FVec Ideal S1x256 .f32) (r : Fin 512) (n : Fin 256) :
    keys f b (ix2 r n) = keyGate (b (ix2 0 n)) (f (ix2 r n)) := by
  unfold keys keyGate k0_pay37 k0_pay36
  pointwise
  simp only [decays_apply]

/-- The log gate of a block. -/
def logs (f : FVec Ideal S512x256 .f32) (b lb : FVec Ideal S1x256 .f32) : FVec Ideal S512x256 .f32 :=
  subf (maximumf (log (select (cmpf .oge f (broadcast S512x256 (Scalar.ofBits .f32 0x00000000#32)))
      (addf (broadcast S512x256 (Scalar.ofBits .f32 0x3F800000#32)) (mulf (broadcastTo S512x256 b broadcasts_S1x256_S512x256) (decays f)))
      (addf (broadcastTo S512x256 b broadcasts_S1x256_S512x256) (decays f))))
    (maximumf (broadcastTo S512x256 lb broadcasts_S1x256_S512x256) (minimumf f (broadcast S512x256 (Scalar.ofBits .f32 0x00000000#32)))))
  (log (k0_pay36 (decays f)))

theorem logs_apply (f : FVec Ideal S512x256 .f32) (b lb : FVec Ideal S1x256 .f32) (r : Fin 512) (n : Fin 256) (hb : lb (ix2 0 n) = Ideal.log (b (ix2 0 n))) :
    logs f b lb (ix2 r n) = logGate (b (ix2 0 n)) (f (ix2 r n)) := by
  unfold logs logGate k0_pay36
  pointwise
  simp only [decays_apply, hb]

/-- A block's first or second head. -/
def half (b : Fin 2) (z : FVec Ideal S512x256 .f32) : FVec Ideal S1x512x128 .f32 :=
  shapeCast S1x512x128 (extractStridedSlice S512x128 ![0, 128 * b.val] z (by revert b; decide)) shapeCasts_S512x128_S1x512x128

theorem half_apply (b : Fin 2) (z : FVec Ideal S512x256 .f32) (r : Fin 512) (d : Fin 128) :
    half b z (ix3 0 r d) = z (ix2 r ⟨128 * b.val + d.val, by omega⟩) := by
  unfold half
  pointwise

/-- Columns `256 k` and on of the lower bounds. -/
def cut (k : Fin 4) (v : FVec Ideal S1x1024 .f32) : FVec Ideal S1x256 .f32 :=
  extractStridedSlice S1x256 ![0, 256 * k.val] v (by revert k; decide)

theorem cut_apply (k : Fin 4) (v : FVec Ideal S1x1024 .f32) (n : Fin 256) : cut k v (ix2 0 n) = v (ix2 0 ⟨256 * k.val + n.val, by omega⟩) := by
  unfold cut
  pointwise

/-- Columns `1024 p + 256 k` and on of the weights. -/
def columns (p k : Fin 4) (w : Vec Ideal S1024x4096 .bf16) : Vec Ideal S1024x256 .bf16 :=
  View.ld w (Rect.unit (s := S1024x4096) ![0, 1024 * p.val + 256 * k.val] S1024x256.size (by revert p k; decide))

theorem columns_apply (p k : Fin 4) (w : Vec Ideal S1024x4096 .bf16) (l : Fin 1024) (n : Fin 256) :
    columns p k w (ix2 l n) = w (ix2 l ⟨1024 * p.val + 256 * k.val + n.val, by omega⟩) := by
  unfold columns
  pointwise

/-- The block of 256 columns a head lies in, and its half of it. -/
def pair (h : Fin 8) : Fin 4 := ⟨h.val / 2, by omega⟩
def side (h : Fin 8) : Fin 2 := ⟨h.val % 2, by omega⟩

/-- A block's first or second head, rounded. -/
def halfCast (b : Fin 2) (z : FVec Ideal S512x256 .f32) : FVec Ideal S1x512x128 .bf16 :=
  shapeCast S1x512x128 (truncf .bf16 (extractStridedSlice S512x128 ![0, 128 * b.val] z (by revert b; decide)) bitsLt_bf16_f32) shapeCasts_S512x128_S1x512x128

theorem halfCast_apply (b : Fin 2) (z : FVec Ideal S512x256 .f32) (r : Fin 512) (d : Fin 128) :
    halfCast b z (ix3 0 r d) = z (ix2 r ⟨128 * b.val + d.val, by omega⟩) := by
  unfold halfCast
  pointwise

section outs

variable (x0 : Vec Ideal S512x1024 .f32) (x1 : Vec Ideal S1024x4096 .bf16) (x2 : Vec Ideal S2x1024 .f32)

/-- Part `p` of the projection, the columns of head `h`'s block. -/
def part (p : Fin 4) (h : Fin 8) : FVec Ideal S512x256 .f32 := proj (View.ld x0 r0_1) (columns p (pair h) x1)

theorem out_query : out0_3 x0 x1 x2 = heads fun h => half (side h) (silu (part x0 x1 0 h)) := rfl

theorem out_key : out0_4 x0 x1 x2 = heads fun h => half (side h) (keys (part x0 x1 1 h) (cut (pair h) (k0_pay6 (View.ld x2 r0_0)))) := rfl

theorem out_log : out0_5 x0 x1 x2 = heads fun h =>
    half (side h) (logs (part x0 x1 1 h) (cut (pair h) (k0_pay6 (View.ld x2 r0_0))) (cut (pair h) (k0_pay7 (View.ld x2 r0_0)))) := rfl

theorem out_value : out0_6 x0 x1 x2 = heads fun h => halfCast (side h) (part x0 x1 2 h) := rfl

theorem out_gate : out0_7 x0 x1 x2 = heads fun h => half (side h) (silu (part x0 x1 3 h)) := rfl

theorem whole_logits : View.ld x2 r0_0 = x2 := View.ld_unit_zero (S := S2x1024) (off := ![0, 0]) (by funext a; fin_cases a <;> rfl) _ _

theorem whole_tokens : View.ld x0 r0_1 = x0 := View.ld_unit_zero (S := S512x1024) (off := ![0, 0]) (by funext a; fin_cases a <;> rfl) _ _

theorem bound_apply (n : Fin 1024) : k0_pay6 (View.ld x2 r0_0) (ix2 0 n) = bound fun i => x2 (ix2 i n) := by
  rw [whole_logits]
  unfold k0_pay6 bound largest
  pointwise

theorem logBound_apply (n : Fin 1024) : k0_pay7 (View.ld x2 r0_0) (ix2 0 n) = Ideal.log (bound fun i => x2 (ix2 i n)) := by
  rw [← bound_apply]
  rfl

/-- Where a head's feature lies in its block of 256 columns. -/
def slot (h : Fin 8) (d : Fin 128) : Fin 256 := ⟨128 * (side h).val + d.val, by omega⟩

theorem part_apply (p : Fin 4) (h : Fin 8) (r : Fin 512) (d : Fin 128) :
    part x0 x1 p h (ix2 r (slot h d)) = ∑ k : Fin 1024, x0 (ix2 r k) * x1 (ix2 k (col p h d)) := by
  unfold part
  rw [whole_tokens, proj_apply]
  refine Finset.sum_congr rfl fun k _ => ?_
  rw [columns_apply]
  congr 3
  unfold slot col side pair
  ext
  dsimp only
  omega

theorem cut_slot (v : FVec Ideal S1x1024 .f32) (h : Fin 8) (d : Fin 128) : cut (pair h) v (ix2 0 (slot h d)) = v (ix2 0 (feat h d)) := by
  rw [cut_apply]
  congr 2
  unfold slot feat side pair
  ext
  dsimp only
  omega

/-- A token's feature, projected. -/
def dot (p : Fin 4) (h : Fin 8) (r : Fin 512) (d : Fin 128) : EReal := ∑ k : Fin 1024, x0 (ix2 r k) * x1 (ix2 k (col p h d))

variable (h : Fin 8) (r : Fin 512) (d : Fin 128)

theorem query_apply : out0_3 x0 x1 x2 (ix3 h r d) = siluOf (dot x0 x1 0 h r d) := by
  rw [out_query, heads_apply, half_apply, silu_apply]
  exact congrArg siluOf (part_apply x0 x1 0 h r d)

theorem key_apply : out0_4 x0 x1 x2 (ix3 h r d) = keyGate (bound fun i => x2 (ix2 i (feat h d))) (dot x0 x1 1 h r d) := by
  rw [out_key, heads_apply, half_apply, keys_apply]
  exact congrArg₂ keyGate ((cut_slot _ h d).trans (bound_apply x2 _)) (part_apply x0 x1 1 h r d)

theorem log_apply : out0_5 x0 x1 x2 (ix3 h r d) = logGate (bound fun i => x2 (ix2 i (feat h d))) (dot x0 x1 1 h r d) := by
  rw [out_log, heads_apply, half_apply, logs_apply]
  · exact congrArg₂ logGate ((cut_slot _ h d).trans (bound_apply x2 _)) (part_apply x0 x1 1 h r d)
  · exact ((cut_slot _ h d).trans (logBound_apply x2 _)).trans (congrArg Ideal.log ((cut_slot _ h d).trans (bound_apply x2 _)).symm)

theorem value_apply : out0_6 x0 x1 x2 (ix3 h r d) = dot x0 x1 2 h r d := by
  rw [out_value, heads_apply, halfCast_apply]
  exact part_apply x0 x1 2 h r d

theorem gate_apply : out0_7 x0 x1 x2 (ix3 h r d) = siluOf (dot x0 x1 3 h r d) := by
  rw [out_gate, heads_apply, half_apply, silu_apply]
  exact congrArg siluOf (part_apply x0 x1 3 h r d)

end outs

end Cert.Gate

end
-- ==== Proof.GateReference.lean ====
/-
  WHAT THE GATES' REFERENCE COMPUTES, read at a head, a token and a column: the scalar gates of that token's projected
  features and of the column's lower bound.
-/
module

public import proofs.«01_k».proof.Proof.GateRow
public import proofs.«01_k».proof.Proof.Gen.Reference3Ideal.Run
public import Idealize.ShloMosaic.Lib.Pointwise
public import Idealize.ShloMosaic.Lib.Pointwise.IndexVar
public import Idealize.ShloMosaic.Lib.KernelVsHost
public import Idealize.ShloMosaic.Lib.IdealHost
public import Idealize.ShloMosaic.Lib.Tactic.CleanTypes

@[expose] public section

set_option maxRecDepth 16384

noncomputable section

namespace Cert.GateRef

open Idealize.ShloMosaic Idealize.ShloMosaic.TcCoe Idealize.SL.Sem
open Cert.Reference3Ideal Cert.Reference3Ideal.Gen Cert.Gate
open scoped BigOperators

/-- The larger of every feature's two logits. -/
def refMax (z : FVec Ideal S2x1024 .f32) : FVec Ideal S1024 .f32 :=
  maximumf (broadcastInDim S1024 ![] bcast_S_S1024 (constant S_ .f32 0xFF800000#32)) (Host.reduce FloatOps.maximumf z (constant S_ .f32 0xFF800000#32) reducesTo_S2x1024_S1024_d0 h_S_)

/-- A row for both layers. -/
def refBoth (v : FVec Ideal S1024 .f32) : FVec Ideal S2x1024 .f32 :=
  broadcastInDim S2x1024 ![0, 1] bcast_S1x1024_S2x1024_0_1 (broadcastInDim S1x1024 ![1] bcast_S1024_S1x1024_1 v)

/-- The softmax's numerators. -/
def refExp (z : FVec Ideal S2x1024 .f32) : FVec Ideal S2x1024 .f32 := Host.exp (subf z (refBoth (refMax z)))

/-- The softmax over the layers. -/
def refSoft (z : FVec Ideal S2x1024 .f32) : FVec Ideal S2x1024 .f32 :=
  Host.divf (refExp z) (refBoth (Host.reduceAdd (refExp z) (constant S_ .f32 0x00000000#32) reducesTo_S2x1024_S1024_d0 h_S_))

/-- The lower bounds. -/
def refLower (z : FVec Ideal S2x1024 .f32) : FVec Ideal S1024 .f32 :=
  subf (Host.reduceAdd (refSoft z) (constant S_ .f32 0x00000000#32) reducesTo_S2x1024_S1024_d0 h_S_)
    (shapeCast _ (extractStridedSlice S1x1024 ![0, 0] (refSoft z) slices_S2x1024_S1x1024_0_0) shapeCasts_S1x1024_S1024)

/-- A row for every token. -/
def refRow (v : FVec Ideal S1024 .f32) : FVec Ideal S65536x1024 .f32 :=
  broadcastInDim S65536x1024 ![0, 1] bcast_S1x1024_S65536x1024_0_1 (broadcastInDim S1x1024 ![1] bcast_S1024_S1x1024_1 v)

/-- The projection. -/
def refProj (x : FVec Ideal S65536x1024 .f32) (w : FVec Ideal S1024x4096 .f32) : FVec Ideal S65536x4096 .f32 :=
  Host.dotGeneral dot_S65536x1024_S1024x4096_S65536x4096_1_0_0_1_n_n none x w

/-- A constant everywhere. -/
def refConst (b : BitVec 32) : FVec Ideal S65536x1024 .f32 := broadcastInDim S65536x1024 ![] bcast_S_S65536x1024 (constant S_ .f32 b)

/-- The logistic function. -/
def refSigm (z : FVec Ideal S65536x1024 .f32) : FVec Ideal S65536x1024 .f32 :=
  Host.divf (refConst 0x3F800000#32) (addf (refConst 0x3F800000#32) (Host.exp (Host.negf z)))

/-- Addition in logarithms. -/
def refLogAdd (a b : FVec Ideal S65536x1024 .f32) : FVec Ideal S65536x1024 .f32 :=
  select (cmpf .une (subf a b) (subf a b)) (addf a b) (addf (maximumf a b) (Host.log1p (Host.exp (Host.negf (Host.absf (subf a b))))))

/-- The key gates. -/
def refKey (v : FVec Ideal S1024 .f32) (f : FVec Ideal S65536x1024 .f32) : FVec Ideal S65536x1024 .f32 :=
  mulf (refRow (subf (broadcastInDim S1024 ![] bcast_S_S1024 (constant S_ .f32 0x3F800000#32)) v)) (refSigm (Host.negf f))

/-- The log gates. -/
def refLog (v : FVec Ideal S1024 .f32) (f : FVec Ideal S65536x1024 .f32) : FVec Ideal S65536x1024 .f32 :=
  refLogAdd (refRow (Host.log v)) (addf (refRow (Host.log1p (Host.negf v))) (Host.negf (refLogAdd (Host.negf f) (refConst 0x00000000#32))))

/-- The heads before the tokens. -/
def refHeads {e : FTy} (z : FVec Ideal S65536x1024 e) : FVec Ideal S8x65536x128 e :=
  transpose S8x65536x128 [1, 0, 2] (shapeCast _ z shapeCasts_S65536x1024_S65536x8x128) transposes_S65536x8x128_S8x65536x128_1_0_2

theorem refMax_apply (z : FVec Ideal S2x1024 .f32) (n : Fin 1024) : refMax z (ix1 n) = largest fun i => z (ix2 i n) := by
  unfold refMax largest
  pointwise
  rw [ofBits_bot]
  exact max_eq_right bot_le

theorem refExp_apply (z : FVec Ideal S2x1024 .f32) (i : Fin 2) (n : Fin 1024) : refExp z (ix2 i n) = Ideal.exp (z (ix2 i n) - largest fun i => z (ix2 i n)) := by
  rw [← refMax_apply]
  unfold refExp refBoth
  generalize refMax z = g
  pointwise

theorem refSoft_apply (z : FVec Ideal S2x1024 .f32) (i : Fin 2) (n : Fin 1024) :
    refSoft z (ix2 i n) = Ideal.div (Ideal.exp (z (ix2 i n) - largest fun i => z (ix2 i n))) (∑ k, Ideal.exp (z (ix2 k n) - largest fun i => z (ix2 i n))) := by
  simp only [← refExp_apply]
  unfold refSoft refBoth
  generalize refExp z = g
  pointwise

theorem refLower_apply (z : FVec Ideal S2x1024 .f32) (n : Fin 1024) : refLower z (ix1 n) = (∑ k, refSoft z (ix2 k n)) - refSoft z (ix2 0 n) := by
  unfold refLower
  generalize refSoft z = g
  pointwise

theorem refSigm_apply (z : FVec Ideal S65536x1024 .f32) (t : Fin 65536) (n : Fin 1024) : refSigm z (ix2 t n) = Ideal.div 1 (1 + Ideal.exp (-(z (ix2 t n)))) := by
  unfold refSigm refConst
  pointwise

theorem refLogAdd_apply (a b : FVec Ideal S65536x1024 .f32) (t : Fin 65536) (n : Fin 1024) :
    refLogAdd a b (ix2 t n) = logAdd (a (ix2 t n)) (b (ix2 t n)) := by
  unfold refLogAdd logAdd
  pointwise
  exact if_neg fun h => h rfl

theorem refKey_apply (v : FVec Ideal S1024 .f32) (f : FVec Ideal S65536x1024 .f32) (t : Fin 65536) (n : Fin 1024) :
    refKey v f (ix2 t n) = keyRef (v (ix1 n)) (f (ix2 t n)) := by
  unfold refKey keyRef refRow
  pointwise
  rw [refSigm_apply]
  rfl

theorem refLog_apply (v : FVec Ideal S1024 .f32) (f : FVec Ideal S65536x1024 .f32) (t : Fin 65536) (n : Fin 1024) :
    refLog v f (ix2 t n) = logRef (v (ix1 n)) (f (ix2 t n)) := by
  unfold refLog logRef
  rw [refLogAdd_apply]
  unfold refRow
  pointwise
  rw [refLogAdd_apply]
  unfold refConst
  pointwise

theorem refHeads_apply {e : FTy} (z : FVec Ideal S65536x1024 e) (h : Fin 8) (t : Fin 65536) (d : Fin 128) :
    refHeads z (ix3 h t d) = z (ix2 t (feat h d)) := by
  unfold refHeads feat
  pointwise
  congr 3
  omega

/-- With real logits the reference's lower bound is the kernel's, a real number strictly between 0 and 1. -/
theorem lower_eq (z : FVec Ideal S2x1024 .f32) (n : Fin 1024) (a : Fin 2 → ℝ) (hz : ∀ i, z (ix2 i n) = (a i : EReal)) :
    ∃ l : ℝ, 0 < l ∧ l < 1 ∧ (bound fun i => z (ix2 i n)) = l ∧ refLower z (ix1 n) = l := by
  obtain ⟨l, h0, h1, e1, e0⟩ := softmax_coe a
  refine ⟨l, h0, h1, ?_, ?_⟩
  · unfold bound
    simp only [hz]
    exact e1
  · rw [refLower_apply, Fin.sum_univ_two]
    simp only [refSoft_apply, hz]
    rw [e0, e1, ← EReal.coe_add, ← EReal.coe_sub]
    congr 1
    ring

section Results

variable (x : FVec Ideal S65536x1024 .f32) (w : FVec Ideal S1024x4096 .f32) (z : FVec Ideal S2x1024 .f32)

/-- A token's projected feature. -/
def refDot (p : Fin 4) (h : Fin 8) (t : Fin 65536) (d : Fin 128) : EReal := ∑ k : Fin 1024, x (ix2 t k) * w (ix2 k (col p h d))

/-- Part `p` of the projection. -/
def refPart (p : Fin 4) : FVec Ideal S65536x1024 .f32 := extractStridedSlice S65536x1024 ![0, 1024 * p.val] (refProj x w) (by revert p; decide)

variable (h : Fin 8) (t : Fin 65536) (d : Fin 128)

theorem refProj_apply (n : Fin 4096) : refProj x w (ix2 t n) = ∑ k : Fin 1024, x (ix2 t k) * w (ix2 k n) := by
  unfold refProj
  pointwise

theorem refPart_apply (p : Fin 4) : refPart x w p (ix2 t (feat h d)) = refDot x w p h t d := by
  unfold refPart
  pointwise
  exact refProj_apply x w t _

/-- The five results. -/
def query : FVec Ideal S8x65536x128 .f32 := refHeads (mulf (refPart x w 0) (refSigm (refPart x w 0)))
def key : FVec Ideal S8x65536x128 .f32 := refHeads (refKey (refLower z) (refPart x w 1))
def logs : FVec Ideal S8x65536x128 .f32 := refHeads (refLog (refLower z) (refPart x w 1))
def value : FVec Ideal S8x65536x128 .bf16 := refHeads (truncf .bf16 (refPart x w 2) bitsLt_bf16_f32)
def gate : FVec Ideal S8x65536x128 .f32 := refHeads (mulf (refPart x w 3) (refSigm (refPart x w 3)))

theorem silu_feat (p : Fin 4) : mulf (refPart x w p) (refSigm (refPart x w p)) (ix2 t (feat h d)) = siluOf (refDot x w p h t d) := by
  rw [ValueIdx.mulf_apply, refSigm_apply, refPart_apply]
  rfl

theorem query_apply : query x w (ix3 h t d) = siluOf (refDot x w 0 h t d) := (refHeads_apply _ h t d).trans (silu_feat x w h t d 0)

theorem gate_apply : gate x w (ix3 h t d) = siluOf (refDot x w 3 h t d) := (refHeads_apply _ h t d).trans (silu_feat x w h t d 3)

theorem value_apply : value x w (ix3 h t d) = refDot x w 2 h t d := (refHeads_apply _ h t d).trans (refPart_apply x w h t d 2)

theorem key_apply : key x w z (ix3 h t d) = keyRef (refLower z (ix1 (feat h d))) (refDot x w 1 h t d) := by
  unfold key
  rw [refHeads_apply, refKey_apply, refPart_apply]

theorem logs_apply : logs x w z (ix3 h t d) = logRef (refLower z (ix1 (feat h d))) (refDot x w 1 h t d) := by
  unfold logs
  rw [refHeads_apply, refLog_apply, refPart_apply]

end Results

/-- The run's results are these. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = query (m ((c.tc : Thread nD τ).loc main_arg0)) (m ((c.tc : Thread nD τ).loc main_arg1))
      ∧ r.2.mem ((c.tc : Thread nD τ).loc main_v59) = key (m ((c.tc : Thread nD τ).loc main_arg0)) (m ((c.tc : Thread nD τ).loc main_arg1)) (m ((c.tc : Thread nD τ).loc main_arg2))
      ∧ r.2.mem ((c.tc : Thread nD τ).loc main_v61) = logs (m ((c.tc : Thread nD τ).loc main_arg0)) (m ((c.tc : Thread nD τ).loc main_arg1)) (m ((c.tc : Thread nD τ).loc main_arg2))
      ∧ r.2.mem ((c.tc : Thread nD τ).loc main_v63) = value (m ((c.tc : Thread nD τ).loc main_arg0)) (m ((c.tc : Thread nD τ).loc main_arg1))
      ∧ r.2.mem ((c.tc : Thread nD τ).loc main_v65) = gate (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r hr c => ⟨(hr c).1.trans rfl, (hr c).2.1.trans rfl, (hr c).2.2.1.trans rfl, (hr c).2.2.2.1.trans rfl,
    (hr c).2.2.2.2.1.trans rfl, (hr c).2.2.2.2.2⟩) (Value.run (F := Ideal) m ρ)

end Cert.GateRef

end
-- ==== Proof.GateArray.lean ====
/-
  THE GATE KERNEL'S ARRAYS. Step `t` reads 512 tokens, all weights and all logits, and writes the five gates of those tokens
  for every head; with real logits the five arrays after the run are the reference's five results. Where `finite_logits`
  holds the logits are real (`logits_real`).
-/
module

public import proofs.«01_k».proof.Defs
public import proofs.«01_k».proof.Proof.GateBody
public import proofs.«01_k».proof.Proof.GateReference

@[expose] public section

set_option maxRecDepth 65536

noncomputable section

namespace Cert.Gate

open Idealize.ShloMosaic Idealize.ShloMosaic.TcCoe Idealize.SL.Sem
open Cert.Kernel3Ideal Cert.Kernel3Ideal.Gen
open Cert.GateRef (refLower refDot)
open scoped BigOperators

/-- The shape relations of the precondition's operations. -/
theorem preFacts : Cert.Pre_finite_logits.Facts where
  bcast_S_S2x1024 := by decide +kernel

instance : Cert.Pre_finite_logits.Facts := preFacts

theorem test_apply (x : FVec Ideal S65536x1024 .f32) (w : FVec Ideal S1024x4096 .f32) (z : FVec Ideal S2x1024 .f32) (i : Fin 2) (n : Fin 1024) :
    Cert.Pre_finite_logits.fn x w z (ix2 i n) = Ideal.cmp .olt (max (z (ix2 i n)) (-(z (ix2 i n)))) (Ideal.ofBits .f32 0x7F800000#32) := by
  unfold Cert.Pre_finite_logits.fn
  dsimp only
  pointwise
  rfl

/-- A number below the test's bound in size is real. -/
theorem real_of_test {x : EReal} (h : Ideal.cmp .olt (max x (-x)) (Ideal.ofBits .f32 0x7F800000#32) = 1#1) : ∃ a : ℝ, x = (a : EReal) := by
  have hb : Ideal.ofBits .f32 0x7F800000#32 = ⊤ := by simp [Ideal.ofBits, Ideal.ieee]
  rw [hb] at h
  have top : Ideal.cmp .olt ⊤ ⊤ = 0#1 := by
    show BitVec.ofBool (decide _) = _
    rw [decide_eq_false (lt_irrefl _)]
    rfl
  induction x with
  | bot =>
    rw [EReal.neg_bot, max_eq_right bot_le, top] at h
    exact absurd h (by decide)
  | top =>
    rw [EReal.neg_top, max_eq_left bot_le, top] at h
    exact absurd h (by decide)
  | coe a => exact ⟨a, rfl⟩

/-- Where the precondition holds the logits are real. -/
theorem logits_real {x : FVec Ideal S65536x1024 .f32} {w : FVec Ideal S1024x4096 .f32} {z : FVec Ideal S2x1024 .f32}
    (hp : Cert.Pre_finite_logits.fn x w z = fun _ => 1#1) (i : Fin 2) (n : Fin 1024) : ∃ a : ℝ, z (ix2 i n) = (a : EReal) := by
  have e := test_apply x w z i n
  rw [hp] at e
  exact real_of_test e.symm

/-- The blocks' places. -/
theorem places : ∀ t : Fin cfg0.N,
    win0_0.index t = ![t.val, 0] ∧ win0_1.index t = ![0, 0] ∧ win0_2.index t = ![0, 0]
    ∧ win0_3.index t = ![0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

/-- The three arguments. -/
abbrev argX : FVec Ideal S65536x1024 .f32 := m ((c.tc : Thread nD τ).loc main_arg0)
abbrev argW : FVec Ideal S1024x4096 .f32 := m ((c.tc : Thread nD τ).loc main_arg1)
abbrev argZ : FVec Ideal S2x1024 .f32 := m ((c.tc : Thread nD τ).loc main_arg2)

section blocks

variable (t : Fin cfg0.N)

/-- The token that row `r` of step `t` is. -/
def token (r : Fin 512) : Fin 65536 := ⟨512 * t.val + r.val, by have : t.val < 128 := t.isLt; omega⟩

theorem tokens_block (r : Fin 512) (k : Fin 1024) : (iblk m c 0 t : Vec Ideal S512x1024 .f32) (ix2 r k) = argX m c (ix2 (token t r) k) := by
  have e := (places t).1
  unfold token
  blk_ext [iblk, V, e]

theorem weights_block (k : Fin 1024) (n : Fin 4096) : (iblk m c 1 t : Vec Ideal S1024x4096 .bf16) (ix2 k n) = argW m c (ix2 k n) := by
  have e := (places t).2.1
  blk_point [iblk, V, e]

theorem logits_block (i : Fin 2) (n : Fin 1024) : (iblk m c 2 t : Vec Ideal S2x1024 .f32) (ix2 i n) = argZ m c (ix2 i n) := by
  have e := (places t).2.2.1
  blk_ext [iblk, V, e]

theorem dot_block (p : Fin 4) (h : Fin 8) (r : Fin 512) (d : Fin 128) :
    dot (iblk m c 0 t) (iblk m c 1 t) p h r d = refDot (argX m c) (argW m c) p h (token t r) d := by
  unfold dot refDot
  simp only [tokens_block, weights_block]

theorem bound_block (n : Fin 1024) : (bound fun i => (iblk m c 2 t : Vec Ideal S2x1024 .f32) (ix2 i n)) = bound fun i => argZ m c (ix2 i n) := by
  simp only [logits_block]

end blocks

/-- The indices of a block. -/
theorem block_index (y : S8x512x128.Idx) : ∃ (h : Fin 8) (r : Fin 512) (d : Fin 128), y = ix3 h r d :=
  ⟨y 0, y 1, y 2, by funext a; fin_cases a <;> rfl⟩

/-- The gates of a step's rows are the reference's, where the logits are real. -/
theorem gates_block (hz : ∀ i n, ∃ a : ℝ, argZ m c (ix2 i n) = (a : EReal)) (t : Fin cfg0.N) (h : Fin 8) (r : Fin 512) (d : Fin 128) :
    keyGate (bound fun i => (iblk m c 2 t : Vec Ideal S2x1024 .f32) (ix2 i (feat h d))) (dot (iblk m c 0 t) (iblk m c 1 t) 1 h r d)
      = keyRef (refLower (argZ m c) (ix1 (feat h d))) (refDot (argX m c) (argW m c) 1 h (token t r) d)
    ∧ logGate (bound fun i => (iblk m c 2 t : Vec Ideal S2x1024 .f32) (ix2 i (feat h d))) (dot (iblk m c 0 t) (iblk m c 1 t) 1 h r d)
      = logRef (refLower (argZ m c) (ix1 (feat h d))) (refDot (argX m c) (argW m c) 1 h (token t r) d) := by
  obtain ⟨l, h0, h1, eb, el⟩ := GateRef.lower_eq (argZ m c) (feat h d) (fun i => (hz i (feat h d)).choose) fun i => (hz i (feat h d)).choose_spec
  rw [bound_block, dot_block, eb, el]
  exact ⟨key_eq h0 h1 _, log_eq h0 h1 _⟩

theorem query_array : (dats m 0 c).arrAt 3 cfg0.N = GateRef.query (argX m c) (argW m c) := by
  refine (dats m 0 c).arrAt_eq_of_covers 3 _ (by decide +kernel) fun t hf y => ?_
  have e := (places t).2.2.2.1
  blk_simp
  rw [after0_3]
  obtain ⟨h, r, d, hy⟩ := block_index y
  subst hy
  refine (query_apply _ _ _ h r d).trans ((congrArg siluOf (dot_block m c t 0 h r d)).trans ((GateRef.query_apply (argX m c) (argW m c) h (token t r) d).symm.trans (congrArg (GateRef.query (argX m c) (argW m c)) ?_)))
  unfold token
  blk_ext [e]

theorem key_array (hz : ∀ i n, ∃ a : ℝ, argZ m c (ix2 i n) = (a : EReal)) : (dats m 0 c).arrAt 4 cfg0.N = GateRef.key (argX m c) (argW m c) (argZ m c) := by
  refine (dats m 0 c).arrAt_eq_of_covers 4 _ (by decide +kernel) fun t hf y => ?_
  have e := (places t).2.2.2.2.1
  blk_simp
  rw [after0_4]
  obtain ⟨h, r, d, hy⟩ := block_index y
  subst hy
  refine (key_apply _ _ _ h r d).trans ((gates_block m c hz t h r d).1.trans ((GateRef.key_apply (argX m c) (argW m c) (argZ m c) h (token t r) d).symm.trans (congrArg (GateRef.key (argX m c) (argW m c) (argZ m c)) ?_)))
  unfold token
  blk_ext [e]

theorem logs_array (hz : ∀ i n, ∃ a : ℝ, argZ m c (ix2 i n) = (a : EReal)) : (dats m 0 c).arrAt 5 cfg0.N = GateRef.logs (argX m c) (argW m c) (argZ m c) := by
  refine (dats m 0 c).arrAt_eq_of_covers 5 _ (by decide +kernel) fun t hf y => ?_
  have e := (places t).2.2.2.2.2.1
  blk_simp
  rw [after0_5]
  obtain ⟨h, r, d, hy⟩ := block_index y
  subst hy
  refine (log_apply _ _ _ h r d).trans ((gates_block m c hz t h r d).2.trans ((GateRef.logs_apply (argX m c) (argW m c) (argZ m c) h (token t r) d).symm.trans (congrArg (GateRef.logs (argX m c) (argW m c) (argZ m c)) ?_)))
  unfold token
  blk_ext [e]

theorem value_array : (dats m 0 c).arrAt 6 cfg0.N = GateRef.value (argX m c) (argW m c) := by
  refine (dats m 0 c).arrAt_eq_of_covers 6 _ (by decide +kernel) fun t hf y => ?_
  have e := (places t).2.2.2.2.2.2.1
  blk_simp
  rw [after0_6]
  obtain ⟨h, r, d, hy⟩ := block_index y
  subst hy
  refine (value_apply _ _ _ h r d).trans ((dot_block m c t 2 h r d).trans ((GateRef.value_apply (argX m c) (argW m c) h (token t r) d).symm.trans (congrArg (GateRef.value (argX m c) (argW m c)) ?_)))
  unfold token
  blk_ext [e]

theorem gate_array : (dats m 0 c).arrAt 7 cfg0.N = GateRef.gate (argX m c) (argW m c) := by
  refine (dats m 0 c).arrAt_eq_of_covers 7 _ (by decide +kernel) fun t hf y => ?_
  have e := (places t).2.2.2.2.2.2.2
  blk_simp
  rw [after0_7]
  obtain ⟨h, r, d, hy⟩ := block_index y
  subst hy
  refine (gate_apply _ _ _ h r d).trans ((congrArg siluOf (dot_block m c t 3 h r d)).trans ((GateRef.gate_apply (argX m c) (argW m c) h (token t r) d).symm.trans (congrArg (GateRef.gate (argX m c) (argW m c)) ?_)))
  unfold token
  blk_ext [e]

end Cert.Gate

end
-- ==== Proof.RopeRow.lean ====
/-
  THE ROTARY EMBEDDING OF ONE ROW. The kernel multiplies by two copies of the rotary columns, one in order (`slotLane`), one
  with its halves exchanged and the first negated (`rotLane`), both filled up with zeros, and adds the products times the
  cosines and the sines. The reference rotates the product itself (`ropeRow`). On real rows and weights the two agree
  (`rope_eq`). A row's root mean square normalisation (`rmsRow`) is real where the row and the gains are.
-/
module

public import Idealize.ShloMosaic.PureOps.Ideal
public import Idealize.ShloMosaic.Lib.Pipeline.Value

@[expose] public section

noncomputable section

namespace Cert.Rope

open Idealize.ShloMosaic
open scoped BigOperators

/-- Real numbers among the extended ones. -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (A : Finset ι) (f : ι → ℝ) : (∑ i ∈ A, (f i : EReal)) = ((∑ i ∈ A, f i : ℝ) : EReal) := by
  classical
  induction A using Finset.induction_on with
  | empty => simp
  | insert a A ha ih => rw [Finset.sum_insert ha, Finset.sum_insert ha, ih, EReal.coe_add]

theorem IsReal.sum {ι : Type} (A : Finset ι) {f : ι → EReal} (hf : ∀ i, IsReal (f i)) : IsReal (∑ i ∈ A, f i) := by
  choose g hg using hf
  exact ⟨∑ i ∈ A, g i, by simp only [hg]; exact coe_sum A g⟩

/-- Columns with their signs changed project to the negated projection. -/
theorem sum_neg {ι : Type} [Fintype ι] {x w : ι → EReal} (hx : ∀ k, IsReal (x k)) (hw : ∀ k, IsReal (w k)) :
    (∑ k, x k * -(w k)) = -∑ k, x k * w k := by
  choose a ha using hx
  choose b hb using hw
  simp only [ha, hb, ← EReal.coe_neg, ← EReal.coe_mul, coe_sum]
  congr 1
  rw [← Finset.sum_neg_distrib]
  exact Finset.sum_congr rfl fun k _ => by ring

/-- The width 256, as its float word. -/
abbrev widthW : EReal := Ideal.ofBits .f32 0x43800000#32
/-- The normalisation's ε, as its float word. -/
abbrev epsW : EReal := Ideal.ofBits .f32 0x358637BD#32
/-- The scale times log2(e), as its float word. -/
abbrev scaleW : EReal := Ideal.ofBits .f32 0x3DD53B95#32

/-- The root mean square normalisation of a row. -/
def rmsRow (z g : Fin 256 → EReal) (j : Fin 256) : EReal :=
  z j * Ideal.rsqrt (Ideal.div (∑ k, z k * z k) widthW + epsW) * g j

theorem widthW_eq : widthW = ((256 : ℝ) : EReal) := by
  simp [Ideal.ofBits, Ideal.ieee, -EReal.coe_mul]
  norm_num

theorem epsW_pos : ∃ e : ℝ, 0 < e ∧ epsW = (e : EReal) := by
  refine ⟨8796093 * 2 ^ (-43 : ℤ), by positivity, ?_⟩
  simp [Ideal.ofBits, Ideal.ieee, -EReal.coe_mul]

theorem rmsRow_real {z g : Fin 256 → EReal} (hz : ∀ k, IsReal (z k)) (hg : ∀ k, IsReal (g k)) (j : Fin 256) : IsReal (rmsRow z g j) := by
  refine ((hz j).mul ?_).mul (hg j)
  choose a ha using hz
  obtain ⟨e, he, ee⟩ := epsW_pos
  rw [widthW_eq, ee, Ideal.div_coe (by norm_num : (256 : ℝ) ≠ 0)]
  simp only [ha, ← EReal.coe_mul, coe_sum]
  rw [← EReal.coe_add, Ideal.rsqrt_coe]
  have hs : 0 ≤ ∑ k, a k * a k := Finset.sum_nonneg fun k _ => mul_self_nonneg _
  have hp : 0 < (∑ k, a k * a k) * (1 / 256) + e := by positivity
  rw [if_neg (not_lt.2 hp.le), if_neg hp.ne']
  exact ⟨_, rfl⟩

/-- The 64 rotary columns in order, then zeros. -/
def slotLane (t : Fin 64 → EReal) (l : Fin 128) : EReal := if h : l.val < 64 then t ⟨l.val, h⟩ else 0

/-- The second half negated, the first half, then zeros. -/
def rotLane (t : Fin 64 → EReal) (l : Fin 128) : EReal :=
  if h : l.val < 32 then -(t ⟨32 + l.val, by omega⟩) else if h' : l.val < 64 then t ⟨l.val - 32, by omega⟩ else 0

/-- The angles' values twice over, then a constant. -/
def twice (a : Fin 32 → EReal) (e : EReal) (l : Fin 128) : EReal :=
  if h : l.val < 32 then a ⟨l.val, h⟩ else if h' : l.val < 64 then a ⟨l.val - 32, by omega⟩ else e

/-- The rotated row, then zeros. -/
def ropeRow (t : Fin 64 → EReal) (c s : Fin 32 → EReal) (l : Fin 128) : EReal :=
  if h : l.val < 32 then t ⟨l.val, by omega⟩ * c ⟨l.val, h⟩ - t ⟨32 + l.val, by omega⟩ * s ⟨l.val, h⟩
  else if h' : l.val < 64 then t ⟨l.val, h'⟩ * c ⟨l.val - 32, by omega⟩ + t ⟨l.val - 32, by omega⟩ * s ⟨l.val - 32, by omega⟩
  else 0

/-- The kernel's rotary columns are the reference's, on real rows and weights. -/
theorem rope_eq {ι : Type} [Fintype ι] {x : ι → EReal} {w : ι → Fin 64 → EReal} (hx : ∀ k, IsReal (x k)) (hw : ∀ k j, IsReal (w k j))
    (c s : Fin 32 → EReal) (e : EReal) (l : Fin 128) :
    (∑ k, x k * slotLane (w k) l) * twice c e l + (∑ k, x k * rotLane (w k) l) * twice s 0 l = ropeRow (fun j => ∑ k, x k * w k j) c s l := by
  unfold slotLane rotLane twice ropeRow
  by_cases h : l.val < 32
  · have h64 : l.val < 64 := by omega
    simp only [dif_pos h, dif_pos h64]
    rw [sum_neg hx fun k => hw k _, EReal.neg_mul, sub_eq_add_neg]
  · by_cases h' : l.val < 64
    · simp only [dif_neg h, dif_pos h']
    · simp only [dif_neg h, dif_neg h', mul_zero, Finset.sum_const_zero, zero_mul, add_zero]

end Cert.Rope

end
-- ==== Proof.RopeBody.lean ====
/-
  THE BODY OF THE PROJECTIONS' KERNEL, read at one row. The first half projects a tile and leaves its normalised rows
  (`rowsQ`, `rowsKv`), its rotary keys (`rowsKr`) and the tables of cosines and sines (`tableC`, `tableS`). The second half
  projects the normalised rows and cuts the heads out (`nope`, `roped`, `cutKv`).
-/
module

public import proofs.«01_k».proof.Proof.RopeRow
public import proofs.«01_k».proof.Proof.Gen.Kernel4Ideal.Skeleton
public import Idealize.ShloMosaic.Lib.MatmulPlain
public import Idealize.ShloMosaic.Lib.Pipeline.Value
public import Idealize.ShloMosaic.Lib.Pipeline.ValueKit.Geometry
public import Idealize.ShloMosaic.Lib.Pipeline.ValueKit.Point
public import Idealize.ShloMosaic.Lib.Pipeline.ValueKit.Tiles
public import Idealize.ShloMosaic.Lib.Pointwise
public import Idealize.ShloMosaic.Lib.Pointwise.IndexVar

@[expose] public section

set_option maxRecDepth 65536

noncomputable section

namespace Cert.Rope

open Idealize.ShloMosaic Idealize.ShloMosaic.TcCoe
open Cert.Kernel4Ideal Cert.Kernel4Ideal.Facts Cert.Kernel4Ideal.Gen
open scoped BigOperators

/-- The first projection of a tile. -/
def down (x : Vec Ideal S512x1024 .f32) (w : Vec Ideal S1024x768 .bf16) : FVec Ideal S512x768 .f32 := k0_pay16 x w

/-- The queries' normalised rows. -/
def rowsQ (x : Vec Ideal S512x1024 .f32) (w : Vec Ideal S1024x768 .bf16) (g : Vec Ideal S1x256 .f32) : FVec Ideal S512x256 .bf16 :=
  k0_pay20 (k0_pay17 x w) (k0_pay18 g) (k0_pay19 x w)

/-- The normalised rows of the keys and values. -/
def rowsKv (x : Vec Ideal S512x1024 .f32) (w : Vec Ideal S1024x768 .bf16) (g : Vec Ideal S1x256 .f32) : FVec Ideal S512x256 .bf16 :=
  k0_pay21 (down x w) g

/-- The table of cosines, and of sines. -/
def tableC (f : Vec Ideal S32x1 .f32) (p : Vec Ideal S1x512 .f32) : FVec Ideal S512x128 .f32 := k0_pay27 (k0_pay23 f p)
def tableS (f : Vec Ideal S32x1 .f32) (p : Vec Ideal S1x512 .f32) : FVec Ideal S512x128 .f32 := k0_pay28 (k0_pay24 f p)

/-- The rotary keys. -/
def rowsKr (x : Vec Ideal S512x1024 .f32) (w : Vec Ideal S1024x768 .bf16) (f : Vec Ideal S32x1 .f32) (p : Vec Ideal S1x512 .f32) : FVec Ideal S512x128 .bf16 :=
  k0_pay26 (down x w) (k0_pay24 f p) (k0_pay25 (down x w) f p)

/-- The projected queries, and the projected keys and values. -/
def upQ (a : Vec Ideal S512x256 .bf16) (w : Vec Ideal S256x3072 .bf16) : FVec Ideal S512x3072 .f32 := k0_pay14 a w
def upKv (a : Vec Ideal S512x256 .bf16) (w : Vec Ideal S256x2048 .bf16) : FVec Ideal S512x2048 .f32 := k0_pay15 a w

theorem down_apply (x : Vec Ideal S512x1024 .f32) (w : Vec Ideal S1024x768 .bf16) (r : Fin 512) (n : Fin 768) :
    down x w (ix2 r n) = ∑ k : Fin 1024, x (ix2 r k) * w (ix2 k n) := by
  unfold down k0_pay16
  pointwise

theorem rowsQ_eq (x : Vec Ideal S512x1024 .f32) (w : Vec Ideal S1024x768 .bf16) (g : Vec Ideal S1x256 .f32) (r : Fin 512) (j : Fin 256) :
    rowsQ x w g (ix2 r j) = rmsRow (fun k => down x w (ix2 r ⟨k.val, by omega⟩)) (fun k => g (ix2 0 k)) j := by
  unfold rowsQ rmsRow k0_pay20 k0_pay19 k0_pay18 k0_pay17
  show _ = down x w (ix2 r ⟨j.val, _⟩) * _ * _
  have e : k0_pay16 x w = down x w := rfl
  rw [e]
  generalize down x w = z
  pointwise

theorem rowsKv_eq (x : Vec Ideal S512x1024 .f32) (w : Vec Ideal S1024x768 .bf16) (g : Vec Ideal S1x256 .f32) (r : Fin 512) (j : Fin 256) :
    rowsKv x w g (ix2 r j) = rmsRow (fun k => down x w (ix2 r ⟨256 + k.val, by omega⟩)) (fun k => g (ix2 0 k)) j := by
  unfold rowsKv rmsRow k0_pay21
  generalize down x w = z
  pointwise

theorem tableC_apply (f : Vec Ideal S32x1 .f32) (p : Vec Ideal S1x512 .f32) (r : Fin 512) (l : Fin 128) :
    tableC f p (ix2 r l) = twice (fun i => Ideal.cos (f (ix2 i 0) * p (ix2 0 r))) 1 l := by
  unfold tableC twice k0_pay27 k0_pay23 k0_pay22
  pointwise
  by_cases h1 : l.val < 32
  · simp only [dif_pos h1]
  · by_cases h2 : l.val < 64
    · have h3 : l.val - 32 < 32 := by omega
      simp only [dif_neg h1, dif_pos h2, dif_pos h3]
    · have h3 : ¬l.val - 32 < 32 := by omega
      simp only [dif_neg h1, dif_neg h2, dif_neg h3]

theorem tableS_apply (f : Vec Ideal S32x1 .f32) (p : Vec Ideal S1x512 .f32) (r : Fin 512) (l : Fin 128) :
    tableS f p (ix2 r l) = twice (fun i => Ideal.sin (f (ix2 i 0) * p (ix2 0 r))) 0 l := by
  unfold tableS twice k0_pay28 k0_pay24 k0_pay22
  pointwise
  by_cases h1 : l.val < 32
  · simp only [dif_pos h1]
  · by_cases h2 : l.val < 64
    · have h3 : l.val - 32 < 32 := by omega
      simp only [dif_neg h1, dif_pos h2, dif_pos h3]
    · have h3 : ¬l.val - 32 < 32 := by omega
      simp only [dif_neg h1, dif_neg h2, dif_neg h3]

theorem rowsKr_eq (x : Vec Ideal S512x1024 .f32) (w : Vec Ideal S1024x768 .bf16) (f : Vec Ideal S32x1 .f32) (p : Vec Ideal S1x512 .f32) (r : Fin 512) (l : Fin 128) :
    rowsKr x w f p (ix2 r l) = down x w (ix2 r ⟨512 + l.val, by omega⟩) * tableC f p (ix2 r l) + down x w (ix2 r ⟨640 + l.val, by omega⟩) * tableS f p (ix2 r l) := by
  unfold rowsKr tableC tableS k0_pay26 k0_pay25 k0_pay27 k0_pay28
  generalize down x w = z
  generalize k0_pay23 f p = c
  generalize k0_pay24 f p = s
  pointwise

theorem upQ_apply (a : Vec Ideal S512x256 .bf16) (w : Vec Ideal S256x3072 .bf16) (r : Fin 512) (n : Fin 3072) :
    upQ a w (ix2 r n) = ∑ k : Fin 256, a (ix2 r k) * w (ix2 k n) := by
  unfold upQ k0_pay14
  pointwise

theorem upKv_apply (a : Vec Ideal S512x256 .bf16) (w : Vec Ideal S256x2048 .bf16) (r : Fin 512) (n : Fin 2048) :
    upKv a w (ix2 r n) = ∑ k : Fin 256, a (ix2 r k) * w (ix2 k n) := by
  unfold upKv k0_pay15
  pointwise

/-- A head's queries without rotation. -/
def nope (z : FVec Ideal S512x3072 .f32) (h : Fin 8) : FVec Ideal S1x512x128 .bf16 :=
  shapeCast S1x512x128 (truncf .bf16 (mulf (extractStridedSlice S512x128 ![0, 128 * h.val] z (by revert h; decide)) (broadcast S512x128 (Scalar.ofBits .f32 0x3DD53B95#32))) bitsLt_bf16_f32)
    shapeCasts_S512x128_S1x512x128

theorem nope_apply (z : FVec Ideal S512x3072 .f32) (h : Fin 8) (r : Fin 512) (l : Fin 128) :
    nope z h (ix3 0 r l) = z (ix2 r ⟨128 * h.val + l.val, by omega⟩) * scaleW := by
  unfold nope
  pointwise

/-- A head's rotated queries. -/
def roped (z : FVec Ideal S512x3072 .f32) (c s : Vec Ideal S512x128 .f32) (h : Fin 8) : FVec Ideal S1x512x128 .bf16 :=
  shapeCast S1x512x128 (truncf .bf16 (mulf (addf (mulf (extractStridedSlice S512x128 ![0, 1024 + 128 * h.val] z (by revert h; decide)) c)
      (mulf (extractStridedSlice S512x128 ![0, 2048 + 128 * h.val] z (by revert h; decide)) s)) (broadcast S512x128 (Scalar.ofBits .f32 0x3DD53B95#32))) bitsLt_bf16_f32)
    shapeCasts_S512x128_S1x512x128

theorem roped_apply (z : FVec Ideal S512x3072 .f32) (c s : Vec Ideal S512x128 .f32) (h : Fin 8) (r : Fin 512) (l : Fin 128) :
    roped z c s h (ix3 0 r l) = (z (ix2 r ⟨1024 + 128 * h.val + l.val, by omega⟩) * c (ix2 r l) + z (ix2 r ⟨2048 + 128 * h.val + l.val, by omega⟩) * s (ix2 r l)) * scaleW := by
  unfold roped
  pointwise

/-- A head's keys (`b = 0`) or values (`b = 1`). -/
def cutKv (b : Fin 2) (z : FVec Ideal S512x2048 .f32) (h : Fin 8) : FVec Ideal S1x512x128 .bf16 :=
  shapeCast S1x512x128 (truncf .bf16 (extractStridedSlice S512x128 ![0, 1024 * b.val + 128 * h.val] z (by revert b h; decide)) bitsLt_bf16_f32) shapeCasts_S512x128_S1x512x128

theorem cutKv_apply (b : Fin 2) (z : FVec Ideal S512x2048 .f32) (h : Fin 8) (r : Fin 512) (l : Fin 128) :
    cutKv b z h (ix3 0 r l) = z (ix2 r ⟨1024 * b.val + 128 * h.val + l.val, by omega⟩) := by
  unfold cutKv
  pointwise

/-- The eight stores of an output block of 128 columns, the last first. -/
def heads {e : EltTy} (p : Fin 8 → Vec Ideal S1x512x128 e) : Vec Ideal S8x512x128 e :=
  View.canon (List.ofFn fun k : Fin 8 => (⟨Rect.unit (s := S8x512x128) ![(7 - k : Fin 8).val, 0, 0] S1x512x128.size
    ((by decide : ∀ (k : Fin 8) a, (![(7 - k : Fin 8).val, 0, 0] : Fin 3 → Nat) a + S1x512x128.size a ≤ S8x512x128.size a) k), p (7 - k)⟩ : View.Piece (Elt Ideal) S8x512x128 e))

theorem heads_apply {e : EltTy} (p : Fin 8 → Vec Ideal S1x512x128 e) (h : Fin 8) (r : Fin 512) (d : Fin 128) :
    heads p (ix3 h r d) = p h (ix3 0 r d) := by
  refine View.canon_ofFn_unit_eq_of_forall (S := S8x512x128) (fun k : Fin 8 => ![(7 - k : Fin 8).val, 0, 0]) S1x512x128.size _ (fun k : Fin 8 => (p (7 - k) : Vec Ideal S1x512x128 e)) _ _ ⟨7 - h, fun a => ?_⟩ fun k x hx => ?_
  · have e7 : (7 - (7 - h) : Fin 8) = h := by revert h; decide
    rw [e7]
    fin_cases a
    · exact ⟨le_refl _, Nat.lt_succ_self _⟩
    · exact ⟨Nat.zero_le _, by show r.val < 0 + 512; omega⟩
    · exact ⟨Nat.zero_le _, by show d.val < 0 + 128; omega⟩
  · have x0 : (x 0).val < 1 := (x 0).isLt
    have a0 : h.val = (7 - k : Fin 8).val + (x 0).val := hx 0
    have a1 : r.val = 0 + (x 1).val := hx 1
    have a2 : d.val = 0 + (x 2).val := hx 2
    have ek : (7 - k : Fin 8) = h := Fin.ext (by omega)
    have ex : x = (ix3 0 r d : S1x512x128.Idx) := by
      funext a
      fin_cases a
      · exact Fin.ext (by show (x 0).val = 0; omega)
      · exact Fin.ext (by show (x 1).val = r.val; omega)
      · exact Fin.ext (by show (x 2).val = d.val; omega)
    show p (7 - k) x = p h (ix3 0 r d)
    rw [ek, ex]

/-- The head (`i / 2`) and the half (`i % 2`) of store `i` of the queries' block, counted from the last. -/
def headNo (i : Fin 16) : Fin 8 := ⟨7 - i.val / 2, by omega⟩
def halfNo (i : Fin 16) : Fin 2 := ⟨1 - i.val % 2, by omega⟩

/-- The sixteen stores of the queries' block: each head's two halves. -/
def halves {e : EltTy} (p : Fin 2 → Fin 8 → Vec Ideal S1x512x128 e) : Vec Ideal S8x512x256 e :=
  View.canon (List.ofFn fun k : Fin 16 => (⟨Rect.unit (s := S8x512x256) ![(headNo k).val, 0, 128 * (halfNo k).val] S1x512x128.size
    ((by decide : ∀ (k : Fin 16) a, (![(headNo k).val, 0, 128 * (halfNo k).val] : Fin 3 → Nat) a + S1x512x128.size a ≤ S8x512x256.size a) k), p (halfNo k) (headNo k)⟩ :
      View.Piece (Elt Ideal) S8x512x256 e))

theorem halves_apply {e : EltTy} (p : Fin 2 → Fin 8 → Vec Ideal S1x512x128 e) (h : Fin 8) (r : Fin 512) (b : Fin 2) (d : Fin 128) :
    halves p (ix3 h r ⟨128 * b.val + d.val, by omega⟩) = p b h (ix3 0 r d) := by
  refine View.canon_ofFn_unit_eq_of_forall (S := S8x512x256) (fun k : Fin 16 => ![(headNo k).val, 0, 128 * (halfNo k).val]) S1x512x128.size _
    (fun k : Fin 16 => (p (halfNo k) (headNo k) : Vec Ideal S1x512x128 e)) _ _ ⟨⟨2 * (7 - h.val) + (1 - b.val), by omega⟩, fun a => ?_⟩ fun k x hx => ?_
  · have e1 : headNo ⟨2 * (7 - h.val) + (1 - b.val), by omega⟩ = h := Fin.ext (by show 7 - (2 * (7 - h.val) + (1 - b.val)) / 2 = h.val; omega)
    have e2 : halfNo ⟨2 * (7 - h.val) + (1 - b.val), by omega⟩ = b := Fin.ext (by show 1 - (2 * (7 - h.val) + (1 - b.val)) % 2 = b.val; omega)
    rw [e1, e2]
    fin_cases a
    · exact ⟨le_refl _, Nat.lt_succ_self _⟩
    · exact ⟨Nat.zero_le _, by show r.val < 0 + 512; omega⟩
    · exact ⟨Nat.le_add_right _ _, by show 128 * b.val + d.val < 128 * b.val + 128; omega⟩
  · have x0 : (x 0).val < 1 := (x 0).isLt
    have x2 : (x 2).val < 128 := (x 2).isLt
    have a0 : h.val = (headNo k).val + (x 0).val := hx 0
    have a1 : r.val = 0 + (x 1).val := hx 1
    have a2 : 128 * b.val + d.val = 128 * (halfNo k).val + (x 2).val := hx 2
    have ek : headNo k = h := Fin.ext (by omega)
    have eb : halfNo k = b := Fin.ext (by omega)
    rw [eb] at a2
    have ex : x = (ix3 0 r d : S1x512x128.Idx) := by
      funext a
      fin_cases a
      · exact Fin.ext (by show (x 0).val = 0; omega)
      · exact Fin.ext (by show (x 1).val = r.val; omega)
      · exact Fin.ext (by show (x 2).val = d.val; omega)
    show p (halfNo k) (headNo k) x = p b h (ix3 0 r d)
    rw [ek, eb, ex]

end Cert.Rope

end
-- ==== Proof.RopeStep.lean ====
/-
  ONE GRID STEP OF THE PROJECTIONS' KERNEL. A step leaves what the next one needs of the next tile: its normalised rows, its
  rotary keys and its tables. It writes out the tile before it, from what the step before left; the first step prepares its
  own tile first.
-/
module

public import proofs.«01_k».proof.Proof.RopeBody
public import proofs.«01_k».proof.Proof.Gen.Kernel4Ideal.Frame

@[expose] public section

set_option maxRecDepth 65536

noncomputable section

namespace Cert.Rope

open Idealize.ShloMosaic Idealize.ShloMosaic.TcCoe Idealize.SL.Sem
open Cert.Kernel4Ideal Cert.Kernel4Ideal.Gen

/-- The queries' block: each head's two halves. -/
def queries (a : Vec Ideal S512x256 .bf16) (w : Vec Ideal S256x3072 .bf16) (c s : Vec Ideal S512x128 .f32) : Vec Ideal S8x512x256 .bf16 :=
  halves fun b => if b = 0 then nope (upQ a w) else roped (upQ a w) c s

/-- The keys' block (`b = 0`) and the values' (`b = 1`). -/
def kvs (b : Fin 2) (a : Vec Ideal S512x256 .bf16) (w : Vec Ideal S256x2048 .bf16) : Vec Ideal S8x512x128 .bf16 := heads (cutKv b (upKv a w))

variable (m : (ℓ : Loc nD τ sig) → Buf (Elt Ideal) ℓ) (c : Dev nD) (t : Fin cfg0.N)

theorem cq_B (h : ¬t.val % 128 = 0) : (outsAt0 m c t.val t.isLt).2.2.2.2.1 = rowsQ (iblk m c 2 t) (iblk m c 5 t) (iblk m c 6 t) := by
  rw [outsAt0_B m c t h]
  frame_out
  rfl

theorem ckv_B (h : ¬t.val % 128 = 0) : (outsAt0 m c t.val t.isLt).2.2.2.2.2.1 = rowsKv (iblk m c 2 t) (iblk m c 5 t) (iblk m c 7 t) := by
  rw [outsAt0_B m c t h]
  frame_out
  rfl

theorem kr_B (h : ¬t.val % 128 = 0) : (outsAt0 m c t.val t.isLt).2.2.2.2.2.2.1 = rowsKr (iblk m c 2 t) (iblk m c 5 t) (iblk m c 4 t) (iblk m c 3 t) := by
  rw [outsAt0_B m c t h]
  frame_out
  rfl

theorem cos_B (h : ¬t.val % 128 = 0) : (outsAt0 m c t.val t.isLt).2.2.2.2.2.2.2.1 = tableC (iblk m c 4 t) (iblk m c 3 t) := by
  rw [outsAt0_B m c t h]
  frame_out
  rfl

theorem sin_B (h : ¬t.val % 128 = 0) : (outsAt0 m c t.val t.isLt).2.2.2.2.2.2.2.2 = tableS (iblk m c 4 t) (iblk m c 3 t) := by
  rw [outsAt0_B m c t h]
  frame_out
  rfl

theorem cq_A (h : t.val % 128 = 0) : (outsAt0 m c t.val t.isLt).2.2.2.2.1 = rowsQ (iblk m c 2 t) (iblk m c 5 t) (iblk m c 6 t) := by
  rw [outsAt0_A m c t h]
  frame_out
  rfl

theorem ckv_A (h : t.val % 128 = 0) : (outsAt0 m c t.val t.isLt).2.2.2.2.2.1 = rowsKv (iblk m c 2 t) (iblk m c 5 t) (iblk m c 7 t) := by
  rw [outsAt0_A m c t h]
  frame_out
  rfl

theorem kr_A (h : t.val % 128 = 0) : (outsAt0 m c t.val t.isLt).2.2.2.2.2.2.1 = rowsKr (iblk m c 2 t) (iblk m c 5 t) (iblk m c 4 t) (iblk m c 3 t) := by
  rw [outsAt0_A m c t h]
  frame_out
  rfl

theorem cos_A (h : t.val % 128 = 0) : (outsAt0 m c t.val t.isLt).2.2.2.2.2.2.2.1 = tableC (iblk m c 4 t) (iblk m c 3 t) := by
  rw [outsAt0_A m c t h]
  frame_out
  rfl

theorem sin_A (h : t.val % 128 = 0) : (outsAt0 m c t.val t.isLt).2.2.2.2.2.2.2.2 = tableS (iblk m c 4 t) (iblk m c 3 t) := by
  rw [outsAt0_A m c t h]
  frame_out
  rfl

theorem outQ_A (h : t.val % 128 = 0) : (outsAt0 m c t.val t.isLt).1
    = queries (rowsQ (iblk m c 0 t) (iblk m c 5 t) (iblk m c 6 t)) (iblk m c 8 t) (tableC (iblk m c 4 t) (iblk m c 1 t)) (tableS (iblk m c 4 t) (iblk m c 1 t)) := by
  rw [outsAt0_A m c t h]
  frame_out
  rfl

theorem outK_A (h : t.val % 128 = 0) : (outsAt0 m c t.val t.isLt).2.1 = kvs 0 (rowsKv (iblk m c 0 t) (iblk m c 5 t) (iblk m c 7 t)) (iblk m c 9 t) := by
  rw [outsAt0_A m c t h]
  frame_out
  rfl

theorem outKr_A (h : t.val % 128 = 0) : (outsAt0 m c t.val t.isLt).2.2.1 = rowsKr (iblk m c 0 t) (iblk m c 5 t) (iblk m c 4 t) (iblk m c 1 t) := by
  rw [outsAt0_A m c t h]
  frame_out
  rfl

theorem outV_A (h : t.val % 128 = 0) : (outsAt0 m c t.val t.isLt).2.2.2.1 = kvs 1 (rowsKv (iblk m c 0 t) (iblk m c 5 t) (iblk m c 7 t)) (iblk m c 9 t) := by
  rw [outsAt0_A m c t h]
  frame_out
  rfl

theorem outQ_B (h : ¬t.val % 128 = 0) : (outsAt0 m c t.val t.isLt).1
    = queries (outsAt0 m c (t.val - 1) (by omega)).2.2.2.2.1 (iblk m c 8 t) (outsAt0 m c (t.val - 1) (by omega)).2.2.2.2.2.2.2.1 (outsAt0 m c (t.val - 1) (by omega)).2.2.2.2.2.2.2.2 := by
  rw [outsAt0_B m c t h]
  frame_out
  generalize (outsAt0 m c (t.val - 1) _).2.2.2.2.1 = z
  generalize (outsAt0 m c (t.val - 1) _).2.2.2.2.2.2.2.1 = co
  generalize (outsAt0 m c (t.val - 1) _).2.2.2.2.2.2.2.2 = si
  have ez : View.read (Elt Ideal) (View.whole cc0_scratch0) ((Memref.isWhole_whole cc0_scratch0).unread z) = z := (Memref.isWhole_whole cc0_scratch0).read_unread z
  have ec : View.read (Elt Ideal) (View.whole cc0_scratch3) ((Memref.isWhole_whole cc0_scratch3).unread co) = co := (Memref.isWhole_whole cc0_scratch3).read_unread co
  have es : View.read (Elt Ideal) (View.whole cc0_scratch4) ((Memref.isWhole_whole cc0_scratch4).unread si) = si := (Memref.isWhole_whole cc0_scratch4).read_unread si
  rw [ez, ec, es]
  rfl

theorem outK_B (h : ¬t.val % 128 = 0) : (outsAt0 m c t.val t.isLt).2.1 = kvs 0 (outsAt0 m c (t.val - 1) (by omega)).2.2.2.2.2.1 (iblk m c 9 t) := by
  rw [outsAt0_B m c t h]
  frame_out
  generalize (outsAt0 m c (t.val - 1) _).2.2.2.2.2.1 = z
  have ez : View.read (Elt Ideal) (View.whole cc0_scratch1) ((Memref.isWhole_whole cc0_scratch1).unread z) = z := (Memref.isWhole_whole cc0_scratch1).read_unread z
  rw [ez]
  rfl

theorem outV_B (h : ¬t.val % 128 = 0) : (outsAt0 m c t.val t.isLt).2.2.2.1 = kvs 1 (outsAt0 m c (t.val - 1) (by omega)).2.2.2.2.2.1 (iblk m c 9 t) := by
  rw [outsAt0_B m c t h]
  frame_out
  generalize (outsAt0 m c (t.val - 1) _).2.2.2.2.2.1 = z
  have ez : View.read (Elt Ideal) (View.whole cc0_scratch1) ((Memref.isWhole_whole cc0_scratch1).unread z) = z := (Memref.isWhole_whole cc0_scratch1).read_unread z
  rw [ez]
  rfl

theorem outKr_B (h : ¬t.val % 128 = 0) : (outsAt0 m c t.val t.isLt).2.2.1 = (outsAt0 m c (t.val - 1) (by omega)).2.2.2.2.2.2.1 := by
  rw [outsAt0_B m c t h]
  frame_out
  exact (Memref.isWhole_whole cc0_scratch2).read_unread _

end Cert.Rope

end
-- ==== Proof.RopeBlocks.lean ====
/-
  WHAT THE PROJECTIONS' BLOCKS HOLD, in the arrays' terms: the rows of a tile, and the weights as the kernel's host code lays
  them out (`hostDown`, `hostQ`, `hostKv`): the plain columns, the rotary columns in order, and the rotary columns with their
  halves exchanged and the first negated.
-/
module

public import proofs.«01_k».proof.Proof.RopeStep
public import Idealize.ShloMosaic.Lib.KernelVsHost
public import Idealize.ShloMosaic.Lib.IdealHost
public import Idealize.ShloMosaic.Lib.Tactic.CleanTypes

@[expose] public section

set_option maxRecDepth 65536

noncomputable section

namespace Cert.Rope

open Idealize.ShloMosaic Idealize.ShloMosaic.TcCoe Idealize.SL.Sem
open Cert.Kernel4Ideal Cert.Kernel4Ideal.Facts Cert.Kernel4Ideal.Gen
open scoped BigOperators

section host

/-- The rotary columns of the first projection, in order. -/
def downRope (w : FVec Ideal S1024x576 .f32) : FVec Ideal S1024x64 .f32 := extractStridedSlice S1024x64 ![0, 512] w slices_S1024x576_S1024x64_0_512

/-- The first projection's weights as the host code lays them out. -/
def hostDown (w : FVec Ideal S1024x576 .f32) : FVec Ideal S1024x768 .bf16 :=
  truncf .bf16 (concatenate S1024x768 1 [⟨S1024x512, extractStridedSlice S1024x512 ![0, 0] w slices_S1024x576_S1024x512_0_0⟩,
    ⟨S1024x128, concatenate S1024x128 1 [⟨S1024x32, extractStridedSlice S1024x32 ![0, 0] (downRope w) slices_S1024x64_S1024x32_0_0⟩,
      ⟨S1024x32, extractStridedSlice S1024x32 ![0, 32] (downRope w) slices_S1024x64_S1024x32_0_32⟩,
      ⟨S1024x64, broadcastInDim S1024x64 ![] bcast_S_S1024x64 (constant S_ .f32 0x00000000#32)⟩] concatenates_S1024x32_S1024x32_S1024x64_S1024x128_d1⟩,
    ⟨S1024x128, concatenate S1024x128 1 [⟨S1024x32, Host.negf (extractStridedSlice S1024x32 ![0, 32] (downRope w) slices_S1024x64_S1024x32_0_32)⟩,
      ⟨S1024x32, extractStridedSlice S1024x32 ![0, 0] (downRope w) slices_S1024x64_S1024x32_0_0⟩,
      ⟨S1024x64, broadcastInDim S1024x64 ![] bcast_S_S1024x64 (constant S_ .f32 0x00000000#32)⟩] concatenates_S1024x32_S1024x32_S1024x64_S1024x128_d1⟩]
    concatenates_S1024x512_S1024x128_S1024x128_S1024x768_d1) bitsLt_bf16_f32

/-- A head's columns of the queries' projection. -/
def qHeads (w : FVec Ideal S256x1536 .f32) : FVec Ideal S256x8x192 .f32 := shapeCast S256x8x192 w shapeCasts_S256x1536_S256x8x192

/-- A head's rotary columns. -/
def qRope (w : FVec Ideal S256x1536 .f32) : FVec Ideal S256x8x64 .f32 := extractStridedSlice S256x8x64 ![0, 0, 128] (qHeads w) slices_S256x8x192_S256x8x64_0_0_128

/-- The queries' weights as the host code lays them out. -/
def hostQ (w : FVec Ideal S256x1536 .f32) : FVec Ideal S256x3072 .bf16 :=
  truncf .bf16 (concatenate S256x3072 1 [⟨S256x1024, shapeCast S256x1024 (extractStridedSlice S256x8x128 ![0, 0, 0] (qHeads w) slices_S256x8x192_S256x8x128_0_0_0) shapeCasts_S256x8x128_S256x1024⟩,
    ⟨S256x1024, shapeCast S256x1024 (concatenate S256x8x128 2 [⟨S256x8x32, extractStridedSlice S256x8x32 ![0, 0, 0] (qRope w) slices_S256x8x64_S256x8x32_0_0_0⟩,
      ⟨S256x8x32, extractStridedSlice S256x8x32 ![0, 0, 32] (qRope w) slices_S256x8x64_S256x8x32_0_0_32⟩,
      ⟨S256x8x64, broadcastInDim S256x8x64 ![] bcast_S_S256x8x64 (constant S_ .f32 0x00000000#32)⟩] concatenates_S256x8x32_S256x8x32_S256x8x64_S256x8x128_d2) shapeCasts_S256x8x128_S256x1024⟩,
    ⟨S256x1024, shapeCast S256x1024 (concatenate S256x8x128 2 [⟨S256x8x32, Host.negf (extractStridedSlice S256x8x32 ![0, 0, 32] (qRope w) slices_S256x8x64_S256x8x32_0_0_32)⟩,
      ⟨S256x8x32, extractStridedSlice S256x8x32 ![0, 0, 0] (qRope w) slices_S256x8x64_S256x8x32_0_0_0⟩,
      ⟨S256x8x64, broadcastInDim S256x8x64 ![] bcast_S_S256x8x64 (constant S_ .f32 0x00000000#32)⟩] concatenates_S256x8x32_S256x8x32_S256x8x64_S256x8x128_d2) shapeCasts_S256x8x128_S256x1024⟩]
    concatenates_S256x1024_S256x1024_S256x1024_S256x3072_d1) bitsLt_bf16_f32

/-- The keys' and values' weights as the host code lays them out. -/
def hostKv (w : FVec Ideal S256x2048 .f32) : FVec Ideal S256x2048 .bf16 :=
  truncf .bf16 (concatenate S256x2048 1 [⟨S256x1024, shapeCast S256x1024 (extractStridedSlice S256x8x128 ![0, 0, 0] (shapeCast S256x8x256 w shapeCasts_S256x2048_S256x8x256) slices_S256x8x256_S256x8x128_0_0_0) shapeCasts_S256x8x128_S256x1024⟩,
    ⟨S256x1024, shapeCast S256x1024 (extractStridedSlice S256x8x128 ![0, 0, 128] (shapeCast S256x8x256 w shapeCasts_S256x2048_S256x8x256) slices_S256x8x256_S256x8x128_0_0_128) shapeCasts_S256x8x128_S256x1024⟩]
    concatenates_S256x1024_S256x1024_S256x2048_d1) bitsLt_bf16_f32

/-- The inverse frequencies. -/
def hostFreq : FVec Ideal S32 .f32 :=
  Host.powf (broadcastInDim S32 ![] bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![] bcast_S_S32 (constant S_ .f32 0x42800000#32)))

/-- The concatenation of the two halves and the zeros. -/
theorem slot_ladder (t : Fin 64 → EReal) (l : Fin 128) :
    (if h : l.val < 32 then t ⟨l.val, by omega⟩ else if h' : l.val - 32 < 32 then t ⟨32 + (l.val - 32), by omega⟩ else 0) = slotLane t l := by
  unfold slotLane
  by_cases h1 : l.val < 32
  · rw [dif_pos h1, dif_pos (show l.val < 64 by omega)]
  · rw [dif_neg h1]
    by_cases h2 : l.val < 64
    · rw [dif_pos (show l.val - 32 < 32 by omega), dif_pos h2]
      exact congrArg t (Fin.ext (show 32 + (l.val - 32) = l.val by omega))
    · rw [dif_neg (show ¬l.val - 32 < 32 by omega), dif_neg h2]

/-- The concatenation of the negated second half, the first half and the zeros. -/
theorem rot_ladder (t : Fin 64 → EReal) (l : Fin 128) :
    (if h : l.val < 32 then -(t ⟨32 + l.val, by omega⟩) else if h' : l.val - 32 < 32 then t ⟨l.val - 32, by omega⟩ else 0) = rotLane t l := by
  unfold rotLane
  by_cases h1 : l.val < 32
  · rw [dif_pos h1, dif_pos h1]
  · rw [dif_neg h1, dif_neg h1]
    by_cases h2 : l.val < 64
    · rw [dif_pos (show l.val - 32 < 32 by omega), dif_pos h2]
    · rw [dif_neg (show ¬l.val - 32 < 32 by omega), dif_neg h2]

theorem hostDown_plain (w : FVec Ideal S1024x576 .f32) (k : Fin 1024) (n : Fin 512) : hostDown w (ix2 k ⟨n.val, by omega⟩) = w (ix2 k ⟨n.val, by omega⟩) := by
  unfold hostDown
  pointwise

theorem hostDown_slot (w : FVec Ideal S1024x576 .f32) (k : Fin 1024) (l : Fin 128) :
    hostDown w (ix2 k ⟨512 + l.val, by omega⟩) = slotLane (fun j => w (ix2 k ⟨512 + j.val, by omega⟩)) l := by
  unfold hostDown downRope
  rw [← slot_ladder]
  pointwise

theorem hostDown_rot (w : FVec Ideal S1024x576 .f32) (k : Fin 1024) (l : Fin 128) :
    hostDown w (ix2 k ⟨640 + l.val, by omega⟩) = rotLane (fun j => w (ix2 k ⟨512 + j.val, by omega⟩)) l := by
  have a : 640 + l.val - 512 - 128 = l.val := by omega
  have n : ¬640 + l.val < 512 := by omega
  have n' : ¬640 + l.val - 512 < 128 := by omega
  unfold hostDown downRope
  rw [← rot_ladder]
  pointwise
  simp only [a, dif_neg n, dif_neg n']

theorem hostQ_plain (w : FVec Ideal S256x1536 .f32) (k : Fin 256) (h : Fin 8) (l : Fin 128) :
    hostQ w (ix2 k ⟨128 * h.val + l.val, by omega⟩) = w (ix2 k ⟨h.val * 192 + l.val, by omega⟩) := by
  have n : 128 * h.val + l.val < 1024 := by omega
  unfold hostQ qHeads
  pointwise
  rw [dif_pos n]

theorem hostQ_slot (w : FVec Ideal S256x1536 .f32) (k : Fin 256) (h : Fin 8) (l : Fin 128) :
    hostQ w (ix2 k ⟨1024 + 128 * h.val + l.val, by omega⟩) = slotLane (fun j => w (ix2 k ⟨h.val * 192 + (128 + j.val), by omega⟩)) l := by
  have n : ¬1024 + 128 * h.val + l.val < 1024 := by omega
  have a : 1024 + 128 * h.val + l.val - 1024 = 128 * h.val + l.val := by omega
  have n' : 128 * h.val + l.val < 1024 := by omega
  have a1 : (128 * h.val + l.val) / 128 = h.val := by omega
  have a2 : (128 * h.val + l.val) % 128 = l.val := by omega
  unfold hostQ qRope qHeads
  rw [← slot_ladder]
  pointwise
  simp only [a, dif_neg n, dif_pos n', a1, a2]

theorem hostQ_rot (w : FVec Ideal S256x1536 .f32) (k : Fin 256) (h : Fin 8) (l : Fin 128) :
    hostQ w (ix2 k ⟨2048 + 128 * h.val + l.val, by omega⟩) = rotLane (fun j => w (ix2 k ⟨h.val * 192 + (128 + j.val), by omega⟩)) l := by
  have n : ¬2048 + 128 * h.val + l.val < 1024 := by omega
  have n' : ¬2048 + 128 * h.val + l.val - 1024 < 1024 := by omega
  have a : 2048 + 128 * h.val + l.val - 1024 - 1024 = 128 * h.val + l.val := by omega
  have a1 : (128 * h.val + l.val) / 128 = h.val := by omega
  have a2 : (128 * h.val + l.val) % 128 = l.val := by omega
  unfold hostQ qRope qHeads
  rw [← rot_ladder]
  pointwise
  simp only [dif_neg n, dif_neg n', a, a1, a2]

theorem hostKv_apply (w : FVec Ideal S256x2048 .f32) (k : Fin 256) (b : Fin 2) (h : Fin 8) (l : Fin 128) :
    hostKv w (ix2 k ⟨1024 * b.val + 128 * h.val + l.val, by omega⟩) = w (ix2 k ⟨h.val * 256 + (128 * b.val + l.val), by omega⟩) := by
  unfold hostKv
  fin_cases b
  · have n : 128 * h.val + l.val < 1024 := by omega
    pointwise
    rw [dif_pos n]
  · have n : ¬1024 + 128 * h.val + l.val < 1024 := by omega
    have a : 1024 + 128 * h.val + l.val - 1024 = 128 * h.val + l.val := by omega
    have a1 : (128 * h.val + l.val) / 128 = h.val := by omega
    have a2 : (128 * h.val + l.val) % 128 = l.val := by omega
    pointwise
    simp only [dif_neg n, a, a1, a2]

end host

/-- The tile a step prepares for the next step. -/
def ahead (t : ℕ) : ℕ := min (t + 1) 127

theorem ahead_lt (t : ℕ) : ahead t < 128 := by unfold ahead; omega

/-- The row of the whole arrays that row `r` of tile `T` is. -/
def rowAt (T : ℕ) (h : T < 128) (r : Fin 512) : Fin 65536 := ⟨512 * T + r.val, by omega⟩

/-- The tiles a step reads, and those it writes. -/
theorem tilePlaces : ∀ t : Fin cfg0.N,
    win0_0.index t = ![0, 0] ∧ win0_1.index t = ![0, 0] ∧ win0_2.index t = ![ahead t.val, 0] ∧ win0_3.index t = ![0, ahead t.val]
    ∧ win0_10.index t = ![0, t.val, 0] ∧ win0_11.index t = ![0, t.val, 0] ∧ win0_12.index t = ![t.val, 0] ∧ win0_13.index t = ![0, t.val, 0] :=
  (by decide +kernel : ∀ t : Fin grid0.N, _)

/-- The weights are whole. -/
theorem weightPlaces : ∀ t : Fin cfg0.N,
    win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

variable (m : (ℓ : Loc nD τ sig) → Buf (Elt Ideal) ℓ) (c : Dev nD) (t : Fin cfg0.N)

theorem first_input (r : Fin 512) (l : Fin 1024) :
    (iblk m c 0 t : Vec Ideal S512x1024 .f32) (ix2 r l) = (m ((c.tc : Thread nD τ).loc main_arg0) : FVec Ideal S65536x1024 .f32) (ix2 (rowAt 0 (by decide) r) l) := by
  have e := (tilePlaces t).1
  unfold rowAt
  blk_ext [iblk, V, e]

theorem first_pos (r : Fin 512) :
    (iblk m c 1 t : Vec Ideal S1x512 .f32) (ix2 0 r) = (m ((c.tc : Thread nD τ).loc main_arg1) : FVec Ideal S1x65536 .f32) (ix2 0 (rowAt 0 (by decide) r)) := by
  have e := (tilePlaces t).2.1
  unfold rowAt
  blk_ext [iblk, V, e]

theorem next_input (r : Fin 512) (l : Fin 1024) :
    (iblk m c 2 t : Vec Ideal S512x1024 .f32) (ix2 r l) = (m ((c.tc : Thread nD τ).loc main_arg0) : FVec Ideal S65536x1024 .f32) (ix2 (rowAt (ahead t.val) (ahead_lt _) r) l) := by
  have e := (tilePlaces t).2.2.1
  unfold rowAt
  blk_ext [iblk, V, e]

theorem next_pos (r : Fin 512) :
    (iblk m c 3 t : Vec Ideal S1x512 .f32) (ix2 0 r) = (m ((c.tc : Thread nD τ).loc main_arg1) : FVec Ideal S1x65536 .f32) (ix2 0 (rowAt (ahead t.val) (ahead_lt _) r)) := by
  have e := (tilePlaces t).2.2.2.1
  unfold rowAt
  blk_ext [iblk, V, e]

theorem freq4 (i : Fin 32) : (iblk m c 4 t : Vec Ideal S32x1 .f32) (ix2 i 0) = hostFreq (ix1 i) := by
  have e := (weightPlaces t).1
  blk_simp [iblk, e]
  entry_read
  show broadcastInDim S32x1 ![0] bcast_S32_S32x1_0 hostFreq _ = _
  generalize hostFreq = f
  pointwise
  blk_ext [e]

theorem weight5 (k : Fin 1024) (n : Fin 768) :
    (iblk m c 5 t : Vec Ideal S1024x768 .bf16) (ix2 k n) = hostDown (m ((c.tc : Thread nD τ).loc main_arg2)) (ix2 k n) := by
  have e := (weightPlaces t).2.1
  unfold hostDown downRope
  blk_point [iblk, V, e]

theorem weight6 (k : Fin 256) : (iblk m c 6 t : Vec Ideal S1x256 .f32) (ix2 0 k) = (m ((c.tc : Thread nD τ).loc main_arg3) : FVec Ideal S256 .f32) (ix1 k) := by
  have e := (weightPlaces t).2.2.1
  blk_point [iblk, V, e]

theorem weight7 (k : Fin 256) : (iblk m c 7 t : Vec Ideal S1x256 .f32) (ix2 0 k) = (m ((c.tc : Thread nD τ).loc main_arg4) : FVec Ideal S256 .f32) (ix1 k) := by
  have e := (weightPlaces t).2.2.2.1
  blk_point [iblk, V, e]

theorem weight9 (k : Fin 256) (n : Fin 2048) :
    (iblk m c 9 t : Vec Ideal S256x2048 .bf16) (ix2 k n) = hostKv (m ((c.tc : Thread nD τ).loc main_arg6)) (ix2 k n) := by
  have e := (weightPlaces t).2.2.2.2.2
  unfold hostKv
  blk_point [iblk, V, e]

end Cert.Rope

end
-- ==== Proof.RopeWeight.lean ====
/-
  THE QUERIES' WEIGHTS IN THE HOST CODE: the array the kernel reads is `hostQ` of the weights. The host operations are read in
  four stretches, each over any contents before it.
-/
module

public import proofs.«01_k».proof.Proof.RopeBlocks

@[expose] public section

set_option maxRecDepth 65536

noncomputable section

namespace Cert.Rope

open Idealize.ShloMosaic Idealize.ShloMosaic.TcCoe Idealize.SL.Sem
open Cert.Kernel4Ideal Cert.Kernel4Ideal.Facts Cert.Kernel4Ideal.Gen

section stretches

variable (σ : Valuation τ sig (Elt Ideal))

/-- The operations before the queries' weights, those up to the two rotary halves, those up to the three parts, and the rest. -/
def ops1 : List (HloOp τ sig (Elt Ideal)) := (hostOps0 (F := Ideal)).take 11
def ops2 : List (HloOp τ sig (Elt Ideal)) := ((hostOps0 (F := Ideal)).drop 11).take 7
def ops3 : List (HloOp τ sig (Elt Ideal)) := ((hostOps0 (F := Ideal)).drop 18).take 6
def ops4 : List (HloOp τ sig (Elt Ideal)) := (hostOps0 (F := Ideal)).drop 24

theorem ops_split : hostOps0 (F := Ideal) = ops1 ++ (ops2 ++ (ops3 ++ ops4)) := rfl

theorem after_split : StableHlo.after (hostOps0 (F := Ideal)) σ = StableHlo.after ops4 (StableHlo.after ops3 (StableHlo.after ops2 (StableHlo.after ops1 σ))) := by
  rw [ops_split, StableHlo.after_append, StableHlo.after_append, StableHlo.after_append]

theorem read1 : StableHlo.after ops1 σ (main_arg5 : Ref sig .tc) = σ (main_arg5 : Ref sig .tc) := by
  simp only [ops1, hostOps0, List.take]
  after_results_simp

theorem read2_v10 : (StableHlo.after ops2 σ (main_v10 : Ref sig .tc) : FVec Ideal S256x8x192 .f32) = qHeads (σ (main_arg5 : Ref sig .tc)) := by
  simp only [ops2, hostOps0, List.take, List.drop]
  after_results_simp
  rfl

theorem read2_v12 : (StableHlo.after ops2 σ (main_v12 : Ref sig .tc) : FVec Ideal S256x8x32 .f32)
    = extractStridedSlice S256x8x32 ![0, 0, 0] (qRope (σ (main_arg5 : Ref sig .tc))) slices_S256x8x64_S256x8x32_0_0_0 := by
  simp only [ops2, hostOps0, List.take, List.drop]
  after_results_simp
  rfl

theorem read2_v13 : (StableHlo.after ops2 σ (main_v13 : Ref sig .tc) : FVec Ideal S256x8x32 .f32)
    = extractStridedSlice S256x8x32 ![0, 0, 32] (qRope (σ (main_arg5 : Ref sig .tc))) slices_S256x8x64_S256x8x32_0_0_32 := by
  simp only [ops2, hostOps0, List.take, List.drop]
  after_results_simp
  rfl

theorem read2_v14 : (StableHlo.after ops2 σ (main_v14 : Ref sig .tc) : FVec Ideal S256x8x64 .f32)
    = (broadcastInDim S256x8x64 ![] bcast_S_S256x8x64 (constant S_ .f32 0x00000000#32) : FVec Ideal S256x8x64 .f32) := by
  simp only [ops2, hostOps0, List.take, List.drop]
  after_results_simp

/-- The queries' two rotary parts, of a head's two halves and the zeros. -/
def slotPart (a b : FVec Ideal S256x8x32 .f32) (z : FVec Ideal S256x8x64 .f32) : FVec Ideal S256x8x128 .f32 :=
  concatenate S256x8x128 2 [⟨S256x8x32, a⟩, ⟨S256x8x32, b⟩, ⟨S256x8x64, z⟩] concatenates_S256x8x32_S256x8x32_S256x8x64_S256x8x128_d2

/-- The three parts side by side. -/
def threeParts (a b d : FVec Ideal S256x1024 .f32) : FVec Ideal S256x3072 .bf16 :=
  truncf .bf16 (concatenate S256x3072 1 [⟨S256x1024, a⟩, ⟨S256x1024, b⟩, ⟨S256x1024, d⟩] concatenates_S256x1024_S256x1024_S256x1024_S256x3072_d1) bitsLt_bf16_f32

theorem read2_v15 : (StableHlo.after ops2 σ (main_v15 : Ref sig .tc) : FVec Ideal S256x8x128 .f32)
    = slotPart (extractStridedSlice S256x8x32 ![0, 0, 0] (qRope (σ (main_arg5 : Ref sig .tc))) slices_S256x8x64_S256x8x32_0_0_0)
        (extractStridedSlice S256x8x32 ![0, 0, 32] (qRope (σ (main_arg5 : Ref sig .tc))) slices_S256x8x64_S256x8x32_0_0_32)
        (broadcastInDim S256x8x64 ![] bcast_S_S256x8x64 (constant S_ .f32 0x00000000#32)) := by
  simp only [ops2, hostOps0, List.take, List.drop]
  after_results_simp
  rfl

theorem read3_v19 : (StableHlo.after ops3 σ (main_v19 : Ref sig .tc) : FVec Ideal S256x1024 .f32)
    = shapeCast S256x1024 (extractStridedSlice S256x8x128 ![0, 0, 0] (σ (main_v10 : Ref sig .tc) : FVec Ideal S256x8x192 .f32) slices_S256x8x192_S256x8x128_0_0_0) shapeCasts_S256x8x128_S256x1024 := by
  simp only [ops3, hostOps0, List.take, List.drop]
  after_results_simp
  rfl

theorem read3_v20 : (StableHlo.after ops3 σ (main_v20 : Ref sig .tc) : FVec Ideal S256x1024 .f32)
    = shapeCast S256x1024 (σ (main_v15 : Ref sig .tc) : FVec Ideal S256x8x128 .f32) shapeCasts_S256x8x128_S256x1024 := by
  simp only [ops3, hostOps0, List.take, List.drop]
  after_results_simp
  rfl

theorem read3_v21 : (StableHlo.after ops3 σ (main_v21 : Ref sig .tc) : FVec Ideal S256x1024 .f32)
    = shapeCast S256x1024 (slotPart (Host.negf (σ (main_v13 : Ref sig .tc) : FVec Ideal S256x8x32 .f32)) (σ (main_v12 : Ref sig .tc)) (σ (main_v14 : Ref sig .tc))) shapeCasts_S256x8x128_S256x1024 := by
  simp only [ops3, hostOps0, List.take, List.drop]
  after_results_simp
  rfl

theorem read4 : (StableHlo.after ops4 σ (main_v23 : Ref sig .tc) : FVec Ideal S256x3072 .bf16)
    = threeParts (σ (main_v19 : Ref sig .tc)) (σ (main_v20 : Ref sig .tc)) (σ (main_v21 : Ref sig .tc)) := by
  simp only [ops4, hostOps0, List.drop]
  after_results_simp
  rfl

theorem host_entry : (StableHlo.after (hostOps0 (F := Ideal)) σ (main_v23 : Ref sig .tc) : FVec Ideal S256x3072 .bf16) = hostQ (σ (main_arg5 : Ref sig .tc)) := by
  rw [after_split, read4, read3_v19, read3_v20, read3_v21, read2_v10, read2_v12, read2_v13, read2_v14, read2_v15, read1]
  rfl

end stretches

variable (m : (ℓ : Loc nD τ sig) → Buf (Elt Ideal) ℓ) (c : Dev nD) (t : Fin cfg0.N)

theorem weight8 (k : Fin 256) (n : Fin 3072) :
    (iblk m c 8 t : Vec Ideal S256x3072 .bf16) (ix2 k n) = hostQ (m ((c.tc : Thread nD τ).loc main_arg5)) (ix2 k n) := by
  have e := (weightPlaces t).2.2.2.2.1
  blk_simp [iblk, e]
  refine (congrFun (host_entry fun b => m (c, b)) _).trans ?_
  refine congrArg (hostQ _) ?_
  blk_ext [e]

end Cert.Rope

end
-- ==== Proof.RopeReference.lean ====
/-
  WHAT THE PROJECTIONS' REFERENCE COMPUTES, read at a head, a token and a column: the projection of a token's normalised row
  (`rmsRow`), and the rotation of its rotary columns (`ropeRow`) by the token's angles.
-/
module

public import proofs.«01_k».proof.Proof.RopeRow
public import proofs.«01_k».proof.Proof.Gen.Reference4Ideal.Run
public import Idealize.ShloMosaic.Lib.Pointwise
public import Idealize.ShloMosaic.Lib.Pointwise.IndexVar
public import Idealize.ShloMosaic.Lib.KernelVsHost
public import Idealize.ShloMosaic.Lib.IdealHost
public import Idealize.ShloMosaic.Lib.Tactic.CleanTypes

@[expose] public section

set_option maxRecDepth 16384

noncomputable section

namespace Cert.RopeRef

open Idealize.ShloMosaic Idealize.ShloMosaic.TcCoe Idealize.SL.Sem
open Cert.Reference4Ideal Cert.Reference4Ideal.Gen Cert.Rope
open scoped BigOperators

/-- The first projection. -/
def refDown (x : FVec Ideal S65536x1024 .f32) (w : FVec Ideal S1024x576 .f32) : FVec Ideal S65536x576 .f32 :=
  Host.dotGeneral dot_S65536x1024_S1024x576_S65536x576_1_0_0_1_n_n none x w

/-- The root mean square normalisation. -/
def refRms (z : FVec Ideal S65536x256 .f32) (g : FVec Ideal S256 .f32) : FVec Ideal S65536x256 .f32 :=
  mulf (mulf z (broadcastInDim S65536x256 ![0, 1] bcast_S65536x1_S65536x256_0_1 (Host.rsqrt (addf (Host.divf
      (broadcastInDim S65536x1 ![0] bcast_S65536_S65536x1_0 (Host.reduceAdd (mulf z z) (constant S_ .f32 0x00000000#32) reducesTo_S65536x256_S65536_d1 h_S_))
      (broadcastInDim S65536x1 ![] bcast_S_S65536x1 (constant S_ .f32 0x43800000#32))) (broadcastInDim S65536x1 ![] bcast_S_S65536x1 (constant S_ .f32 0x358637BD#32))))))
    (broadcastInDim S65536x256 ![0, 1] bcast_S1x256_S65536x256_0_1 (broadcastInDim S1x256 ![1] bcast_S256_S1x256_1 g))

/-- The inverse frequencies. -/
def refFreq : FVec Ideal S32 .f32 :=
  Host.powf (broadcastInDim S32 ![] bcast_S_S32 (constant S_ .f32 0x461C4000#32)) (Host.divf (Host.negf (addf (broadcastInDim S32 ![] bcast_S_S32 (constant S_ .f32 0x00000000#32))
    (mulf (broadcastInDim S32 ![] bcast_S_S32 (constant S_ .f32 0x40000000#32)) (sitofp .f32 (iotaInDim S32 32 0))))) (broadcastInDim S32 ![] bcast_S_S32 (constant S_ .f32 0x42800000#32)))

/-- The angles, for any frequencies. -/
def refAngle (p : FVec Ideal S1x65536 .f32) (f : FVec Ideal S32 .f32) : FVec Ideal S65536x32 .f32 :=
  mulf (broadcastInDim S65536x32 ![0, 1] bcast_S65536x1_S65536x32_0_1 (broadcastInDim S65536x1 ![0] bcast_S65536_S65536x1_0 (shapeCast _ p shapeCasts_S1x65536_S65536)))
    (broadcastInDim S65536x32 ![0, 1] bcast_S1x32_S65536x32_0_1 (broadcastInDim S1x32 ![1] bcast_S32_S1x32_1 f))

/-- The rotation of the keys. -/
def refRope (z : FVec Ideal S65536x64 .f32) (c s : FVec Ideal S65536x32 .f32) : FVec Ideal S65536x64 .f32 :=
  concatenate S65536x64 1
    [⟨S65536x32, (subf (mulf (extractStridedSlice S65536x32 ![0, 0] z slices_S65536x64_S65536x32_0_0) c) (mulf (extractStridedSlice S65536x32 ![0, 32] z slices_S65536x64_S65536x32_0_32) s) : FVec Ideal S65536x32 .f32)⟩,
     ⟨S65536x32, (addf (mulf (extractStridedSlice S65536x32 ![0, 32] z slices_S65536x64_S65536x32_0_32) c) (mulf (extractStridedSlice S65536x32 ![0, 0] z slices_S65536x64_S65536x32_0_0) s) : FVec Ideal S65536x32 .f32)⟩]
    concatenates_S65536x32_S65536x32_S65536x64_d1

/-- A table for every head. -/
def refAll (c : FVec Ideal S65536x32 .f32) : FVec Ideal S65536x8x32 .f32 :=
  broadcastInDim S65536x8x32 ![0, 1, 2] bcast_S65536x1x32_S65536x8x32_0_1_2 (broadcastInDim S65536x1x32 ![0, 2] bcast_S65536x32_S65536x1x32_0_2 c)

/-- The rotation of the queries. -/
def refRopeHeads (z : FVec Ideal S65536x8x64 .f32) (c s : FVec Ideal S65536x8x32 .f32) : FVec Ideal S65536x8x64 .f32 :=
  concatenate S65536x8x64 2
    [⟨S65536x8x32, (subf (mulf (extractStridedSlice S65536x8x32 ![0, 0, 0] z slices_S65536x8x64_S65536x8x32_0_0_0) c) (mulf (extractStridedSlice S65536x8x32 ![0, 0, 32] z slices_S65536x8x64_S65536x8x32_0_0_32) s) : FVec Ideal S65536x8x32 .f32)⟩,
     ⟨S65536x8x32, (addf (mulf (extractStridedSlice S65536x8x32 ![0, 0, 32] z slices_S65536x8x64_S65536x8x32_0_0_32) c) (mulf (extractStridedSlice S65536x8x32 ![0, 0, 0] z slices_S65536x8x64_S65536x8x32_0_0_0) s) : FVec Ideal S65536x8x32 .f32)⟩]
    concatenates_S65536x8x32_S65536x8x32_S65536x8x64_d2

/-- The queries' heads. -/
def refQ (a : FVec Ideal S65536x256 .f32) (w : FVec Ideal S256x1536 .f32) : FVec Ideal S65536x8x192 .f32 :=
  shapeCast _ (Host.dotGeneral dot_S65536x256_S256x1536_S65536x1536_1_0_0_1_n_n none a w) shapeCasts_S65536x1536_S65536x8x192

/-- The keys' and values' heads. -/
def refKv (a : FVec Ideal S65536x256 .f32) (w : FVec Ideal S256x2048 .f32) : FVec Ideal S65536x8x256 .f32 :=
  shapeCast _ (Host.dotGeneral dot_S65536x256_S256x2048_S65536x2048_1_0_0_1_n_n none a w) shapeCasts_S65536x2048_S65536x8x256

/-- A head's columns of the queries: the plain ones, the rotated ones, zeros. -/
def refQuery (z : FVec Ideal S65536x8x192 .f32) (c s : FVec Ideal S65536x32 .f32) : FVec Ideal S8x65536x256 .bf16 :=
  truncf .bf16 (transpose S8x65536x256 [1, 0, 2] (mulf (concatenate S65536x8x256 2
    [⟨S65536x8x128, extractStridedSlice S65536x8x128 ![0, 0, 0] z slices_S65536x8x192_S65536x8x128_0_0_0⟩,
     ⟨S65536x8x128, concatenate S65536x8x128 2 [⟨S65536x8x64, refRopeHeads (extractStridedSlice S65536x8x64 ![0, 0, 128] z slices_S65536x8x192_S65536x8x64_0_0_128) (refAll c) (refAll s)⟩,
       ⟨S65536x8x64, broadcastInDim S65536x8x64 ![] bcast_S_S65536x8x64 (constant S_ .f32 0x00000000#32)⟩] concatenates_S65536x8x64_S65536x8x64_S65536x8x128_d2⟩]
    concatenates_S65536x8x128_S65536x8x128_S65536x8x256_d2) (broadcastInDim S65536x8x256 ![] bcast_S_S65536x8x256 (constant S_ .f32 0x3DD53B95#32)))
    transposes_S65536x8x256_S8x65536x256_1_0_2) bitsLt_bf16_f32

/-- The keys, and the values. -/
def refKey (z : FVec Ideal S65536x8x256 .f32) : FVec Ideal S8x65536x128 .bf16 :=
  truncf .bf16 (transpose S8x65536x128 [1, 0, 2] (extractStridedSlice S65536x8x128 ![0, 0, 0] z slices_S65536x8x256_S65536x8x128_0_0_0) transposes_S65536x8x128_S8x65536x128_1_0_2) bitsLt_bf16_f32
def refValue (z : FVec Ideal S65536x8x256 .f32) : FVec Ideal S8x65536x128 .bf16 :=
  truncf .bf16 (transpose S8x65536x128 [1, 0, 2] (extractStridedSlice S65536x8x128 ![0, 0, 128] z slices_S65536x8x256_S65536x8x128_0_0_128) transposes_S65536x8x128_S8x65536x128_1_0_2) bitsLt_bf16_f32

/-- The rotary keys. -/
def refKr (z : FVec Ideal S65536x64 .f32) (c s : FVec Ideal S65536x32 .f32) : FVec Ideal S65536x128 .bf16 :=
  truncf .bf16 (concatenate S65536x128 1 [⟨S65536x64, refRope z c s⟩, ⟨S65536x64, broadcastInDim S65536x64 ![] bcast_S_S65536x64 (constant S_ .f32 0x00000000#32)⟩]
    concatenates_S65536x64_S65536x64_S65536x128_d1) bitsLt_bf16_f32

/-- The tables. -/
def refCos (p : FVec Ideal S1x65536 .f32) (f : FVec Ideal S32 .f32) : FVec Ideal S65536x32 .f32 := Host.cos (refAngle p f)
def refSin (p : FVec Ideal S1x65536 .f32) (f : FVec Ideal S32 .f32) : FVec Ideal S65536x32 .f32 := Host.sin (refAngle p f)

theorem refDown_apply (x : FVec Ideal S65536x1024 .f32) (w : FVec Ideal S1024x576 .f32) (t : Fin 65536) (n : Fin 576) :
    refDown x w (ix2 t n) = ∑ k : Fin 1024, x (ix2 t k) * w (ix2 k n) := by
  unfold refDown
  pointwise

theorem refRms_apply (z : FVec Ideal S65536x256 .f32) (g : FVec Ideal S256 .f32) (t : Fin 65536) (j : Fin 256) :
    refRms z g (ix2 t j) = rmsRow (fun k => z (ix2 t k)) (fun k => g (ix1 k)) j := by
  unfold refRms rmsRow
  pointwise

theorem refCos_apply (p : FVec Ideal S1x65536 .f32) (f : FVec Ideal S32 .f32) (t : Fin 65536) (i : Fin 32) :
    refCos p f (ix2 t i) = Ideal.cos (f (ix1 i) * p (ix2 0 t)) := by
  rw [mul_comm]
  unfold refCos refAngle
  pointwise

theorem refSin_apply (p : FVec Ideal S1x65536 .f32) (f : FVec Ideal S32 .f32) (t : Fin 65536) (i : Fin 32) :
    refSin p f (ix2 t i) = Ideal.sin (f (ix1 i) * p (ix2 0 t)) := by
  rw [mul_comm]
  unfold refSin refAngle
  pointwise

theorem refQ_apply (a : FVec Ideal S65536x256 .f32) (w : FVec Ideal S256x1536 .f32) (t : Fin 65536) (h : Fin 8) (n : Fin 192) :
    refQ a w (ix3 t h n) = ∑ k : Fin 256, a (ix2 t k) * w (ix2 k ⟨h.val * 192 + n.val, by omega⟩) := by
  unfold refQ
  pointwise

theorem refKv_apply (a : FVec Ideal S65536x256 .f32) (w : FVec Ideal S256x2048 .f32) (t : Fin 65536) (h : Fin 8) (n : Fin 256) :
    refKv a w (ix3 t h n) = ∑ k : Fin 256, a (ix2 t k) * w (ix2 k ⟨h.val * 256 + n.val, by omega⟩) := by
  unfold refKv
  pointwise

theorem refKey_apply (z : FVec Ideal S65536x8x256 .f32) (h : Fin 8) (t : Fin 65536) (l : Fin 128) :
    refKey z (ix3 h t l) = z (ix3 t h ⟨l.val, by omega⟩) := by
  unfold refKey
  pointwise

theorem refValue_apply (z : FVec Ideal S65536x8x256 .f32) (h : Fin 8) (t : Fin 65536) (l : Fin 128) :
    refValue z (ix3 h t l) = z (ix3 t h ⟨128 + l.val, by omega⟩) := by
  unfold refValue
  pointwise

/-- The concatenation of the rotated halves and the zeros. -/
theorem rope_ladder (t : Fin 64 → EReal) (c s : Fin 32 → EReal) (l : Fin 128) :
    (if h : l.val < 64 then
      if h' : l.val < 32 then t ⟨l.val, by omega⟩ * c ⟨l.val, h'⟩ - t ⟨32 + l.val, by omega⟩ * s ⟨l.val, h'⟩
      else t ⟨32 + (l.val - 32), by omega⟩ * c ⟨l.val - 32, by omega⟩ + t ⟨l.val - 32, by omega⟩ * s ⟨l.val - 32, by omega⟩
    else 0) = ropeRow t c s l := by
  unfold ropeRow
  by_cases h1 : l.val < 32
  · rw [dif_pos (show l.val < 64 by omega), dif_pos h1, dif_pos h1]
  · by_cases h2 : l.val < 64
    · have e : (⟨32 + (l.val - 32), by omega⟩ : Fin 64) = ⟨l.val, h2⟩ := Fin.ext (show 32 + (l.val - 32) = l.val by omega)
      rw [dif_pos h2, dif_neg h1, dif_neg h1, dif_pos h2, e]
    · rw [dif_neg h2, dif_neg h1, dif_neg h2]

theorem refKr_apply (z : FVec Ideal S65536x64 .f32) (c s : FVec Ideal S65536x32 .f32) (t : Fin 65536) (l : Fin 128) :
    refKr z c s (ix2 t l) = ropeRow (fun j => z (ix2 t j)) (fun i => c (ix2 t i)) (fun i => s (ix2 t i)) l := by
  rw [← rope_ladder]
  unfold refKr refRope
  pointwise

theorem refQuery_plain (z : FVec Ideal S65536x8x192 .f32) (c s : FVec Ideal S65536x32 .f32) (h : Fin 8) (t : Fin 65536) (l : Fin 128) :
    refQuery z c s (ix3 h t ⟨l.val, by omega⟩) = z (ix3 t h ⟨l.val, by omega⟩) * scaleW := by
  unfold refQuery refRopeHeads refAll
  pointwise

theorem refQuery_rope (z : FVec Ideal S65536x8x192 .f32) (c s : FVec Ideal S65536x32 .f32) (h : Fin 8) (t : Fin 65536) (l : Fin 128) :
    refQuery z c s (ix3 h t ⟨128 + l.val, by omega⟩) = ropeRow (fun j => z (ix3 t h ⟨128 + j.val, by omega⟩)) (fun i => c (ix2 t i)) (fun i => s (ix2 t i)) l * scaleW := by
  rw [← rope_ladder]
  unfold refQuery refRopeHeads refAll
  pointwise

section Results

variable (x : FVec Ideal S65536x1024 .f32) (p : FVec Ideal S1x65536 .f32) (w : FVec Ideal S1024x576 .f32) (gq gkv : FVec Ideal S256 .f32)
  (wq : FVec Ideal S256x1536 .f32) (wkv : FVec Ideal S256x2048 .f32)

/-- The queries' normalised rows, and those of the keys and values. -/
def normQ : FVec Ideal S65536x256 .f32 := refRms (extractStridedSlice S65536x256 ![0, 0] (refDown x w) slices_S65536x576_S65536x256_0_0) gq
def normKv : FVec Ideal S65536x256 .f32 := refRms (extractStridedSlice S65536x256 ![0, 256] (refDown x w) slices_S65536x576_S65536x256_0_256) gkv

/-- The four results. -/
def query : FVec Ideal S8x65536x256 .bf16 := refQuery (refQ (normQ x w gq) wq) (refCos p refFreq) (refSin p refFreq)
def key : FVec Ideal S8x65536x128 .bf16 := refKey (refKv (normKv x w gkv) wkv)
def rope : FVec Ideal S65536x128 .bf16 :=
  refKr (extractStridedSlice S65536x64 ![0, 512] (refDown x w) slices_S65536x576_S65536x64_0_512) (refCos p refFreq) (refSin p refFreq)
def value : FVec Ideal S8x65536x128 .bf16 := refValue (refKv (normKv x w gkv) wkv)

/-- The token's first projection. -/
def downOf (t : Fin 65536) (n : Fin 576) : EReal := ∑ k : Fin 1024, x (ix2 t k) * w (ix2 k n)

theorem normQ_apply (t : Fin 65536) (j : Fin 256) :
    normQ x w gq (ix2 t j) = rmsRow (fun k => downOf x w t ⟨k.val, by omega⟩) (fun k => gq (ix1 k)) j := by
  unfold normQ downOf
  rw [refRms_apply]
  simp only [← refDown_apply]
  generalize refDown x w = z
  congr 1
  funext k
  pointwise

theorem normKv_apply (t : Fin 65536) (j : Fin 256) :
    normKv x w gkv (ix2 t j) = rmsRow (fun k => downOf x w t ⟨256 + k.val, by omega⟩) (fun k => gkv (ix1 k)) j := by
  unfold normKv downOf
  rw [refRms_apply]
  simp only [← refDown_apply]
  generalize refDown x w = z
  congr 1
  funext k
  pointwise

variable (h : Fin 8) (t : Fin 65536) (l : Fin 128)

theorem query_plain : query x p w gq wq (ix3 h t ⟨128 * (0 : Fin 2).val + l.val, by omega⟩)
    = (∑ k : Fin 256, rmsRow (fun k => downOf x w t ⟨k.val, by omega⟩) (fun k => gq (ix1 k)) k * wq (ix2 k ⟨h.val * 192 + l.val, by omega⟩)) * scaleW := by
  have e : (⟨128 * (0 : Fin 2).val + l.val, by omega⟩ : Fin 256) = ⟨l.val, by omega⟩ := Fin.ext (by show 128 * 0 + l.val = l.val; omega)
  unfold query
  rw [e, refQuery_plain, refQ_apply]
  simp only [normQ_apply]

theorem query_rope : query x p w gq wq (ix3 h t ⟨128 * (1 : Fin 2).val + l.val, by omega⟩)
    = ropeRow (fun j => ∑ k : Fin 256, rmsRow (fun k => downOf x w t ⟨k.val, by omega⟩) (fun k => gq (ix1 k)) k * wq (ix2 k ⟨h.val * 192 + (128 + j.val), by omega⟩))
        (fun i => Ideal.cos (refFreq (ix1 i) * p (ix2 0 t))) (fun i => Ideal.sin (refFreq (ix1 i) * p (ix2 0 t))) l * scaleW := by
  have e : (⟨128 * (1 : Fin 2).val + l.val, by omega⟩ : Fin 256) = ⟨128 + l.val, by omega⟩ := Fin.ext (by show 128 * 1 + l.val = 128 + l.val; omega)
  unfold query
  rw [e, refQuery_rope]
  simp only [refQ_apply, normQ_apply, refCos_apply, refSin_apply]

theorem key_apply : key x w gkv wkv (ix3 h t l)
    = ∑ k : Fin 256, rmsRow (fun k => downOf x w t ⟨256 + k.val, by omega⟩) (fun k => gkv (ix1 k)) k * wkv (ix2 k ⟨h.val * 256 + l.val, by omega⟩) := by
  unfold key
  rw [refKey_apply, refKv_apply]
  simp only [normKv_apply]

theorem value_apply : value x w gkv wkv (ix3 h t l)
    = ∑ k : Fin 256, rmsRow (fun k => downOf x w t ⟨256 + k.val, by omega⟩) (fun k => gkv (ix1 k)) k * wkv (ix2 k ⟨h.val * 256 + (128 + l.val), by omega⟩) := by
  unfold value
  rw [refValue_apply, refKv_apply]
  simp only [normKv_apply]

theorem rope_apply : rope x p w (ix2 t l)
    = ropeRow (fun j => downOf x w t ⟨512 + j.val, by omega⟩) (fun i => Ideal.cos (refFreq (ix1 i) * p (ix2 0 t))) (fun i => Ideal.sin (refFreq (ix1 i) * p (ix2 0 t))) l := by
  unfold rope downOf
  rw [refKr_apply]
  simp only [refCos_apply, refSin_apply, ← refDown_apply]
  generalize refDown x w = z
  congr 1
  funext j
  pointwise

end Results

/-- The run's results are these. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v86) = query (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))
      ∧ r.2.mem ((c.tc : Thread nD τ).loc main_v88) = key (m ((c.tc : Thread nD τ).loc main_arg0)) (m ((c.tc : Thread nD τ).loc main_arg2)) (m ((c.tc : Thread nD τ).loc main_arg4)) (m ((c.tc : Thread nD τ).loc main_arg6))
      ∧ r.2.mem ((c.tc : Thread nD τ).loc main_v91) = rope (m ((c.tc : Thread nD τ).loc main_arg0)) (m ((c.tc : Thread nD τ).loc main_arg1)) (m ((c.tc : Thread nD τ).loc main_arg2))
      ∧ r.2.mem ((c.tc : Thread nD τ).loc main_v93) = value (m ((c.tc : Thread nD τ).loc main_arg0)) (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r hr c => ⟨(hr c).1.trans rfl, (hr c).2.1.trans rfl, (hr c).2.2.1.trans rfl, (hr c).2.2.2.1.trans rfl, (hr c).2.2.2.2⟩) (Value.run (F := Ideal) m ρ)

end Cert.RopeRef

end
-- ==== Proof.RopeTile.lean ====
/-
  A TILE OF THE PROJECTIONS. What a step computes of a row of its tile, in the reference's terms: the normalised rows
  (`rowsQ_tile`, `rowsKv_tile`), the tables (`tableC_tile`, `tableS_tile`), the rotary keys (`rowsKr_tile`), the queries
  (`queries_tile`) and the keys and values (`keys_tile`, `values_tile`). The rotary parts need real inputs and weights.
-/
module

public import proofs.«01_k».proof.Proof.RopeWeight
public import proofs.«01_k».proof.Proof.RopeReference

@[expose] public section

set_option maxRecDepth 65536

noncomputable section

namespace Cert.Rope

open Idealize.ShloMosaic Idealize.ShloMosaic.TcCoe Idealize.SL.Sem
open Cert.Kernel4Ideal Cert.Kernel4Ideal.Gen
open Cert.RopeRef (downOf refFreq)
open scoped BigOperators

variable (m : (ℓ : Loc nD τ sig) → Buf (Elt Ideal) ℓ) (c : Dev nD)

/-- The arguments: the input, the positions, the first projection, the two gains, the two second projections. -/
abbrev argX : FVec Ideal S65536x1024 .f32 := m ((c.tc : Thread nD τ).loc main_arg0)
abbrev argP : FVec Ideal S1x65536 .f32 := m ((c.tc : Thread nD τ).loc main_arg1)
abbrev argD : FVec Ideal S1024x576 .f32 := m ((c.tc : Thread nD τ).loc main_arg2)
abbrev argGq : FVec Ideal S256 .f32 := m ((c.tc : Thread nD τ).loc main_arg3)
abbrev argGkv : FVec Ideal S256 .f32 := m ((c.tc : Thread nD τ).loc main_arg4)
abbrev argQ : FVec Ideal S256x1536 .f32 := m ((c.tc : Thread nD τ).loc main_arg5)
abbrev argKv : FVec Ideal S256x2048 .f32 := m ((c.tc : Thread nD τ).loc main_arg6)

/-- A token's normalised row for the queries, and for the keys and values. -/
def qRow (T : Fin 65536) (j : Fin 256) : EReal := rmsRow (fun k => downOf (argX m c) (argD m c) T ⟨k.val, by omega⟩) (fun k => argGq m c (ix1 k)) j
def kvRow (T : Fin 65536) (j : Fin 256) : EReal := rmsRow (fun k => downOf (argX m c) (argD m c) T ⟨256 + k.val, by omega⟩) (fun k => argGkv m c (ix1 k)) j

/-- A token's cosines and sines. -/
def cosOf (T : Fin 65536) (i : Fin 32) : EReal := Ideal.cos (refFreq (ix1 i) * argP m c (ix2 0 T))
def sinOf (T : Fin 65536) (i : Fin 32) : EReal := Ideal.sin (refFreq (ix1 i) * argP m c (ix2 0 T))

/-- The inputs and weights that must be real. -/
structure RealArgs : Prop where
  x : ∀ T k, IsReal (argX m c (ix2 T k))
  d : ∀ k n, IsReal (argD m c (ix2 k n))
  g : ∀ k, IsReal (argGq m c (ix1 k))
  q : ∀ k n, IsReal (argQ m c (ix2 k n))

theorem downOf_real (R : RealArgs m c) (T : Fin 65536) (n : Fin 576) : IsReal (downOf (argX m c) (argD m c) T n) :=
  IsReal.sum _ fun k => (R.x T k).mul (R.d k n)

theorem qRow_real (R : RealArgs m c) (T : Fin 65536) (j : Fin 256) : IsReal (qRow m c T j) :=
  rmsRow_real (fun _ => downOf_real m c R T _) (fun k => R.g k) j

variable (t : Fin cfg0.N) (x : Vec Ideal S512x1024 .f32) (p : Vec Ideal S1x512 .f32) (T : Fin 65536) (r : Fin 512)

section rows

variable (hx : ∀ l, x (ix2 r l) = argX m c (ix2 T l)) (hp : p (ix2 0 r) = argP m c (ix2 0 T))
include hx

theorem down_tile (n : Fin 512) : down x (iblk m c 5 t) (ix2 r ⟨n.val, by omega⟩) = downOf (argX m c) (argD m c) T ⟨n.val, by omega⟩ := by
  rw [down_apply]
  unfold downOf
  simp only [hx, weight5, hostDown_plain]

theorem rowsQ_tile (j : Fin 256) : rowsQ x (iblk m c 5 t) (iblk m c 6 t) (ix2 r j) = qRow m c T j := by
  rw [rowsQ_eq]
  unfold qRow
  simp only [weight6]
  exact congrArg (rmsRow · _ j) (funext fun k => down_tile m c t x T r hx ⟨k.val, by omega⟩)

theorem rowsKv_tile (j : Fin 256) : rowsKv x (iblk m c 5 t) (iblk m c 7 t) (ix2 r j) = kvRow m c T j := by
  rw [rowsKv_eq]
  unfold kvRow
  simp only [weight7]
  exact congrArg (rmsRow · _ j) (funext fun k => down_tile m c t x T r hx ⟨256 + k.val, by omega⟩)

omit hx in
include hp in
theorem tableC_tile (l : Fin 128) : tableC (iblk m c 4 t) p (ix2 r l) = twice (cosOf m c T) 1 l := by
  rw [tableC_apply]
  refine congrArg (twice · 1 l) (funext fun i => ?_)
  rw [freq4, hp]
  rfl

omit hx in
include hp in
theorem tableS_tile (l : Fin 128) : tableS (iblk m c 4 t) p (ix2 r l) = twice (sinOf m c T) 0 l := by
  rw [tableS_apply]
  refine congrArg (twice · 0 l) (funext fun i => ?_)
  rw [freq4, hp]
  rfl

include hp in
theorem rowsKr_tile (R : RealArgs m c) (l : Fin 128) :
    rowsKr x (iblk m c 5 t) (iblk m c 4 t) p (ix2 r l) = ropeRow (fun j => downOf (argX m c) (argD m c) T ⟨512 + j.val, by omega⟩) (cosOf m c T) (sinOf m c T) l := by
  rw [rowsKr_eq, tableC_tile m c t p T r hp, tableS_tile m c t p T r hp, down_apply, down_apply]
  simp only [hx, weight5, hostDown_slot, hostDown_rot]
  unfold downOf
  exact rope_eq (fun k => R.x T k) (fun k j => R.d k ⟨512 + j.val, by omega⟩) _ _ 1 l

end rows

section heads

variable (h : Fin 8) (l : Fin 128)

theorem queries_tile (R : RealArgs m c) (a : Vec Ideal S512x256 .bf16) (co si : Vec Ideal S512x128 .f32) (ha : ∀ j, a (ix2 r j) = qRow m c T j)
    (hc : ∀ l, co (ix2 r l) = twice (cosOf m c T) 1 l) (hs : ∀ l, si (ix2 r l) = twice (sinOf m c T) 0 l) (b : Fin 2) :
    queries a (iblk m c 8 t) co si (ix3 h r ⟨128 * b.val + l.val, by omega⟩)
      = RopeRef.query (argX m c) (argP m c) (argD m c) (argGq m c) (argQ m c) (ix3 h T ⟨128 * b.val + l.val, by omega⟩) := by
  unfold queries
  rw [halves_apply]
  match b with
  | 0 =>
    rw [if_pos rfl, nope_apply, upQ_apply, RopeRef.query_plain]
    simp only [ha, weight8, hostQ_plain]
    rfl
  | 1 =>
    rw [if_neg (by decide), roped_apply, upQ_apply, upQ_apply, hc, hs, RopeRef.query_rope]
    simp only [ha, weight8, hostQ_slot, hostQ_rot]
    exact congrArg (· * scaleW) (rope_eq (fun k => qRow_real m c R T k) (fun k j => R.q k ⟨h.val * 192 + (128 + j.val), by omega⟩) _ _ 1 l)

theorem keys_tile (a : Vec Ideal S512x256 .bf16) (ha : ∀ j, a (ix2 r j) = kvRow m c T j) :
    kvs 0 a (iblk m c 9 t) (ix3 h r l) = RopeRef.key (argX m c) (argD m c) (argGkv m c) (argKv m c) (ix3 h T l) := by
  unfold kvs
  rw [heads_apply, cutKv_apply, upKv_apply, RopeRef.key_apply]
  simp only [ha, weight9]
  refine Finset.sum_congr rfl fun k _ => congrArg (kvRow m c T k * ·) ?_
  refine (hostKv_apply _ k 0 h l).trans (congrArg (fun n => argKv m c (ix2 k n)) (Fin.ext ?_))
  show h.val * 256 + (128 * 0 + l.val) = h.val * 256 + l.val
  omega

theorem values_tile (a : Vec Ideal S512x256 .bf16) (ha : ∀ j, a (ix2 r j) = kvRow m c T j) :
    kvs 1 a (iblk m c 9 t) (ix3 h r l) = RopeRef.value (argX m c) (argD m c) (argGkv m c) (argKv m c) (ix3 h T l) := by
  unfold kvs
  rw [heads_apply, cutKv_apply, upKv_apply, RopeRef.value_apply]
  simp only [ha, weight9]
  refine Finset.sum_congr rfl fun k _ => congrArg (kvRow m c T k * ·) ?_
  refine (hostKv_apply _ k 1 h l).trans (congrArg (fun n => argKv m c (ix2 k n)) (Fin.ext ?_))
  show h.val * 256 + (128 * 1 + l.val) = h.val * 256 + (128 + l.val)
  omega

end heads

end Cert.Rope

end
-- ==== Proof.RopeArray.lean ====
/-
  THE PROJECTIONS' ARRAYS. After each step the kernel's own blocks hold the normalised rows, the rotary keys and the tables of
  the next tile (`cq_state` … `sin_state`); a step writes its own tile's queries, keys, rotary keys and values from them
  (`outQ_state` … `outV_state`), and the four arrays after the run are the reference's results (`query_array` … `value_array`).
  Where `finite_tokens` holds the input, the first projection, the queries' gains and their projection are real (`args_real`).
-/
module

public import proofs.«01_k».proof.Defs
public import proofs.«01_k».proof.Proof.RopeTile
public import Idealize.ShloMosaic.Lib.ReduceAll
public import Idealize.ShloMosaic.Lib.Pipeline.Value

@[expose] public section

set_option maxRecDepth 65536

noncomputable section

namespace Cert.Rope

open Idealize.ShloMosaic Idealize.ShloMosaic.TcCoe Idealize.SL.Sem
open Cert.Kernel4Ideal Cert.Kernel4Ideal.Gen
open Cert.RopeRef (downOf refFreq)
open scoped BigOperators

section precondition

/-- The shape relations of the precondition's operations. -/
theorem preFacts : Cert.Pre_finite_tokens.Facts where
  bcast_S_S65536x1024 := by decide +kernel
  reducesTo_S65536x1024_S_d0_1 := by decide +kernel
  h_S_ := by decide +kernel
  bcast_S_S1024x576 := by decide +kernel
  reducesTo_S1024x576_S_d0_1 := by decide +kernel
  bcast_S_S256 := by decide +kernel
  reducesTo_S256_S_d0 := by decide +kernel
  bcast_S_S256x1536 := by decide +kernel
  reducesTo_S256x1536_S_d0_1 := by decide +kernel

instance : Cert.Pre_finite_tokens.Facts := preFacts

instance : Subsingleton Cert.Pre_finite_tokens.S_.Idx := ⟨fun i j => funext fun a => a.elim0⟩

/-- The test one number passes. -/
def below (x : EReal) : BitVec 1 := Ideal.cmp .olt (max x (-x)) (Ideal.ofBits .f32 0x7F800000#32)

theorem below_real {x : EReal} (h : below x = 1#1) : IsReal x := by
  have hb : Ideal.ofBits .f32 0x7F800000#32 = ⊤ := by simp [Ideal.ofBits, Ideal.ieee]
  unfold below at h
  rw [hb] at h
  have top : Ideal.cmp .olt ⊤ ⊤ = 0#1 := by
    show BitVec.ofBool (decide _) = _
    rw [decide_eq_false (lt_irrefl _)]
    rfl
  induction x with
  | bot =>
    rw [EReal.neg_bot, max_eq_right bot_le, top] at h
    exact absurd h (by decide)
  | top =>
    rw [EReal.neg_top, max_eq_left bot_le, top] at h
    exact absurd h (by decide)
  | coe a => exact ⟨a, rfl⟩

theorem both_one {a b : BitVec 1} (h : a &&& b = 1#1) : a = 1#1 ∧ b = 1#1 := by
  revert a b
  decide

/-- An array whose test is all ones is real. -/
theorem all_real {s : Shape} {axes : List (Fin s.rank)} (x : FVec Ideal s .f32) (hb : Cert.Pre_finite_tokens.S_.BroadcastsInDim s (![] : Fin 0 → Fin s.rank))
    (hr : s.ReducesTo axes Cert.Pre_finite_tokens.S_) (hs : 0 < Cert.Pre_finite_tokens.S_.numel) (j : Cert.Pre_finite_tokens.S_.Idx)
    (h : Host.reduce IntOp.andi (cmpf .olt (Host.absf x) (broadcastInDim s ![] hb (constant Cert.Pre_finite_tokens.S_ .f32 0x7F800000#32))) (constantI Cert.Pre_finite_tokens.S_ 1 1#1) hr hs j = 1#1)
    (i : s.Idx) : IsReal (x i) :=
  below_real (Host.reduce_andi_all _ _ hr hs j h i)

variable (m : (ℓ : Loc nD τ sig) → Buf (Elt Ideal) ℓ) (c : Dev nD)

theorem args_real (hp : Cert.Pre_finite_tokens.fn (argX m c) (argP m c) (argD m c) (argGq m c) (argGkv m c) (argQ m c) (argKv m c) = fun _ => 1#1) : RealArgs m c := by
  have e := congrFun hp (fun a => a.elim0)
  unfold Cert.Pre_finite_tokens.fn Cert.Pre_finite_tokens.fn_part1 at e
  dsimp only at e
  obtain ⟨e, hq⟩ := both_one e
  obtain ⟨e, hg⟩ := both_one e
  obtain ⟨hx, hd⟩ := both_one e
  exact ⟨fun T k => all_real _ _ _ _ _ hx _, fun k n => all_real _ _ _ _ _ hd _, fun k => all_real _ _ _ _ _ hg _, fun k n => all_real _ _ _ _ _ hq _⟩

end precondition

variable (m : (ℓ : Loc nD τ sig) → Buf (Elt Ideal) ℓ) (c : Dev nD)

section steps

variable (t : Fin cfg0.N)

theorem cq_state (r : Fin 512) (j : Fin 256) : (outsAt0 m c t.val t.isLt).2.2.2.2.1 (ix2 r j) = qRow m c (rowAt (ahead t.val) (ahead_lt _) r) j := by
  by_cases h : t.val % 128 = 0
  · rw [cq_A m c t h, rowsQ_tile m c t _ _ r (next_input m c t r)]
  · rw [cq_B m c t h, rowsQ_tile m c t _ _ r (next_input m c t r)]

theorem ckv_state (r : Fin 512) (j : Fin 256) : (outsAt0 m c t.val t.isLt).2.2.2.2.2.1 (ix2 r j) = kvRow m c (rowAt (ahead t.val) (ahead_lt _) r) j := by
  by_cases h : t.val % 128 = 0
  · rw [ckv_A m c t h, rowsKv_tile m c t _ _ r (next_input m c t r)]
  · rw [ckv_B m c t h, rowsKv_tile m c t _ _ r (next_input m c t r)]

theorem cos_state (r : Fin 512) (l : Fin 128) : (outsAt0 m c t.val t.isLt).2.2.2.2.2.2.2.1 (ix2 r l) = twice (cosOf m c (rowAt (ahead t.val) (ahead_lt _) r)) 1 l := by
  by_cases h : t.val % 128 = 0
  · rw [cos_A m c t h, tableC_tile m c t _ _ r (next_pos m c t r)]
  · rw [cos_B m c t h, tableC_tile m c t _ _ r (next_pos m c t r)]

theorem sin_state (r : Fin 512) (l : Fin 128) : (outsAt0 m c t.val t.isLt).2.2.2.2.2.2.2.2 (ix2 r l) = twice (sinOf m c (rowAt (ahead t.val) (ahead_lt _) r)) 0 l := by
  by_cases h : t.val % 128 = 0
  · rw [sin_A m c t h, tableS_tile m c t _ _ r (next_pos m c t r)]
  · rw [sin_B m c t h, tableS_tile m c t _ _ r (next_pos m c t r)]

/-- A token's rotated key. -/
def krRow (T : Fin 65536) (l : Fin 128) : EReal :=
  ropeRow (fun j => downOf (argX m c) (argD m c) T ⟨512 + j.val, by omega⟩) (cosOf m c T) (sinOf m c T) l

theorem kr_state (R : RealArgs m c) (r : Fin 512) (l : Fin 128) : (outsAt0 m c t.val t.isLt).2.2.2.2.2.2.1 (ix2 r l) = krRow m c (rowAt (ahead t.val) (ahead_lt _) r) l := by
  by_cases h : t.val % 128 = 0
  · rw [kr_A m c t h, rowsKr_tile m c t _ _ _ r (next_input m c t r) (next_pos m c t r) R]
    rfl
  · rw [kr_B m c t h, rowsKr_tile m c t _ _ _ r (next_input m c t r) (next_pos m c t r) R]
    rfl

theorem tile_lt : t.val < 128 := t.isLt

/-- The rows of the first step's tile, and those a later step finds prepared. -/
theorem row_first (h : t.val % 128 = 0) (r : Fin 512) : rowAt t.val (tile_lt t) r = rowAt 0 (by decide) r :=
  Fin.ext (by have := tile_lt t; unfold rowAt; show 512 * t.val + r.val = 512 * 0 + r.val; omega)

theorem row_later (h : ¬t.val % 128 = 0) (r : Fin 512) : rowAt t.val (tile_lt t) r = rowAt (ahead (t.val - 1)) (ahead_lt _) r :=
  Fin.ext (by have := tile_lt t; unfold rowAt ahead; show 512 * t.val + r.val = 512 * min (t.val - 1 + 1) 127 + r.val; omega)

variable (h : Fin 8) (r : Fin 512) (l : Fin 128)

theorem outQ_state (R : RealArgs m c) (b : Fin 2) : (outsAt0 m c t.val t.isLt).1 (ix3 h r ⟨128 * b.val + l.val, by omega⟩)
    = RopeRef.query (argX m c) (argP m c) (argD m c) (argGq m c) (argQ m c) (ix3 h (rowAt t.val (tile_lt t) r) ⟨128 * b.val + l.val, by omega⟩) := by
  by_cases e : t.val % 128 = 0
  · rw [outQ_A m c t e, row_first t e]
    exact queries_tile m c t _ r h l R _ _ _ (rowsQ_tile m c t _ _ r (first_input m c t r)) (tableC_tile m c t _ _ r (first_pos m c t r))
      (tableS_tile m c t _ _ r (first_pos m c t r)) b
  · rw [outQ_B m c t e, row_later t e]
    exact queries_tile m c t _ r h l R _ _ _ (cq_state m c ⟨t.val - 1, by omega⟩ r) (cos_state m c ⟨t.val - 1, by omega⟩ r)
      (sin_state m c ⟨t.val - 1, by omega⟩ r) b

theorem outK_state : (outsAt0 m c t.val t.isLt).2.1 (ix3 h r l)
    = RopeRef.key (argX m c) (argD m c) (argGkv m c) (argKv m c) (ix3 h (rowAt t.val (tile_lt t) r) l) := by
  by_cases e : t.val % 128 = 0
  · rw [outK_A m c t e, row_first t e]
    exact keys_tile m c t _ r h l _ (rowsKv_tile m c t _ _ r (first_input m c t r))
  · rw [outK_B m c t e, row_later t e]
    exact keys_tile m c t _ r h l _ (ckv_state m c ⟨t.val - 1, by omega⟩ r)

theorem outV_state : (outsAt0 m c t.val t.isLt).2.2.2.1 (ix3 h r l)
    = RopeRef.value (argX m c) (argD m c) (argGkv m c) (argKv m c) (ix3 h (rowAt t.val (tile_lt t) r) l) := by
  by_cases e : t.val % 128 = 0
  · rw [outV_A m c t e, row_first t e]
    exact values_tile m c t _ r h l _ (rowsKv_tile m c t _ _ r (first_input m c t r))
  · rw [outV_B m c t e, row_later t e]
    exact values_tile m c t _ r h l _ (ckv_state m c ⟨t.val - 1, by omega⟩ r)

theorem outKr_state (R : RealArgs m c) : (outsAt0 m c t.val t.isLt).2.2.1 (ix2 r l)
    = RopeRef.rope (argX m c) (argP m c) (argD m c) (ix2 (rowAt t.val (tile_lt t) r) l) := by
  refine Eq.trans ?_ (RopeRef.rope_apply _ _ _ _ _).symm
  by_cases e : t.val % 128 = 0
  · rw [outKr_A m c t e, row_first t e]
    exact rowsKr_tile m c t _ _ _ r (first_input m c t r) (first_pos m c t r) R l
  · rw [outKr_B m c t e, row_later t e]
    exact kr_state m c ⟨t.val - 1, by omega⟩ R r l

end steps

/-- The indices of the blocks. -/
theorem index_heads (y : S8x512x128.Idx) : ∃ (h : Fin 8) (r : Fin 512) (d : Fin 128), y = ix3 h r d :=
  ⟨y 0, y 1, y 2, by funext a; fin_cases a <;> rfl⟩

theorem index_rows (y : S512x128.Idx) : ∃ (r : Fin 512) (d : Fin 128), y = ix2 r d :=
  ⟨y 0, y 1, by funext a; fin_cases a <;> rfl⟩

theorem index_halves (y : S8x512x256.Idx) : ∃ (h : Fin 8) (r : Fin 512) (b : Fin 2) (d : Fin 128), y = ix3 h r ⟨128 * b.val + d.val, by omega⟩ := by
  have hy : (y 2).val < 256 := (y 2).isLt
  refine ⟨y 0, y 1, ⟨(y 2).val / 128, by omega⟩, ⟨(y 2).val % 128, by omega⟩, ?_⟩
  funext a
  fin_cases a
  · rfl
  · rfl
  · exact Fin.ext (show (y 2).val = 128 * ((y 2).val / 128) + (y 2).val % 128 by omega)

theorem query_array (R : RealArgs m c) : (dats m 0 c).arrAt 10 cfg0.N = RopeRef.query (argX m c) (argP m c) (argD m c) (argGq m c) (argQ m c) := by
  refine (dats m 0 c).arrAt_eq_of_covers 10 _ (by decide +kernel) fun t hf y => ?_
  have e := (tilePlaces t).2.2.2.2.1
  blk_simp
  rw [after0_10]
  obtain ⟨h, r, b, d, hy⟩ := index_halves y
  subst hy
  refine (outQ_state m c t h r d R b).trans (congrArg (RopeRef.query _ _ _ _ _) ?_)
  unfold rowAt
  blk_ext [e]

theorem key_array : (dats m 0 c).arrAt 11 cfg0.N = RopeRef.key (argX m c) (argD m c) (argGkv m c) (argKv m c) := by
  refine (dats m 0 c).arrAt_eq_of_covers 11 _ (by decide +kernel) fun t hf y => ?_
  have e := (tilePlaces t).2.2.2.2.2.1
  blk_simp
  rw [after0_11]
  obtain ⟨h, r, d, hy⟩ := index_heads y
  subst hy
  refine (outK_state m c t h r d).trans (congrArg (RopeRef.key _ _ _ _) ?_)
  unfold rowAt
  blk_ext [e]

theorem rope_array (R : RealArgs m c) : (dats m 0 c).arrAt 12 cfg0.N = RopeRef.rope (argX m c) (argP m c) (argD m c) := by
  refine (dats m 0 c).arrAt_eq_of_covers 12 _ (by decide +kernel) fun t hf y => ?_
  have e := (tilePlaces t).2.2.2.2.2.2.1
  blk_simp
  rw [after0_12]
  obtain ⟨r, d, hy⟩ := index_rows y
  subst hy
  refine (outKr_state m c t r d R).trans (congrArg (RopeRef.rope _ _ _) ?_)
  unfold rowAt
  blk_ext [e]

theorem value_array : (dats m 0 c).arrAt 13 cfg0.N = RopeRef.value (argX m c) (argD m c) (argGkv m c) (argKv m c) := by
  refine (dats m 0 c).arrAt_eq_of_covers 13 _ (by decide +kernel) fun t hf y => ?_
  have e := (tilePlaces t).2.2.2.2.2.2.2
  blk_simp
  rw [after0_13]
  obtain ⟨h, r, d, hy⟩ := index_heads y
  subst hy
  refine (outV_state m c t h r d).trans (congrArg (RopeRef.value _ _ _ _) ?_)
  unfold rowAt
  blk_ext [e]

/-- The run, its four arrays named and its arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v44_0) = (dats m 0 c).arrAt 10 cfg0.N
      ∧ r.2.mem ((c.tc : Thread nD τ).loc main_v44_1) = (dats m 0 c).arrAt 11 cfg0.N
      ∧ r.2.mem ((c.tc : Thread nD τ).loc main_v44_2) = (dats m 0 c).arrAt 12 cfg0.N
      ∧ r.2.mem ((c.tc : Thread nD τ).loc main_v44_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1 10, (h c).1 11, (h c).1 12, (h c).1 13,
    ((h c).1 2).trans (((dats m 0 c).arrAt_in 2 rfl _).trans ((A_eq m c 2).trans (V_main_arg0 m c))),
    ((h c).1 3).trans (((dats m 0 c).arrAt_in 3 rfl _).trans ((A_eq m c 3).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.Rope

end
-- ==== Proof.lean ====
/-
  THE CERTIFICATE: `Cert.Proof.claim : Cert.Claim` (proofs.«01_k».proof.Defs). The first kernel is the attention's call, with
  the causal softmax written plainly as its reference; the second is the layer's tail, from the mixer's output to the layer's
  result, with the same layer written plainly; the third makes the recurrent mixer's gates from the layer's input; the fourth
  makes the attention's queries, keys, rotary keys and values from the layer's input.

  * Each program's frame: it ends, its arguments are unchanged and its counters are zero. The kernel's are generated
    (Proof/Gen); the reference is host operations only, declares no semaphore, and its frame is read off its run.
  * `preserves`: the mask constant is named −∞.
  * `algebraic`: on real queries and keys both programs end with the same array (Proof/Array.lean `result_eq`; the
    reference's entries are Proof/Reference.lean `res_apply`). For the tail, on any arguments, both arrays are the same row
    functions of each token's rows (Proof/TailState.lean `tail_eq`, Proof/TailReference.lean `refOut_apply`). For the gates,
    with real logits of the lower bounds, the five arrays are equal (Proof/GateArray.lean `query_array` … `gate_array`). For
    the projections, on real inputs and weights, the four arrays are equal (Proof/RopeArray.lean `query_array` … `value_array`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Array
public import proofs.«01_k».proof.Proof.TailState
public import proofs.«01_k».proof.Proof.GateArray
public import proofs.«01_k».proof.Proof.Gen.Kernel4
public import proofs.«01_k».proof.Proof.Gen.Kernel4.Skeleton
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Frame
public import proofs.«01_k».proof.Proof.Gen.Reference4Ideal
public import proofs.«01_k».proof.Proof.Gen.Reference4Ideal.Run
public import proofs.«01_k».proof.Proof.RopeArray
public import Idealize.ShloMosaic.Adequacy
public import Idealize.ShloMosaic.Init

@[expose] public section

noncomputable section

namespace Cert.Proof

open Idealize.ShloMosaic Idealize.SL.Sem

/-- The reference's frame: it declares no semaphore, and its run leaves its arguments. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with equal results, from real queries and keys. -/
theorem equal_results : Cert.algebraic_KernelIdeal_ReferenceIdeal_pre_finite_queries_and_keys (hKernelIdeal := Cert.KernelIdeal.Gen.facts)
    (hReferenceIdeal := Cert.ReferenceIdeal.Gen.facts) (hPre_finite_queries_and_keys := Cert.Attn.preFacts) := by
  intro m ρ m' ρ' hp hag
  refine ⟨fun c => Cert.ReferenceIdeal.Value.res_out0 m' c, ?_, Cert.ReferenceIdeal.Value.run m' ρ'⟩
  refine (θ_run Cert.KernelIdeal.defs _ _).mono (fun r h c => ⟨(h c).1.trans ?_, (h c).2⟩) (Cert.KernelIdeal.Value.run_blocks m ρ)
  obtain ⟨a0, a1, a2, a3⟩ := hag c
  exact Cert.Attn.result_eq m c _ _ _ _ rfl rfl rfl rfl (Cert.Attn.queries_real (hp c)) (Cert.Attn.keys_real (hp c)) (Cert.Attn.rotary_real (hp c)) _
    (Cert.AttnRef.res_apply m' c _ _ _ _ a0 a1 a2 a3)

/-- The tail's reference's frame. -/
theorem frame_ref2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The tail kernel and its reference end with equal results. -/
theorem equal_results2 : Cert.algebraic_Kernel2Ideal_Reference2Ideal (hKernel2Ideal := Cert.Kernel2Ideal.Gen.facts) (hReference2Ideal := Cert.Reference2Ideal.Gen.facts) := by
  intro m ρ m' ρ' _ hag
  refine ⟨fun c => Cert.TailRef.result m' c, ?_, (θ_run Cert.Reference2Ideal.defs _ _).mono (fun r h c => ⟨(h c).1.trans rfl, (h c).2⟩) (Cert.Reference2Ideal.Value.run m' ρ')⟩
  refine (θ_run Cert.Kernel2Ideal.defs _ _).mono (fun r h c => ⟨(h c).1.trans ?_, (h c).2⟩) (Cert.Kernel2Ideal.Value.run_blocks m ρ)
  obtain ⟨a0, a1, a2, a3, a4, a5, a6, a7, a8, a9, a10, a11⟩ := hag c
  refine Cert.Tail.tail_eq m c _ fun T j => ?_
  unfold Cert.TailRef.result
  beta_reduce
  rw [a0, a1, a2, a3, a4, a5, a6, a7, a8, a9, a10, a11]
  exact Cert.TailRef.refOut_apply _ _ _ _ _ _ _ _ _ _ _ _ T j

/-- The gates' reference's frame. -/
theorem frame_ref3 : Cert.quiescent_Reference3Ideal (hReference3Ideal := Cert.Reference3Ideal.Gen.facts) := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The gate kernel and its reference end with the same five arrays, from real logits. -/
theorem equal_results3 : Cert.algebraic_Kernel3Ideal_Reference3Ideal_pre_finite_logits (hKernel3Ideal := Cert.Kernel3Ideal.Gen.facts)
    (hReference3Ideal := Cert.Reference3Ideal.Gen.facts) (hPre_finite_logits := Cert.Gate.preFacts) := by
  intro m ρ m' ρ' hp hag
  have hz := fun c => Cert.Gate.logits_real (hp c)
  refine ⟨fun c => Cert.GateRef.query (Cert.Gate.argX m c) (Cert.Gate.argW m c), fun c => Cert.GateRef.key (Cert.Gate.argX m c) (Cert.Gate.argW m c) (Cert.Gate.argZ m c),
    fun c => Cert.GateRef.logs (Cert.Gate.argX m c) (Cert.Gate.argW m c) (Cert.Gate.argZ m c), fun c => Cert.GateRef.value (Cert.Gate.argX m c) (Cert.Gate.argW m c),
    fun c => Cert.GateRef.gate (Cert.Gate.argX m c) (Cert.Gate.argW m c), ?_, ?_⟩
  · refine (θ_run Cert.Kernel3Ideal.defs _ _).mono (fun r h c => ?_) (Cert.Kernel3Ideal.Value.run_blocks m ρ)
    obtain ⟨h0, h1, h2, h3, h4, args⟩ := h c
    exact ⟨h0.trans (Cert.Gate.query_array m c), h1.trans (Cert.Gate.key_array m c (hz c)), h2.trans (Cert.Gate.logs_array m c (hz c)),
      h3.trans (Cert.Gate.value_array m c), h4.trans (Cert.Gate.gate_array m c), args⟩
  · refine (θ_run Cert.Reference3Ideal.defs _ _).mono (fun r h c => ?_) (Cert.GateRef.run_results m' ρ')
    obtain ⟨h0, h1, h2, h3, h4, args⟩ := h c
    obtain ⟨a0, a1, a2⟩ := hag c
    refine ⟨h0.trans ?_, h1.trans ?_, h2.trans ?_, h3.trans ?_, h4.trans ?_, args⟩
    all_goals
      beta_reduce
      simp only [a0, a1, a2]

/-- The projections' reference's frame. -/
theorem frame_ref4 : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.RopeRef.run_results m ρ)

/-- The projections' kernel and its reference end with the same four arrays, from real inputs and weights. -/
theorem equal_results4 : Cert.algebraic_Kernel4Ideal_Reference4Ideal_pre_finite_tokens (hKernel4Ideal := Cert.Kernel4Ideal.Gen.facts)
    (hReference4Ideal := Cert.Reference4Ideal.Gen.facts) (hPre_finite_tokens := Cert.Rope.preFacts) := by
  intro m ρ m' ρ' hp hag
  have R := fun c => Cert.Rope.args_real m c (hp c)
  refine ⟨fun c => Cert.RopeRef.query (Cert.Rope.argX m c) (Cert.Rope.argP m c) (Cert.Rope.argD m c) (Cert.Rope.argGq m c) (Cert.Rope.argQ m c),
    fun c => Cert.RopeRef.key (Cert.Rope.argX m c) (Cert.Rope.argD m c) (Cert.Rope.argGkv m c) (Cert.Rope.argKv m c),
    fun c => Cert.RopeRef.rope (Cert.Rope.argX m c) (Cert.Rope.argP m c) (Cert.Rope.argD m c),
    fun c => Cert.RopeRef.value (Cert.Rope.argX m c) (Cert.Rope.argD m c) (Cert.Rope.argGkv m c) (Cert.Rope.argKv m c), ?_, ?_⟩
  · refine (θ_run Cert.Kernel4Ideal.defs _ _).mono (fun r h c => ?_) (Cert.Rope.run_blocks m ρ)
    obtain ⟨h0, h1, h2, h3, args⟩ := h c
    exact ⟨h0.trans (Cert.Rope.query_array m c (R c)), h1.trans (Cert.Rope.key_array m c), h2.trans (Cert.Rope.rope_array m c (R c)),
      h3.trans (Cert.Rope.value_array m c), args⟩
  · refine (θ_run Cert.Reference4Ideal.defs _ _).mono (fun r h c => ?_) (Cert.RopeRef.run_results m' ρ')
    obtain ⟨h0, h1, h2, h3, args⟩ := h c
    obtain ⟨a0, a1, a2, a3, a4, a5, a6⟩ := hag c
    refine ⟨h0.trans ?_, h1.trans ?_, h2.trans ?_, h3.trans ?_, args⟩
    all_goals
      beta_reduce
      simp only [a0, a1, a2, a3, a4, a5, a6]

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Attn.preFacts, Cert.Gate.preFacts, Cert.Rope.preFacts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    fun m ρ _ => Cert.Kernel3Ideal.Gen.frame m ρ,
    frame_ref3,
    fun m ρ _ => frame_ref3 m ρ trivial,
    fun m ρ _ => Cert.Kernel4.Gen.frame m ρ,
    fun m ρ _ => Cert.Kernel4Ideal.Gen.frame m ρ,
    fun m ρ _ => Cert.Kernel4Ideal.Gen.frame m ρ,
    frame_ref4,
    fun m ρ _ => frame_ref4 m ρ trivial,
    IdealRules.named_const.statement _ _ _ _ _ rfl,
    equal_results,
    trivial,
    equal_results2,
    trivial,
    equal_results3,
    trivial,
    equal_results4⟩

end Cert.Proof

end
